-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_codes_counts [hPre_scales_codes_counts : Cert.Pre_scales_codes_counts.Facts] (m : (ℓ : Loc Cert.KernelIdeal.nD Cert.KernelIdeal.τ Cert.KernelIdeal.sig) → Buf (Elt Ideal) ℓ) : Prop :=
  ∀ c : Dev Cert.KernelIdeal.nD,
    (Cert.Pre_scales_codes_counts.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_scales_codes_counts.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_scales_codes_counts.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_codes_counts [hPre_scales_codes_counts : Cert.Pre_scales_codes_counts.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_codes_counts.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_scales_codes_counts.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_scales_codes_counts.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_scales_codes_counts [hKernelIdeal : Cert.KernelIdeal.Facts] [hPre_scales_codes_counts : Cert.Pre_scales_codes_counts.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_codes_counts m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_scales_codes_counts [hReferenceIdeal : Cert.ReferenceIdeal.Facts] [hPre_scales_codes_counts : Cert.Pre_scales_codes_counts.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_codes_counts m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "inv_scale" .f32 0x413504F3#32 ((134217728 / 11863283 : ℝ) : EReal)
  ∧ IdealRules.named_const.Statement Cert.KernelIdeal.κ "masked" .f32 0xF1800000#32 ⊥
  ∧ IdealRules.named_const.Statement Cert.KernelIdeal.κ "log2e" .f32 0x3FB8AA3B#32 (((Real.log 2)⁻¹ : ℝ) : EReal)

def algebraic_KernelIdeal_ReferenceIdeal_pre_scales_codes_counts [hKernelIdeal : Cert.KernelIdeal.Facts] [hReferenceIdeal : Cert.ReferenceIdeal.Facts] [hPre_scales_codes_counts : Cert.Pre_scales_codes_counts.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_codes_counts m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v176) = v0 c
          ∧ r.2.mem ((c.tc : Thread Cert.ReferenceIdeal.nD Cert.ReferenceIdeal.τ).loc Cert.ReferenceIdeal.main_v171) = v1 c
          ∧ r.2.mem ((c.tc : Thread Cert.ReferenceIdeal.nD Cert.ReferenceIdeal.τ).loc Cert.ReferenceIdeal.main_v174) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_scales_codes_counts : Cert.Pre_scales_codes_counts.Facts),
    quiescent_Kernel (hKernel := hKernel)
    ∧ quiescent_KernelIdeal (hKernelIdeal := hKernelIdeal)
    ∧ quiescent_KernelIdeal_pre_scales_codes_counts (hKernelIdeal := hKernelIdeal) (hPre_scales_codes_counts := hPre_scales_codes_counts)
    ∧ quiescent_ReferenceIdeal (hReferenceIdeal := hReferenceIdeal)
    ∧ quiescent_ReferenceIdeal_pre_scales_codes_counts (hReferenceIdeal := hReferenceIdeal) (hPre_scales_codes_counts := hPre_scales_codes_counts)
    ∧ preserves_Kernel_KernelIdeal
    ∧ algebraic_KernelIdeal_ReferenceIdeal_pre_scales_codes_counts (hKernelIdeal := hKernelIdeal) (hReferenceIdeal := hReferenceIdeal) (hPre_scales_codes_counts := hPre_scales_codes_counts)
-- ==== Pre_scales_codes_counts.lean ====
abbrev S3x512x20x128 : Shape := ⟨4, ![3, 512, 20, 128]⟩
abbrev S3x2x20 : Shape := ⟨3, ![3, 2, 20]⟩
abbrev S3x512x20 : Shape := ⟨3, ![3, 512, 20]⟩
abbrev S20x768x128 : Shape := ⟨3, ![20, 768, 128]⟩
abbrev S3x20x768x128 : Shape := ⟨4, ![3, 20, 768, 128]⟩
abbrev S3x20x768 : Shape := ⟨3, ![3, 20, 768]⟩
abbrev S_ : Shape := ⟨0, ![]⟩

class Facts : Prop where
  bcast_S_S3x2x20 : S_.BroadcastsInDim S3x2x20 (![] : Fin 0 → Fin S3x2x20.rank)
  bcast_S_S3x512x20 : S_.BroadcastsInDim S3x512x20 (![] : Fin 0 → Fin S3x512x20.rank)
  bcast_S_S3x20x768 : S_.BroadcastsInDim S3x20x768 (![] : Fin 0 → Fin S3x20x768.rank)

variable [Facts]

def fn_part1 {F : FTy → Type} [FloatOps F] (main_arg7 : FVec F S3x20x768 .f32) (main_v10 : IVec S3x2x20 1) (main_v15 : IVec S3x512x20 1) (main_v16 : FVec F S3x20x768 .f32) : IVec S3x2x20 1 × IVec S3x512x20 1 × IVec S3x20x768 1 :=
  let main_v17 : IVec S3x20x768 1 := cmpf .olt main_arg7 main_v16
  (main_v10, main_v15, main_v17)

def fn {F : FTy → Type} [FloatOps F] (main_arg0 : FVec F S3x512x20x128 .fp8e4m3) (main_arg1 : FVec F S3x2x20 .f32) (main_arg2 : IVec S3x512x20 32) (main_arg3 : FVec F S20x768x128 .bf16) (main_arg4 : FVec F S3x512x20x128 .fp8e4m3) (main_arg5 : FVec F S3x2x20 .f32) (main_arg6 : FVec F S3x20x768x128 .f32) (main_arg7 : FVec F S3x20x768 .f32) : IVec S3x2x20 1 × IVec S3x512x20 1 × IVec S3x20x768 1 :=
  let main_cst : FVec F S_ .f32 := constant S_ .f32 0x00000000#32
  let main_v0 : FVec F S3x2x20 .f32 := broadcastInDim S3x2x20 ![] bcast_S_S3x2x20 main_cst
  let main_v1 : IVec S3x2x20 1 := cmpf .ogt main_arg1 main_v0
  let main_cst_0 : FVec F S_ .f32 := constant S_ .f32 0x7F800000#32
  let main_v2 : FVec F S3x2x20 .f32 := broadcastInDim S3x2x20 ![] bcast_S_S3x2x20 main_cst_0
  let main_v3 : IVec S3x2x20 1 := cmpf .olt main_arg1 main_v2
  let main_v4 : IVec S3x2x20 1 := andi main_v1 main_v3
  let main_cst_1 : FVec F S_ .f32 := constant S_ .f32 0x00000000#32
  let main_v5 : FVec F S3x2x20 .f32 := broadcastInDim S3x2x20 ![] bcast_S_S3x2x20 main_cst_1
  let main_v6 : IVec S3x2x20 1 := cmpf .oge main_arg5 main_v5
  let main_v7 : IVec S3x2x20 1 := andi main_v4 main_v6
  let main_cst_2 : FVec F S_ .f32 := constant S_ .f32 0x7F800000#32
  let main_v8 : FVec F S3x2x20 .f32 := broadcastInDim S3x2x20 ![] bcast_S_S3x2x20 main_cst_2
  let main_v9 : IVec S3x2x20 1 := cmpf .olt main_arg5 main_v8
  let main_v10 : IVec S3x2x20 1 := andi main_v7 main_v9
  let main_c : IVec S_ 32 := constantI S_ 32 0#32
  let main_v11 : IVec S3x512x20 32 := broadcastInDim S3x512x20 ![] bcast_S_S3x512x20 main_c
  let main_v12 : IVec S3x512x20 1 := cmpi .sge main_arg2 main_v11
  let main_c_3 : IVec S_ 32 := constantI S_ 32 768#32
  let main_v13 : IVec S3x512x20 32 := broadcastInDim S3x512x20 ![] bcast_S_S3x512x20 main_c_3
  let main_v14 : IVec S3x512x20 1 := cmpi .slt main_arg2 main_v13
  let main_v15 : IVec S3x512x20 1 := andi main_v12 main_v14
  let main_cst_4 : FVec F S_ .f32 := constant S_ .f32 0x7F800000#32
  let main_v16 : FVec F S3x20x768 .f32 := broadcastInDim S3x20x768 ![] bcast_S_S3x20x768 main_cst_4
  fn_part1 (F := F) main_arg7 main_v10 main_v15 main_v16
-- ==== Kernel.lean ====
abbrev S3x512x20x128 : Shape := ⟨4, ![3, 512, 20, 128]⟩
abbrev S3x2x20 : Shape := ⟨3, ![3, 2, 20]⟩
abbrev S3x512x20 : Shape := ⟨3, ![3, 512, 20]⟩
abbrev S20x768x128 : Shape := ⟨3, ![20, 768, 128]⟩
abbrev S3x20x768x128 : Shape := ⟨4, ![3, 20, 768, 128]⟩
abbrev S3x20x768 : Shape := ⟨3, ![3, 20, 768]⟩
abbrev S3x20x512x128 : Shape := ⟨4, ![3, 20, 512, 128]⟩
abbrev S3x20x512 : Shape := ⟨3, ![3, 20, 512]⟩
abbrev S3x512x2560 : Shape := ⟨3, ![3, 512, 2560]⟩
abbrev S1x4x512x128 : Shape := ⟨4, ![1, 4, 512, 128]⟩
abbrev S1x20x512 : Shape := ⟨3, ![1, 20, 512]⟩
abbrev S4x768x128 : Shape := ⟨3, ![4, 768, 128]⟩
abbrev S1x4x768x128 : Shape := ⟨4, ![1, 4, 768, 128]⟩
abbrev S1x512x512 : Shape := ⟨3, ![1, 512, 512]⟩
abbrev S1280x256 : Shape := ⟨2, ![1280, 256]⟩
abbrev S512x256 : Shape := ⟨2, ![512, 256]⟩
abbrev S1280x512 : Shape := ⟨2, ![1280, 512]⟩
abbrev S128x1280 : Shape := ⟨2, ![128, 1280]⟩
abbrev S1x1x1 : Shape := ⟨3, ![1, 1, 1]⟩
abbrev S1x1x512 : Shape := ⟨3, ![1, 1, 512]⟩
abbrev S1x512 : Shape := ⟨2, ![1, 512]⟩
abbrev S128x512 : Shape := ⟨2, ![128, 512]⟩
abbrev S512x128 : Shape := ⟨2, ![512, 128]⟩
abbrev S512x768 : Shape := ⟨2, ![512, 768]⟩
abbrev S1x768x128 : Shape := ⟨3, ![1, 768, 128]⟩
abbrev S768x128 : Shape := ⟨2, ![768, 128]⟩
abbrev S1x1x768 : Shape := ⟨3, ![1, 1, 768]⟩
abbrev S1x768 : Shape := ⟨2, ![1, 768]⟩
abbrev S16x768 : Shape := ⟨2, ![16, 768]⟩
abbrev S768x16 : Shape := ⟨2, ![768, 16]⟩
abbrev S1x1x512x128 : Shape := ⟨4, ![1, 1, 512, 128]⟩
abbrev S16x128 : Shape := ⟨2, ![16, 128]⟩
abbrev S1x128 : Shape := ⟨2, ![1, 128]⟩
abbrev S384x128 : Shape := ⟨2, ![384, 128]⟩
abbrev S128x128 : Shape := ⟨2, ![128, 128]⟩
abbrev S1024x256 : Shape := ⟨2, ![1024, 256]⟩
abbrev S256x256 : Shape := ⟨2, ![256, 256]⟩
abbrev S128 : Shape := ⟨1, ![128]⟩
abbrev S896x128 : Shape := ⟨2, ![896, 128]⟩
abbrev S1024x128 : Shape := ⟨2, ![1024, 128]⟩
abbrev S1152x128 : Shape := ⟨2, ![1152, 128]⟩
abbrev S1x1x768x128 : Shape := ⟨4, ![1, 1, 768, 128]⟩
abbrev S128x768 : Shape := ⟨2, ![128, 768]⟩
abbrev S1x1x384x128 : Shape := ⟨4, ![1, 1, 384, 128]⟩
abbrev S1x1x128x128 : Shape := ⟨4, ![1, 1, 128, 128]⟩
abbrev S128x1024 : Shape := ⟨2, ![128, 1024]⟩
abbrev S128x256 : Shape := ⟨2, ![128, 256]⟩
abbrev S1x128x128 : Shape := ⟨3, ![1, 128, 128]⟩
abbrev S16x512 : Shape := ⟨2, ![16, 512]⟩
abbrev S144x512 : Shape := ⟨2, ![144, 512]⟩
abbrev S144x768 : Shape := ⟨2, ![144, 768]⟩

abbrev nBuf : Space → Nat
  | .hbm => 14
  | .vmem => 21
  | .smem => 2
  | _ => 0

abbrev bufTy : (tb : Table) → Fin (tcTables nBuf tb) → BufTy
  | .hbm, ⟨0, _⟩ => ⟨S3x512x20x128, .fp8e4m3⟩
  | .hbm, ⟨1, _⟩ => ⟨S3x2x20, .f32⟩
  | .hbm, ⟨2, _⟩ => ⟨S3x512x20, .i32⟩
  | .hbm, ⟨3, _⟩ => ⟨S20x768x128, .bf16⟩
  | .hbm, ⟨4, _⟩ => ⟨S3x512x20x128, .fp8e4m3⟩
  | .hbm, ⟨5, _⟩ => ⟨S3x2x20, .f32⟩
  | .hbm, ⟨6, _⟩ => ⟨S3x20x768x128, .f32⟩
  | .hbm, ⟨7, _⟩ => ⟨S3x20x768, .f32⟩
  | .hbm, ⟨8, _⟩ => ⟨S3x20x512x128, .fp8e4m3⟩
  | .hbm, ⟨9, _⟩ => ⟨S3x20x512x128, .fp8e4m3⟩
  | .hbm, ⟨10, _⟩ => ⟨S3x20x512, .i32⟩
  | .hbm, ⟨11, _⟩ => ⟨S3x512x2560, .bf16⟩
  | .hbm, ⟨12, _⟩ => ⟨S3x20x768x128, .f32⟩
  | .hbm, ⟨13, _⟩ => ⟨S3x20x768, .f32⟩
  | .local _ .vmem, ⟨0, _⟩ => ⟨S1x4x512x128, .fp8e4m3⟩
  | .local _ .vmem, ⟨1, _⟩ => ⟨S1x4x512x128, .fp8e4m3⟩
  | .local _ .vmem, ⟨2, _⟩ => ⟨S1x20x512, .i32⟩
  | .local _ .vmem, ⟨3, _⟩ => ⟨S1x20x512, .i32⟩
  | .local _ .vmem, ⟨4, _⟩ => ⟨S4x768x128, .bf16⟩
  | .local _ .vmem, ⟨5, _⟩ => ⟨S4x768x128, .bf16⟩
  | .local _ .vmem, ⟨6, _⟩ => ⟨S1x4x512x128, .fp8e4m3⟩
  | .local _ .vmem, ⟨7, _⟩ => ⟨S1x4x512x128, .fp8e4m3⟩
  | .local _ .vmem, ⟨8, _⟩ => ⟨S1x4x768x128, .f32⟩
  | .local _ .vmem, ⟨9, _⟩ => ⟨S1x4x768x128, .f32⟩
  | .local _ .vmem, ⟨10, _⟩ => ⟨S3x20x768, .f32⟩
  | .local _ .vmem, ⟨11, _⟩ => ⟨S1x512x512, .bf16⟩
  | .local _ .vmem, ⟨12, _⟩ => ⟨S1x512x512, .bf16⟩
  | .local _ .vmem, ⟨13, _⟩ => ⟨S1x4x768x128, .f32⟩
  | .local _ .vmem, ⟨14, _⟩ => ⟨S1x4x768x128, .f32⟩
  | .local _ .vmem, ⟨15, _⟩ => ⟨S3x20x768, .f32⟩
  | .local _ .vmem, ⟨16, _⟩ => ⟨S1280x256, .bf16⟩
  | .local _ .vmem, ⟨17, _⟩ => ⟨S512x256, .bf16⟩
  | .local _ .vmem, ⟨18, _⟩ => ⟨S1280x512, .f32⟩
  | .local _ .vmem, ⟨19, _⟩ => ⟨S1280x512, .bf16⟩
  | .local _ .vmem, ⟨20, _⟩ => ⟨S128x1280, .bf16⟩
  | .local _ .smem, ⟨0, _⟩ => ⟨S3x2x20, .f32⟩
  | .local _ .smem, ⟨1, _⟩ => ⟨S3x2x20, .f32⟩
  | _, _ => ⟨S3x512x20x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17

abbrev nD : Nat := 1
abbrev τ : Topo := Topo.v7x

variable {F : FTy → Type} [FloatOps F]

abbrev grid0 : Pipeline.Grid := ⟨2, ![5, 3], ![false, false]⟩

def k0_off1 (i : grid0.Coords) (c0_i32_2 : BitVec 32) : Fin 3 → Nat :=
  let arg1 : BitVec 32 := BitVec.ofNat 32 (i 1).val
  let v7 : Index := Scalar.indexCast arg1
  let c0 : Index := 0#32
  let arg0 : BitVec 32 := BitVec.ofNat 32 (i 0).val
  let c4_i32 : BitVec 32 := 4#32
  let v5 : BitVec 32 := Scalar.muli arg0 c4_i32
  let v6 : BitVec 32 := Scalar.addi v5 c0_i32_2
  let v8 : Index := Scalar.indexCast v6
  ![v7.toNat, 0, v8.toNat]
def k0_off2 (i : grid0.Coords) (c0_i32_2 : BitVec 32) : Fin 3 → Nat :=
  let arg1 : BitVec 32 := BitVec.ofNat 32 (i 1).val
  let v10 : Index := Scalar.indexCast arg1
  let c1 : Index := 1#32
  let arg0 : BitVec 32 := BitVec.ofNat 32 (i 0).val
  let c4_i32 : BitVec 32 := 4#32
  let v5 : BitVec 32 := Scalar.muli arg0 c4_i32
  let v6 : BitVec 32 := Scalar.addi v5 c0_i32_2
  let v11 : Index := Scalar.indexCast v6
  ![v10.toNat, 1, v11.toNat]
def k0_off3 (i : grid0.Coords) (c0_i32_2 : BitVec 32) : Fin 3 → Nat :=
  let c0_5 : Index := 0#32
  let arg0 : BitVec 32 := BitVec.ofNat 32 (i 0).val
  let c4_i32 : BitVec 32 := 4#32
  let v5 : BitVec 32 := Scalar.muli arg0 c4_i32
  let v6 : BitVec 32 := Scalar.addi v5 c0_i32_2
  let v19 : Index := Scalar.indexCast v6
  let c0_6 : Index := 0#32
  ![0, v19.toNat, 0]
def k0_off4 (i : grid0.Coords) (c0_i32_2 : BitVec 32) : Fin 3 → Nat :=
  let arg1 : BitVec 32 := BitVec.ofNat 32 (i 1).val
  let v65 : Index := Scalar.indexCast arg1
  let arg0 : BitVec 32 := BitVec.ofNat 32 (i 0).val
  let c4_i32 : BitVec 32 := 4#32
  let v5 : BitVec 32 := Scalar.muli arg0 c4_i32
  let v6 : BitVec 32 := Scalar.addi v5 c0_i32_2
  let v66 : Index := Scalar.indexCast v6
  let c0_11 : Index := 0#32
  ![v65.toNat, v66.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .smem S3x2x20 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S3x2x20 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x4x512x128 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x20x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S4x768x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x4x512x128 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4x768x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S3x20x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x4x768x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S3x20x768 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== KernelIdeal.lean ====
variable {F : FTy → Type} [FloatOps F] [Named F]
def κ : String → Option EReal := fun
  | "inv_scale" => some ((134217728 / 11863283 : ℝ) : EReal)
  | "log2e" => some (((Real.log 2)⁻¹ : ℝ) : EReal)
  | "masked" => some ⊥
  | _ => none
-- ==== ReferenceIdeal.lean ====
abbrev S3x512x20x128 : Shape := ⟨4, ![3, 512, 20, 128]⟩
abbrev S3x2x20 : Shape := ⟨3, ![3, 2, 20]⟩
abbrev S3x512x20 : Shape := ⟨3, ![3, 512, 20]⟩
abbrev S20x768x128 : Shape := ⟨3, ![20, 768, 128]⟩
abbrev S3x20x768x128 : Shape := ⟨4, ![3, 20, 768, 128]⟩
abbrev S3x20x768 : Shape := ⟨3, ![3, 20, 768]⟩
abbrev S3x384x20x128 : Shape := ⟨4, ![3, 384, 20, 128]⟩
abbrev S3x384x20 : Shape := ⟨3, ![3, 384, 20]⟩
abbrev S3x1x20 : Shape := ⟨3, ![3, 1, 20]⟩
abbrev S3x20 : Shape := ⟨2, ![3, 20]⟩
abbrev S20x768x3x384 : Shape := ⟨4, ![20, 768, 3, 384]⟩
abbrev S3x20x384x768 : Shape := ⟨4, ![3, 20, 384, 768]⟩
abbrev S_ : Shape := ⟨0, ![]⟩
abbrev S3x20x1x1 : Shape := ⟨4, ![3, 20, 1, 1]⟩
abbrev S384 : Shape := ⟨1, ![384]⟩
abbrev S1x384 : Shape := ⟨2, ![1, 384]⟩
abbrev S384x1 : Shape := ⟨2, ![384, 1]⟩
abbrev S384x384 : Shape := ⟨2, ![384, 384]⟩
abbrev S3x20x384 : Shape := ⟨3, ![3, 20, 384]⟩
abbrev S3x20x1x384 : Shape := ⟨4, ![3, 20, 1, 384]⟩
abbrev S3x20x384x384 : Shape := ⟨4, ![3, 20, 384, 384]⟩
abbrev S3x20x384x384x1 : Shape := ⟨5, ![3, 20, 384, 384, 1]⟩
abbrev S1 : Shape := ⟨1, ![1]⟩
abbrev S1x1x1x1x1 : Shape := ⟨5, ![1, 1, 1, 1, 1]⟩
abbrev S3x20x1x768 : Shape := ⟨4, ![3, 20, 1, 768]⟩
abbrev S3x20x384x1 : Shape := ⟨4, ![3, 20, 384, 1]⟩
abbrev S3x20x128x384 : Shape := ⟨4, ![3, 20, 128, 384]⟩
abbrev S3x1x20x1 : Shape := ⟨4, ![3, 1, 20, 1]⟩
abbrev S3x384x2560 : Shape := ⟨3, ![3, 384, 2560]⟩
abbrev S3x128x20x128 : Shape := ⟨4, ![3, 128, 20, 128]⟩
abbrev S3x128x20 : Shape := ⟨3, ![3, 128, 20]⟩
abbrev S20x768x3x128 : Shape := ⟨4, ![20, 768, 3, 128]⟩
abbrev S3x20x128x768 : Shape := ⟨4, ![3, 20, 128, 768]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S3x20x128 : Shape := ⟨3, ![3, 20, 128]⟩
abbrev S3x20x1x128 : Shape := ⟨4, ![3, 20, 1, 128]⟩
abbrev S3x20x128x128 : Shape := ⟨4, ![3, 20, 128, 128]⟩
abbrev S3x20x128x128x1 : Shape := ⟨5, ![3, 20, 128, 128, 1]⟩
abbrev S3x20x128x1 : Shape := ⟨4, ![3, 20, 128, 1]⟩
abbrev S3x20x128x384x1 : Shape := ⟨5, ![3, 20, 128, 384, 1]⟩
abbrev S3x384x20x1 : Shape := ⟨4, ![3, 384, 20, 1]⟩
abbrev S1x1x1x768 : Shape := ⟨4, ![1, 1, 1, 768]⟩
abbrev S3x384x20x768 : Shape := ⟨4, ![3, 384, 20, 768]⟩
abbrev S3x128x2560 : Shape := ⟨3, ![3, 128, 2560]⟩
abbrev S3x128x20x1 : Shape := ⟨4, ![3, 128, 20, 1]⟩
abbrev S3x128x20x768 : Shape := ⟨4, ![3, 128, 20, 768]⟩
abbrev S3x512x2560 : Shape := ⟨3, ![3, 512, 2560]⟩

abbrev nBuf : Space → Nat
  | .hbm => 299
  | .vmem => 4
  | .smem => 0
  | _ => 0

abbrev hbmTy0_0 (i : Nat) : BufTy := match i % 128 with
  | 0 => ⟨S3x512x20x128, .fp8e4m3⟩
  | 1 => ⟨S3x2x20, .f32⟩
  | 2 => ⟨S3x512x20, .i32⟩
  | 3 => ⟨S20x768x128, .bf16⟩
  | 4 => ⟨S3x512x20x128, .fp8e4m3⟩
  | 5 => ⟨S3x2x20, .f32⟩
  | 6 => ⟨S3x20x768x128, .f32⟩
  | 7 => ⟨S3x20x768, .f32⟩
  | 8 => ⟨S3x512x20x128, .bf16⟩
  | 9 => ⟨S3x512x20x128, .bf16⟩
  | 10 => ⟨S3x384x20x128, .bf16⟩
  | 11 => ⟨S3x384x20, .i32⟩
  | 12 => ⟨S3x384x20x128, .bf16⟩
  | 13 => ⟨S3x1x20, .f32⟩
  | 14 => ⟨S3x20, .f32⟩
  | 15 => ⟨S3x1x20, .f32⟩
  | 16 => ⟨S3x20, .f32⟩
  | 17 => ⟨S20x768x3x384, .f32⟩
  | 18 => ⟨S3x20x384x768, .f32⟩
  | 19 => ⟨S_, .f32⟩
  | 20 => ⟨S3x20, .f32⟩
  | 21 => ⟨S3x20, .f32⟩
  | 22 => ⟨S3x20x1x1, .f32⟩
  | 23 => ⟨S3x20x384x768, .f32⟩
  | 24 => ⟨S3x20x384x768, .f32⟩
  | 25 => ⟨S384, .i32⟩
  | 26 => ⟨S1x384, .i32⟩
  | 27 => ⟨S384x1, .i32⟩
  | 28 => ⟨S384x384, .i32⟩
  | 29 => ⟨S384x384, .i32⟩
  | 30 => ⟨S384x384, .i1⟩
  | 31 => ⟨S3x20x384, .i32⟩
  | 32 => ⟨S3x20x1x384, .i32⟩
  | 33 => ⟨S3x20x384x384, .i32⟩
  | 34 => ⟨S_, .i32⟩
  | 35 => ⟨S3x20x384x384, .i32⟩
  | 36 => ⟨S3x20x384x384, .i1⟩
  | 37 => ⟨S_, .i32⟩
  | 38 => ⟨S3x20x384x384, .i32⟩
  | 39 => ⟨S3x20x384x384, .i32⟩
  | 40 => ⟨S3x20x384x384, .i32⟩
  | 41 => ⟨S3x20x384x384x1, .i32⟩
  | 42 => ⟨S1, .i32⟩
  | 43 => ⟨S_, .i32⟩
  | 44 => ⟨S3x20x384x384x1, .i32⟩
  | 45 => ⟨S3x20x384x384x1, .i1⟩
  | 46 => ⟨S1x1x1x1x1, .i32⟩
  | 47 => ⟨S3x20x384x384x1, .i32⟩
  | 48 => ⟨S3x20x384x384x1, .i1⟩
  | 49 => ⟨S3x20x384x384x1, .i1⟩
  | 50 => ⟨S_, .i1⟩
  | 51 => ⟨S3x20x384x384, .i1⟩
  | 52 => ⟨S3x20x384x384, .f32⟩
  | 53 => ⟨S_, .f32⟩
  | 54 => ⟨S3x20x384x384, .f32⟩
  | 55 => ⟨S3x20x384x384, .f32⟩
  | 56 => ⟨S_, .f32⟩
  | 57 => ⟨S_, .f32⟩
  | 58 => ⟨S3x20x384x384, .i1⟩
  | 59 => ⟨S3x20x384x384, .f32⟩
  | 60 => ⟨S3x20x384x384, .f32⟩
  | 61 => ⟨S_, .f32⟩
  | 62 => ⟨S3x20x768, .f32⟩
  | 63 => ⟨S3x20x768, .i1⟩
  | 64 => ⟨S3x20x1x768, .i1⟩
  | 65 => ⟨S_, .f32⟩
  | 66 => ⟨S_, .f32⟩
  | 67 => ⟨S3x20x384x768, .i1⟩
  | 68 => ⟨S3x20x384x768, .f32⟩
  | 69 => ⟨S3x20x384x768, .f32⟩
  | 70 => ⟨S_, .f32⟩
  | 71 => ⟨S3x20x384, .f32⟩
  | 72 => ⟨S3x20x384x1, .f32⟩
  | 73 => ⟨S_, .f32⟩
  | 74 => ⟨S3x20x384, .f32⟩
  | 75 => ⟨S3x20x384x1, .f32⟩
  | 76 => ⟨S3x20x384x1, .f32⟩
  | 77 => ⟨S3x20x384x384, .f32⟩
  | 78 => ⟨S3x20x384x384, .f32⟩
  | 79 => ⟨S3x20x384x384, .f32⟩
  | 80 => ⟨S3x20x384x768, .f32⟩
  | 81 => ⟨S3x20x384x768, .f32⟩
  | 82 => ⟨S3x20x384x768, .f32⟩
  | 83 => ⟨S_, .f32⟩
  | 84 => ⟨S3x20x384, .f32⟩
  | 85 => ⟨S3x20x384x1, .f32⟩
  | 86 => ⟨S3x20x1x768, .f32⟩
  | 87 => ⟨S3x20x384x768, .f32⟩
  | 88 => ⟨S3x20x384x768, .f32⟩
  | 89 => ⟨S_, .f32⟩
  | 90 => ⟨S3x20x384, .f32⟩
  | 91 => ⟨S3x20x384x1, .f32⟩
  | 92 => ⟨S3x20x384x1, .f32⟩
  | 93 => ⟨S_, .f32⟩
  | 94 => ⟨S3x20x384x1, .f32⟩
  | 95 => ⟨S3x20x384x1, .i1⟩
  | 96 => ⟨S_, .f32⟩
  | 97 => ⟨S_, .f32⟩
  | 98 => ⟨S3x20x384x1, .f32⟩
  | 99 => ⟨S3x20x384x1, .f32⟩
  | 100 => ⟨S3x20x384x384, .f32⟩
  | 101 => ⟨S3x20x384x384, .f32⟩
  | 102 => ⟨S3x20x384x384, .bf16⟩
  | 103 => ⟨S3x20x384x768, .f32⟩
  | 104 => ⟨S3x20x384x768, .f32⟩
  | 105 => ⟨S3x20x384x768, .bf16⟩
  | 106 => ⟨S3x20x128x384, .f32⟩
  | 107 => ⟨S3x384x20x128, .f32⟩
  | 108 => ⟨S3x1x20x1, .f32⟩
  | 109 => ⟨S3x384x20x128, .f32⟩
  | 110 => ⟨S3x384x20x128, .f32⟩
  | 111 => ⟨S3x20x768x128, .bf16⟩
  | 112 => ⟨S3x20x128x384, .f32⟩
  | 113 => ⟨S3x384x20x128, .f32⟩
  | 114 => ⟨S3x384x20x128, .f32⟩
  | 115 => ⟨S3x384x2560, .f32⟩
  | 116 => ⟨S3x128x20x128, .bf16⟩
  | 117 => ⟨S3x128x20, .i32⟩
  | 118 => ⟨S3x128x20x128, .bf16⟩
  | 119 => ⟨S3x1x20, .f32⟩
  | 120 => ⟨S3x20, .f32⟩
  | 121 => ⟨S3x1x20, .f32⟩
  | 122 => ⟨S3x20, .f32⟩
  | 123 => ⟨S20x768x3x128, .f32⟩
  | 124 => ⟨S3x20x128x768, .f32⟩
  | 125 => ⟨S_, .f32⟩
  | 126 => ⟨S3x20, .f32⟩
  | 127 => ⟨S3x20, .f32⟩
  | _ => ⟨S3x512x20x128, .fp8e4m3⟩

abbrev hbmTy0_1 (i : Nat) : BufTy := match i % 128 with
  | 0 => ⟨S3x20x1x1, .f32⟩
  | 1 => ⟨S3x20x128x768, .f32⟩
  | 2 => ⟨S3x20x128x768, .f32⟩
  | 3 => ⟨S128, .i32⟩
  | 4 => ⟨S1x128, .i32⟩
  | 5 => ⟨S128x1, .i32⟩
  | 6 => ⟨S128x128, .i32⟩
  | 7 => ⟨S128x128, .i32⟩
  | 8 => ⟨S128x128, .i1⟩
  | 9 => ⟨S3x20x128, .i32⟩
  | 10 => ⟨S3x20x1x128, .i32⟩
  | 11 => ⟨S3x20x128x128, .i32⟩
  | 12 => ⟨S_, .i32⟩
  | 13 => ⟨S3x20x128x128, .i32⟩
  | 14 => ⟨S3x20x128x128, .i1⟩
  | 15 => ⟨S_, .i32⟩
  | 16 => ⟨S3x20x128x128, .i32⟩
  | 17 => ⟨S3x20x128x128, .i32⟩
  | 18 => ⟨S3x20x128x128, .i32⟩
  | 19 => ⟨S3x20x128x128x1, .i32⟩
  | 20 => ⟨S1, .i32⟩
  | 21 => ⟨S_, .i32⟩
  | 22 => ⟨S3x20x128x128x1, .i32⟩
  | 23 => ⟨S3x20x128x128x1, .i1⟩
  | 24 => ⟨S1x1x1x1x1, .i32⟩
  | 25 => ⟨S3x20x128x128x1, .i32⟩
  | 26 => ⟨S3x20x128x128x1, .i1⟩
  | 27 => ⟨S3x20x128x128x1, .i1⟩
  | 28 => ⟨S_, .i1⟩
  | 29 => ⟨S3x20x128x128, .i1⟩
  | 30 => ⟨S3x20x128x128, .f32⟩
  | 31 => ⟨S_, .f32⟩
  | 32 => ⟨S3x20x128x128, .f32⟩
  | 33 => ⟨S3x20x128x128, .f32⟩
  | 34 => ⟨S_, .f32⟩
  | 35 => ⟨S_, .f32⟩
  | 36 => ⟨S3x20x128x128, .i1⟩
  | 37 => ⟨S3x20x128x128, .f32⟩
  | 38 => ⟨S3x20x128x128, .f32⟩
  | 39 => ⟨S_, .f32⟩
  | 40 => ⟨S3x20x768, .f32⟩
  | 41 => ⟨S3x20x768, .i1⟩
  | 42 => ⟨S3x20x1x768, .i1⟩
  | 43 => ⟨S_, .f32⟩
  | 44 => ⟨S_, .f32⟩
  | 45 => ⟨S3x20x128x768, .i1⟩
  | 46 => ⟨S3x20x128x768, .f32⟩
  | 47 => ⟨S3x20x128x768, .f32⟩
  | 48 => ⟨S_, .f32⟩
  | 49 => ⟨S3x20x128, .f32⟩
  | 50 => ⟨S3x20x128x1, .f32⟩
  | 51 => ⟨S_, .f32⟩
  | 52 => ⟨S3x20x128, .f32⟩
  | 53 => ⟨S3x20x128x1, .f32⟩
  | 54 => ⟨S3x20x128x1, .f32⟩
  | 55 => ⟨S3x20x384, .i32⟩
  | 56 => ⟨S3x20x1x384, .i32⟩
  | 57 => ⟨S3x20x128x384, .i32⟩
  | 58 => ⟨S_, .i32⟩
  | 59 => ⟨S3x20x128x384, .i32⟩
  | 60 => ⟨S3x20x128x384, .i1⟩
  | 61 => ⟨S_, .i32⟩
  | 62 => ⟨S3x20x128x384, .i32⟩
  | 63 => ⟨S3x20x128x384, .i32⟩
  | 64 => ⟨S3x20x128x384, .i32⟩
  | 65 => ⟨S3x20x128x384x1, .i32⟩
  | 66 => ⟨S1, .i32⟩
  | 67 => ⟨S_, .i32⟩
  | 68 => ⟨S3x20x128x384x1, .i32⟩
  | 69 => ⟨S3x20x128x384x1, .i1⟩
  | 70 => ⟨S1x1x1x1x1, .i32⟩
  | 71 => ⟨S3x20x128x384x1, .i32⟩
  | 72 => ⟨S3x20x128x384x1, .i1⟩
  | 73 => ⟨S3x20x128x384x1, .i1⟩
  | 74 => ⟨S_, .i1⟩
  | 75 => ⟨S3x20x128x384, .i1⟩
  | 76 => ⟨S3x20x128x384, .f32⟩
  | 77 => ⟨S_, .f32⟩
  | 78 => ⟨S3x20x128x384, .f32⟩
  | 79 => ⟨S3x20x128x384, .f32⟩
  | 80 => ⟨S_, .f32⟩
  | 81 => ⟨S3x20x128, .f32⟩
  | 82 => ⟨S3x20x128x1, .f32⟩
  | 83 => ⟨S3x20x128x1, .f32⟩
  | 84 => ⟨S3x20x128x128, .f32⟩
  | 85 => ⟨S3x20x128x128, .f32⟩
  | 86 => ⟨S3x20x128x128, .f32⟩
  | 87 => ⟨S3x20x128x768, .f32⟩
  | 88 => ⟨S3x20x128x768, .f32⟩
  | 89 => ⟨S3x20x128x768, .f32⟩
  | 90 => ⟨S_, .f32⟩
  | 91 => ⟨S3x20x128, .f32⟩
  | 92 => ⟨S3x20x128x1, .f32⟩
  | 93 => ⟨S3x20x1x768, .f32⟩
  | 94 => ⟨S3x20x128x768, .f32⟩
  | 95 => ⟨S3x20x128x768, .f32⟩
  | 96 => ⟨S_, .f32⟩
  | 97 => ⟨S3x20x128, .f32⟩
  | 98 => ⟨S3x20x128x1, .f32⟩
  | 99 => ⟨S3x20x128x1, .f32⟩
  | 100 => ⟨S3x20x128x384, .f32⟩
  | 101 => ⟨S3x20x128x384, .f32⟩
  | 102 => ⟨S3x20x128x384, .f32⟩
  | 103 => ⟨S_, .f32⟩
  | 104 => ⟨S3x20x128, .f32⟩
  | 105 => ⟨S3x20x128x1, .f32⟩
  | 106 => ⟨S3x20x128x1, .f32⟩
  | 107 => ⟨S_, .f32⟩
  | 108 => ⟨S3x20x128x1, .f32⟩
  | 109 => ⟨S3x20x128x1, .i1⟩
  | 110 => ⟨S_, .f32⟩
  | 111 => ⟨S_, .f32⟩
  | 112 => ⟨S3x20x128x1, .f32⟩
  | 113 => ⟨S3x20x128x1, .f32⟩
  | 114 => ⟨S3x20x128x128, .f32⟩
  | 115 => ⟨S3x20x128x128, .f32⟩
  | 116 => ⟨S3x20x128x128, .bf16⟩
  | 117 => ⟨S3x20x128x768, .f32⟩
  | 118 => ⟨S3x20x128x768, .f32⟩
  | 119 => ⟨S3x20x128x768, .bf16⟩
  | 120 => ⟨S3x20x128x128, .f32⟩
  | 121 => ⟨S3x128x20x128, .f32⟩
  | 122 => ⟨S3x1x20x1, .f32⟩
  | 123 => ⟨S3x128x20x128, .f32⟩
  | 124 => ⟨S3x128x20x128, .f32⟩
  | 125 => ⟨S3x20x768x128, .bf16⟩
  | 126 => ⟨S3x20x128x128, .f32⟩
  | 127 => ⟨S3x128x20x128, .f32⟩
  | _ => ⟨S3x512x20x128, .fp8e4m3⟩

abbrev hbmTy0_2 (i : Nat) : BufTy := match i % 128 with
  | 0 => ⟨S3x128x20x128, .f32⟩
  | 1 => ⟨S3x20x128x384, .f32⟩
  | 2 => ⟨S3x20x128x384, .f32⟩
  | 3 => ⟨S3x20x128x384, .bf16⟩
  | 4 => ⟨S3x20x128x128, .f32⟩
  | 5 => ⟨S3x128x20x128, .f32⟩
  | 6 => ⟨S3x1x20x1, .f32⟩
  | 7 => ⟨S3x128x20x128, .f32⟩
  | 8 => ⟨S3x128x20x128, .f32⟩
  | 9 => ⟨S3x128x20x128, .f32⟩
  | 10 => ⟨S3x384x20x1, .i32⟩
  | 11 => ⟨S1x1x1x768, .i32⟩
  | 12 => ⟨S3x384x20x768, .i32⟩
  | 13 => ⟨S3x384x20x768, .i32⟩
  | 14 => ⟨S3x384x20x768, .i1⟩
  | 15 => ⟨S3x384x20x768, .bf16⟩
  | 16 => ⟨S3x20x768x128, .f32⟩
  | 17 => ⟨S3x20x1x1, .f32⟩
  | 18 => ⟨S3x20x768x128, .f32⟩
  | 19 => ⟨S3x20x768x128, .f32⟩
  | 20 => ⟨S3x20x768x128, .f32⟩
  | 21 => ⟨S3x384x20x768, .f32⟩
  | 22 => ⟨S_, .f32⟩
  | 23 => ⟨S3x20x768, .f32⟩
  | 24 => ⟨S3x20x768, .f32⟩
  | 25 => ⟨S3x128x2560, .f32⟩
  | 26 => ⟨S3x128x20x1, .i32⟩
  | 27 => ⟨S1x1x1x768, .i32⟩
  | 28 => ⟨S3x128x20x768, .i32⟩
  | 29 => ⟨S3x128x20x768, .i32⟩
  | 30 => ⟨S3x128x20x768, .i1⟩
  | 31 => ⟨S3x128x20x768, .bf16⟩
  | 32 => ⟨S3x20x768x128, .f32⟩
  | 33 => ⟨S3x20x1x1, .f32⟩
  | 34 => ⟨S3x20x768x128, .f32⟩
  | 35 => ⟨S3x20x768x128, .f32⟩
  | 36 => ⟨S3x20x768x128, .f32⟩
  | 37 => ⟨S3x128x20x768, .f32⟩
  | 38 => ⟨S_, .f32⟩
  | 39 => ⟨S3x20x768, .f32⟩
  | 40 => ⟨S3x20x768, .f32⟩
  | 41 => ⟨S3x512x2560, .f32⟩
  | 42 => ⟨S3x512x2560, .bf16⟩
  | _ => ⟨S3x512x20x128, .fp8e4m3⟩

abbrev hbmTy (i : Nat) : BufTy := match i / 128 with
  | 0 => hbmTy0_0 i
  | 1 => hbmTy0_1 i
  | 2 => hbmTy0_2 i
  | _ => ⟨S3x512x20x128, .fp8e4m3⟩

abbrev bufTy : (tb : Table) → Fin (tcTables nBuf tb) → BufTy
  | .hbm, ⟨i, _⟩ => hbmTy i
  | .local _ .vmem, ⟨0, _⟩ => ⟨S3x512x20x128, .fp8e4m3⟩
  | .local _ .vmem, ⟨1, _⟩ => ⟨S3x512x20x128, .fp8e4m3⟩
  | .local _ .vmem, ⟨2, _⟩ => ⟨S3x512x20x128, .bf16⟩
  | .local _ .vmem, ⟨3, _⟩ => ⟨S3x512x20x128, .bf16⟩
  | _, _ => ⟨S3x512x20x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_call0_c : Ref sig .tc := ⟨.hbm, 34, rfl⟩
abbrev main_call0_v0 : Ref sig .tc := ⟨.hbm, 35, rfl⟩
abbrev main_call0_v1 : Ref sig .tc := ⟨.hbm, 36, rfl⟩
abbrev main_call0_c_0 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_call0_v5 : Ref sig .tc := ⟨.hbm, 41, rfl⟩
abbrev main_call0_c_1 : Ref sig .tc := ⟨.hbm, 42, rfl⟩
abbrev main_call0_c_2 : Ref sig .tc := ⟨.hbm, 43, rfl⟩
abbrev main_call0_v6 : Ref sig .tc := ⟨.hbm, 44, rfl⟩
abbrev main_call0_v7 : Ref sig .tc := ⟨.hbm, 45, rfl⟩
abbrev main_call0_v8 : Ref sig .tc := ⟨.hbm, 46, rfl⟩
abbrev main_call0_v9 : Ref sig .tc := ⟨.hbm, 47, rfl⟩
abbrev main_call0_v10 : Ref sig .tc := ⟨.hbm, 48, rfl⟩
abbrev main_call0_v11 : Ref sig .tc := ⟨.hbm, 49, rfl⟩
abbrev main_call0_c_3 : Ref sig .tc := ⟨.hbm, 50, rfl⟩
abbrev main_call0_v12 : Ref sig .tc := ⟨.hbm, 51, rfl⟩
abbrev main_call0_v13 : Ref sig .tc := ⟨.hbm, 52, rfl⟩
abbrev main_call0_cst : Ref sig .tc := ⟨.hbm, 53, rfl⟩
abbrev main_call0_v14 : Ref sig .tc := ⟨.hbm, 54, rfl⟩
abbrev main_v24 : Ref sig .tc := ⟨.hbm, 55, rfl⟩
abbrev main_cst_0 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_v25 : Ref sig .tc := ⟨.hbm, 60, rfl⟩
abbrev main_cst_1 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_cst_2 : Ref sig .tc := ⟨.hbm, 65, rfl⟩
abbrev main_call2_v0 : Ref sig .tc := ⟨.hbm, 66, rfl⟩
abbrev main_call2_v1 : Ref sig .tc := ⟨.hbm, 67, rfl⟩
abbrev main_call2_v2 : Ref sig .tc := ⟨.hbm, 68, rfl⟩
abbrev main_v29 : Ref sig .tc := ⟨.hbm, 69, rfl⟩
abbrev main_cst_3 : Ref sig .tc := ⟨.hbm, 70, rfl⟩
abbrev main_v30 : Ref sig .tc := ⟨.hbm, 71, rfl⟩
abbrev main_v31 : Ref sig .tc := ⟨.hbm, 72, rfl⟩
abbrev main_cst_4 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_cst_5 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_cst_6 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_cst_7 : Ref sig .tc := ⟨.hbm, 93, rfl⟩
abbrev main_v49 : Ref sig .tc := ⟨.hbm, 94, rfl⟩
abbrev main_v50 : Ref sig .tc := ⟨.hbm, 95, rfl⟩
abbrev main_cst_8 : Ref sig .tc := ⟨.hbm, 96, rfl⟩
abbrev main_call3_v0 : Ref sig .tc := ⟨.hbm, 97, rfl⟩
abbrev main_call3_v1 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_cst_9 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_call4_c : Ref sig .tc := ⟨.hbm, 140, rfl⟩
abbrev main_call4_v0 : Ref sig .tc := ⟨.hbm, 141, rfl⟩
abbrev main_call4_v1 : Ref sig .tc := ⟨.hbm, 142, rfl⟩
abbrev main_call4_c_0 : Ref sig .tc := ⟨.hbm, 143, rfl⟩
abbrev main_call4_v2 : Ref sig .tc := ⟨.hbm, 144, rfl⟩
abbrev main_call4_v3 : Ref sig .tc := ⟨.hbm, 145, rfl⟩
abbrev main_call4_v4 : Ref sig .tc := ⟨.hbm, 146, rfl⟩
abbrev main_call4_v5 : Ref sig .tc := ⟨.hbm, 147, rfl⟩
abbrev main_call4_c_1 : Ref sig .tc := ⟨.hbm, 148, rfl⟩
abbrev main_call4_c_2 : Ref sig .tc := ⟨.hbm, 149, rfl⟩
abbrev main_call4_v6 : Ref sig .tc := ⟨.hbm, 150, rfl⟩
abbrev main_call4_v7 : Ref sig .tc := ⟨.hbm, 151, rfl⟩
abbrev main_call4_v8 : Ref sig .tc := ⟨.hbm, 152, rfl⟩
abbrev main_call4_v9 : Ref sig .tc := ⟨.hbm, 153, rfl⟩
abbrev main_call4_v10 : Ref sig .tc := ⟨.hbm, 154, rfl⟩
abbrev main_call4_v11 : Ref sig .tc := ⟨.hbm, 155, rfl⟩
abbrev main_call4_c_3 : Ref sig .tc := ⟨.hbm, 156, rfl⟩
abbrev main_call4_v12 : Ref sig .tc := ⟨.hbm, 157, rfl⟩
abbrev main_call4_v13 : Ref sig .tc := ⟨.hbm, 158, rfl⟩
abbrev main_call4_cst : Ref sig .tc := ⟨.hbm, 159, rfl⟩
abbrev main_call4_v14 : Ref sig .tc := ⟨.hbm, 160, rfl⟩
abbrev main_v91 : Ref sig .tc := ⟨.hbm, 161, rfl⟩
abbrev main_cst_10 : Ref sig .tc := ⟨.hbm, 162, rfl⟩
abbrev main_call5_v0 : Ref sig .tc := ⟨.hbm, 163, rfl⟩
abbrev main_call5_v1 : Ref sig .tc := ⟨.hbm, 164, rfl⟩
abbrev main_call5_v2 : Ref sig .tc := ⟨.hbm, 165, rfl⟩
abbrev main_v92 : Ref sig .tc := ⟨.hbm, 166, rfl⟩
abbrev main_cst_11 : Ref sig .tc := ⟨.hbm, 167, rfl⟩
abbrev main_v93 : Ref sig .tc := ⟨.hbm, 168, rfl⟩
abbrev main_v94 : Ref sig .tc := ⟨.hbm, 169, rfl⟩
abbrev main_v95 : Ref sig .tc := ⟨.hbm, 170, rfl⟩
abbrev main_cst_12 : Ref sig .tc := ⟨.hbm, 171, rfl⟩
abbrev main_call6_v0 : Ref sig .tc := ⟨.hbm, 172, rfl⟩
abbrev main_call6_v1 : Ref sig .tc := ⟨.hbm, 173, rfl⟩
abbrev main_call6_v2 : Ref sig .tc := ⟨.hbm, 174, rfl⟩
abbrev main_v96 : Ref sig .tc := ⟨.hbm, 175, rfl⟩
abbrev main_cst_13 : Ref sig .tc := ⟨.hbm, 176, rfl⟩
abbrev main_v97 : Ref sig .tc := ⟨.hbm, 177, rfl⟩
abbrev main_v98 : Ref sig .tc := ⟨.hbm, 178, rfl⟩
abbrev main_cst_14 : Ref sig .tc := ⟨.hbm, 179, rfl⟩
abbrev main_v99 : Ref sig .tc := ⟨.hbm, 180, rfl⟩
abbrev main_v100 : Ref sig .tc := ⟨.hbm, 181, rfl⟩
abbrev main_v101 : Ref sig .tc := ⟨.hbm, 182, rfl⟩
abbrev main_v102 : Ref sig .tc := ⟨.hbm, 183, rfl⟩
abbrev main_v103 : Ref sig .tc := ⟨.hbm, 184, rfl⟩
abbrev main_v104 : Ref sig .tc := ⟨.hbm, 185, rfl⟩
abbrev main_call7_c : Ref sig .tc := ⟨.hbm, 186, rfl⟩
abbrev main_call7_v0 : Ref sig .tc := ⟨.hbm, 187, rfl⟩
abbrev main_call7_v1 : Ref sig .tc := ⟨.hbm, 188, rfl⟩
abbrev main_call7_c_0 : Ref sig .tc := ⟨.hbm, 189, rfl⟩
abbrev main_call7_v2 : Ref sig .tc := ⟨.hbm, 190, rfl⟩
abbrev main_call7_v3 : Ref sig .tc := ⟨.hbm, 191, rfl⟩
abbrev main_call7_v4 : Ref sig .tc := ⟨.hbm, 192, rfl⟩
abbrev main_call7_v5 : Ref sig .tc := ⟨.hbm, 193, rfl⟩
abbrev main_call7_c_1 : Ref sig .tc := ⟨.hbm, 194, rfl⟩
abbrev main_call7_c_2 : Ref sig .tc := ⟨.hbm, 195, rfl⟩
abbrev main_call7_v6 : Ref sig .tc := ⟨.hbm, 196, rfl⟩
abbrev main_call7_v7 : Ref sig .tc := ⟨.hbm, 197, rfl⟩
abbrev main_call7_v8 : Ref sig .tc := ⟨.hbm, 198, rfl⟩
abbrev main_call7_v9 : Ref sig .tc := ⟨.hbm, 199, rfl⟩
abbrev main_call7_v10 : Ref sig .tc := ⟨.hbm, 200, rfl⟩
abbrev main_call7_v11 : Ref sig .tc := ⟨.hbm, 201, rfl⟩
abbrev main_call7_c_3 : Ref sig .tc := ⟨.hbm, 202, rfl⟩
abbrev main_call7_v12 : Ref sig .tc := ⟨.hbm, 203, rfl⟩
abbrev main_call7_v13 : Ref sig .tc := ⟨.hbm, 204, rfl⟩
abbrev main_call7_cst : Ref sig .tc := ⟨.hbm, 205, rfl⟩
abbrev main_call7_v14 : Ref sig .tc := ⟨.hbm, 206, rfl⟩
abbrev main_v105 : Ref sig .tc := ⟨.hbm, 207, rfl⟩
abbrev main_cst_15 : Ref sig .tc := ⟨.hbm, 208, rfl⟩
abbrev main_v106 : Ref sig .tc := ⟨.hbm, 209, rfl⟩
abbrev main_v107 : Ref sig .tc := ⟨.hbm, 210, rfl⟩
abbrev main_v108 : Ref sig .tc := ⟨.hbm, 211, rfl⟩
abbrev main_v109 : Ref sig .tc := ⟨.hbm, 212, rfl⟩
abbrev main_v110 : Ref sig .tc := ⟨.hbm, 213, rfl⟩
abbrev main_v111 : Ref sig .tc := ⟨.hbm, 214, rfl⟩
abbrev main_v112 : Ref sig .tc := ⟨.hbm, 215, rfl⟩
abbrev main_v113 : Ref sig .tc := ⟨.hbm, 216, rfl⟩
abbrev main_v114 : Ref sig .tc := ⟨.hbm, 217, rfl⟩
abbrev main_cst_16 : Ref sig .tc := ⟨.hbm, 218, rfl⟩
abbrev main_v115 : Ref sig .tc := ⟨.hbm, 219, rfl⟩
abbrev main_v116 : Ref sig .tc := ⟨.hbm, 220, rfl⟩
abbrev main_v117 : Ref sig .tc := ⟨.hbm, 221, rfl⟩
abbrev main_v118 : Ref sig .tc := ⟨.hbm, 222, rfl⟩
abbrev main_v119 : Ref sig .tc := ⟨.hbm, 223, rfl⟩
abbrev main_cst_17 : Ref sig .tc := ⟨.hbm, 224, rfl⟩
abbrev main_v120 : Ref sig .tc := ⟨.hbm, 225, rfl⟩
abbrev main_v121 : Ref sig .tc := ⟨.hbm, 226, rfl⟩
abbrev main_v122 : Ref sig .tc := ⟨.hbm, 227, rfl⟩
abbrev main_v123 : Ref sig .tc := ⟨.hbm, 228, rfl⟩
abbrev main_v124 : Ref sig .tc := ⟨.hbm, 229, rfl⟩
abbrev main_v125 : Ref sig .tc := ⟨.hbm, 230, rfl⟩
abbrev main_cst_18 : Ref sig .tc := ⟨.hbm, 231, rfl⟩
abbrev main_v126 : Ref sig .tc := ⟨.hbm, 232, rfl⟩
abbrev main_v127 : Ref sig .tc := ⟨.hbm, 233, rfl⟩
abbrev main_v128 : Ref sig .tc := ⟨.hbm, 234, rfl⟩
abbrev main_cst_19 : Ref sig .tc := ⟨.hbm, 235, rfl⟩
abbrev main_v129 : Ref sig .tc := ⟨.hbm, 236, rfl⟩
abbrev main_v130 : Ref sig .tc := ⟨.hbm, 237, rfl⟩
abbrev main_cst_20 : Ref sig .tc := ⟨.hbm, 238, rfl⟩
abbrev main_call8_v0 : Ref sig .tc := ⟨.hbm, 239, rfl⟩
abbrev main_call8_v1 : Ref sig .tc := ⟨.hbm, 240, rfl⟩
abbrev main_v131 : Ref sig .tc := ⟨.hbm, 241, rfl⟩
abbrev main_v132 : Ref sig .tc := ⟨.hbm, 242, rfl⟩
abbrev main_v133 : Ref sig .tc := ⟨.hbm, 243, rfl⟩
abbrev main_v134 : Ref sig .tc := ⟨.hbm, 244, rfl⟩
abbrev main_v135 : Ref sig .tc := ⟨.hbm, 245, rfl⟩
abbrev main_v136 : Ref sig .tc := ⟨.hbm, 246, rfl⟩
abbrev main_v137 : Ref sig .tc := ⟨.hbm, 247, rfl⟩
abbrev main_v138 : Ref sig .tc := ⟨.hbm, 248, rfl⟩
abbrev main_v139 : Ref sig .tc := ⟨.hbm, 249, rfl⟩
abbrev main_v140 : Ref sig .tc := ⟨.hbm, 250, rfl⟩
abbrev main_v141 : Ref sig .tc := ⟨.hbm, 251, rfl⟩
abbrev main_v142 : Ref sig .tc := ⟨.hbm, 252, rfl⟩
abbrev main_v143 : Ref sig .tc := ⟨.hbm, 253, rfl⟩
abbrev main_v144 : Ref sig .tc := ⟨.hbm, 254, rfl⟩
abbrev main_v145 : Ref sig .tc := ⟨.hbm, 255, rfl⟩
abbrev main_v146 : Ref sig .tc := ⟨.hbm, 256, rfl⟩
abbrev main_v147 : Ref sig .tc := ⟨.hbm, 257, rfl⟩
abbrev main_v148 : Ref sig .tc := ⟨.hbm, 258, rfl⟩
abbrev main_v149 : Ref sig .tc := ⟨.hbm, 259, rfl⟩
abbrev main_v150 : Ref sig .tc := ⟨.hbm, 260, rfl⟩
abbrev main_v151 : Ref sig .tc := ⟨.hbm, 261, rfl⟩
abbrev main_v152 : Ref sig .tc := ⟨.hbm, 262, rfl⟩
abbrev main_v153 : Ref sig .tc := ⟨.hbm, 263, rfl⟩
abbrev main_v154 : Ref sig .tc := ⟨.hbm, 264, rfl⟩
abbrev main_v155 : Ref sig .tc := ⟨.hbm, 265, rfl⟩
abbrev main_call9_v0 : Ref sig .tc := ⟨.hbm, 266, rfl⟩
abbrev main_call9_v1 : Ref sig .tc := ⟨.hbm, 267, rfl⟩
abbrev main_call9_v2 : Ref sig .tc := ⟨.hbm, 268, rfl⟩
abbrev main_call9_v3 : Ref sig .tc := ⟨.hbm, 269, rfl⟩
abbrev main_call9_v4 : Ref sig .tc := ⟨.hbm, 270, rfl⟩
abbrev main_v156 : Ref sig .tc := ⟨.hbm, 271, rfl⟩
abbrev main_v157 : Ref sig .tc := ⟨.hbm, 272, rfl⟩
abbrev main_v158 : Ref sig .tc := ⟨.hbm, 273, rfl⟩
abbrev main_v159 : Ref sig .tc := ⟨.hbm, 274, rfl⟩
abbrev main_v160 : Ref sig .tc := ⟨.hbm, 275, rfl⟩
abbrev main_v161 : Ref sig .tc := ⟨.hbm, 276, rfl⟩
abbrev main_v162 : Ref sig .tc := ⟨.hbm, 277, rfl⟩
abbrev main_cst_21 : Ref sig .tc := ⟨.hbm, 278, rfl⟩
abbrev main_v163 : Ref sig .tc := ⟨.hbm, 279, rfl⟩
abbrev main_v164 : Ref sig .tc := ⟨.hbm, 280, rfl⟩
abbrev main_v165 : Ref sig .tc := ⟨.hbm, 281, rfl⟩
abbrev main_call10_v0 : Ref sig .tc := ⟨.hbm, 282, rfl⟩
abbrev main_call10_v1 : Ref sig .tc := ⟨.hbm, 283, rfl⟩
abbrev main_call10_v2 : Ref sig .tc := ⟨.hbm, 284, rfl⟩
abbrev main_call10_v3 : Ref sig .tc := ⟨.hbm, 285, rfl⟩
abbrev main_call10_v4 : Ref sig .tc := ⟨.hbm, 286, rfl⟩
abbrev main_v166 : Ref sig .tc := ⟨.hbm, 287, rfl⟩
abbrev main_v167 : Ref sig .tc := ⟨.hbm, 288, rfl⟩
abbrev main_v168 : Ref sig .tc := ⟨.hbm, 289, rfl⟩
abbrev main_v169 : Ref sig .tc := ⟨.hbm, 290, rfl⟩
abbrev main_v170 : Ref sig .tc := ⟨.hbm, 291, rfl⟩
abbrev main_v171 : Ref sig .tc := ⟨.hbm, 292, rfl⟩
abbrev main_v172 : Ref sig .tc := ⟨.hbm, 293, rfl⟩
abbrev main_cst_22 : Ref sig .tc := ⟨.hbm, 294, rfl⟩
abbrev main_v173 : Ref sig .tc := ⟨.hbm, 295, rfl⟩
abbrev main_v174 : Ref sig .tc := ⟨.hbm, 296, rfl⟩
abbrev main_v175 : Ref sig .tc := ⟨.hbm, 297, rfl⟩
abbrev main_v176 : Ref sig .tc := ⟨.hbm, 298, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S3x512x20x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x512x20x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x512x20x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x512x20x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.KernelFrame.Runs.lean ====
/- The frame of the kernel: its run with the contents of the outputs left open (copied from the generated modules). -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.FrameRun

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Pipeline.mem_restRefs_of main_arg0 (by decide) (by decide))).trans (V_main_arg0 m c),
      (Pipeline.RDat.FramePost.arr_in h c 0 rfl).trans ((hA c 0).trans (V_main_arg1 m c)),
      ((h c).2 main_arg2 (Pipeline.mem_restRefs_of main_arg2 (by decide) (by decide))).trans (V_main_arg2 m c),
      (Pipeline.RDat.FramePost.arr_in h c 4 rfl).trans ((hA c 4).trans (V_main_arg3 m c)),
      ((h c).2 main_arg4 (Pipeline.mem_restRefs_of main_arg4 (by decide) (by decide))).trans (V_main_arg4 m c),
      (Pipeline.RDat.FramePost.arr_in h c 1 rfl).trans ((hA c 1).trans (V_main_arg5 m c)),
      (Pipeline.RDat.FramePost.arr_in h c 6 rfl).trans ((hA c 6).trans (V_main_arg6 m c)),
      (Pipeline.RDat.FramePost.arr_in h c 7 rfl).trans ((hA c 7).trans (V_main_arg7 m c))⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — by arithmetic of the point. -/
theorem hcond0_0 : ∀ t : Fin cfg0.N, cond0_0 (grid0.coords t) ↔ t.val % 15 = 0 :=
  (fun t => by
    have ht : t.val < 15 := Nat.lt_of_lt_of_eq t.isLt N_0
    have e0 : (grid0.coords t 0).val = t.val / 3 % 5 := Pipeline.Grid.coords_val t 0 (by decide) rfl
    have e1 : (grid0.coords t 1).val = t.val / 1 % 3 := Pipeline.Grid.coords_val t 1 (by decide) rfl
    simp only [cond0_0, e0, e1]
    word_cmp
   : ∀ t : Fin grid0.N, cond0_0 (grid0.coords t) ↔ t.val % 15 = 0)

/-! ## The kernel body on any staging memrefs: a subtype the run finds -/

/-- Each window's current staging memref at point `t`, spelled as the pipeline passes it (`bodyAt0`), and its wholeness. -/
abbrev ms0_0 (t : Fin cfg0.N) : Memref sig .tc .smem S3x2x20 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S3x2x20 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x4x512x128 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x20x512 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S4x768x128 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x4x512x128 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x4x768x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S3x20x768 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x512x512 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x4x768x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S3x20x768 .f32 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S1280x256 .bf16 := Memref.whole cc0_scratch0
abbrev scM0_1 : Memref sig .tc .vmem S512x256 .bf16 := Memref.whole cc0_scratch1
abbrev scM0_2 : Memref sig .tc .vmem S1280x512 .f32 := Memref.whole cc0_scratch2
abbrev scM0_3 : Memref sig .tc .vmem S1280x512 .bf16 := Memref.whole cc0_scratch3
abbrev scM0_4 : Memref sig .tc .vmem S128x1280 .bf16 := Memref.whole cc0_scratch4
/-- The scratch `arg13` the kernel carries between points, as a view: what it holds is stated through it. -/
abbrev VS0_0 : View sig .tc .vmem S1280x256 .bf16 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.Kernel.FrameRun

end
-- ==== Proof.KernelFrame.RunA.lean ====
/- The frame of the kernel: its run with the contents of the outputs left open (copied from the generated modules). -/
module

public import proofs.«01_k».proof.Proof.KernelFrame.Runs

@[expose] public section

-- membership in a rectangle of production extents (`View.cover_of_tiled`): the elaborator's structural look
-- recurses once per coordinate of the long axes
set_option maxRecDepth 16384

noncomputable section

namespace Cert.Kernel.FrameRun

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 2512000 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (8, 9, 10) at anything, handed back at some contents nothing names. -/
noncomputable def kernelRun0_A (c : Dev nD) (i : grid0.Coords) (arg2 : Memref sig .tc .smem S3x2x20 .f32) (harg2 : arg2.IsWhole) (arg3 : Memref sig .tc .smem S3x2x20 .f32) (harg3 : arg3.IsWhole) (arg4 : Memref sig .tc .vmem S1x4x512x128 .fp8e4m3) (harg4 : arg4.IsWhole) (arg5 : Memref sig .tc .vmem S1x20x512 .i32) (harg5 : arg5.IsWhole) (arg6 : Memref sig .tc .vmem S4x768x128 .bf16) (harg6 : arg6.IsWhole) (arg7 : Memref sig .tc .vmem S1x4x512x128 .fp8e4m3) (harg7 : arg7.IsWhole) (arg8 : Memref sig .tc .vmem S1x4x768x128 .f32) (harg8 : arg8.IsWhole) (arg9 : Memref sig .tc .vmem S3x20x768 .f32) (harg9 : arg9.IsWhole) (arg10 : Memref sig .tc .vmem S1x512x512 .bf16) (harg10 : arg10.IsWhole) (arg11 : Memref sig .tc .vmem S1x4x768x128 .f32) (harg11 : arg11.IsWhole) (arg12 : Memref sig .tc .vmem S3x20x768 .f32) (harg12 : arg12.IsWhole) (arg13 : Memref sig .tc .vmem S1280x256 .bf16) (harg13 : arg13.IsWhole) (arg14 : Memref sig .tc .vmem S512x256 .bf16) (harg14 : arg14.IsWhole) (arg15 : Memref sig .tc .vmem S1280x512 .f32) (harg15 : arg15.IsWhole) (arg16 : Memref sig .tc .vmem S1280x512 .bf16) (harg16 : arg16.IsWhole) (arg17 : Memref sig .tc .vmem S128x1280 .bf16) (harg17 : arg17.IsWhole) (hc0 : cond0_0 i)
    (x0 : Vec F S3x2x20 .f32) (x1 : Vec F S3x2x20 .f32) (x2 : Vec F S1x4x512x128 .fp8e4m3) (x3 : Vec F S1x20x512 .i32) (x4 : Vec F S4x768x128 .bf16) (x5 : Vec F S1x4x512x128 .fp8e4m3) (x6 : Vec F S1x4x768x128 .f32) (x7 : Vec F S3x20x768 .f32) :
    { LS0 : List (View.Piece (Elt F) S1280x256 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ f, arg13.view.loc (c : Thread nD τ) ↦[arg13.view.set]{fullShare} arg13.view.writes (Elt F) f LS0) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
          ⊢ wp frame (wpE (defs₀ (F := F)) Variants.none c none) E (cc0_vq_attention i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, fun E K => ?run⟩
  case run =>
    simp only [cc0_vq_attention_eq_skeleton]; unfold cc0_vq_attention_skel
    simp only [k0_part41_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [HS0]; · iexists _; iexact HS0
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.Kernel.FrameRun

end
-- ==== Proof.KernelFrame.RunB.lean ====
/- The frame of the kernel: its run with the contents of the outputs left open (copied from the generated modules). -/
module

public import proofs.«01_k».proof.Proof.KernelFrame.RunA

@[expose] public section

-- membership in a rectangle of production extents (`View.cover_of_tiled`): the elaborator's structural look
-- recurses once per coordinate of the long axes
set_option maxRecDepth 16384

noncomputable section

namespace Cert.Kernel.FrameRun

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 2476000 in
/-- What the body's stores leave in each output's staging memref, as pieces (last first) IN CASE B (`scf.if` 0 not taken: points 1, 2, … 14: 14 of 15), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (8, 9, 10) at anything, handed back at some contents nothing names. -/
noncomputable def kernelRun0_B (c : Dev nD) (i : grid0.Coords) (arg2 : Memref sig .tc .smem S3x2x20 .f32) (harg2 : arg2.IsWhole) (arg3 : Memref sig .tc .smem S3x2x20 .f32) (harg3 : arg3.IsWhole) (arg4 : Memref sig .tc .vmem S1x4x512x128 .fp8e4m3) (harg4 : arg4.IsWhole) (arg5 : Memref sig .tc .vmem S1x20x512 .i32) (harg5 : arg5.IsWhole) (arg6 : Memref sig .tc .vmem S4x768x128 .bf16) (harg6 : arg6.IsWhole) (arg7 : Memref sig .tc .vmem S1x4x512x128 .fp8e4m3) (harg7 : arg7.IsWhole) (arg8 : Memref sig .tc .vmem S1x4x768x128 .f32) (harg8 : arg8.IsWhole) (arg9 : Memref sig .tc .vmem S3x20x768 .f32) (harg9 : arg9.IsWhole) (arg10 : Memref sig .tc .vmem S1x512x512 .bf16) (harg10 : arg10.IsWhole) (arg11 : Memref sig .tc .vmem S1x4x768x128 .f32) (harg11 : arg11.IsWhole) (arg12 : Memref sig .tc .vmem S3x20x768 .f32) (harg12 : arg12.IsWhole) (arg13 : Memref sig .tc .vmem S1280x256 .bf16) (harg13 : arg13.IsWhole) (arg14 : Memref sig .tc .vmem S512x256 .bf16) (harg14 : arg14.IsWhole) (arg15 : Memref sig .tc .vmem S1280x512 .f32) (harg15 : arg15.IsWhole) (arg16 : Memref sig .tc .vmem S1280x512 .bf16) (harg16 : arg16.IsWhole) (arg17 : Memref sig .tc .vmem S128x1280 .bf16) (harg17 : arg17.IsWhole) (hc0 : ¬cond0_0 i)
    (x0 : Vec F S3x2x20 .f32) (x1 : Vec F S3x2x20 .f32) (x2 : Vec F S1x4x512x128 .fp8e4m3) (x3 : Vec F S1x20x512 .i32) (x4 : Vec F S4x768x128 .bf16) (x5 : Vec F S1x4x512x128 .fp8e4m3) (x6 : Vec F S1x4x768x128 .f32) (x7 : Vec F S3x20x768 .f32) (xs0 : Vec F S1280x256 .bf16) :
    { LS0 : List (View.Piece (Elt F) S1280x256 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xs0 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (arg13.view.loc (c : Thread nD τ) ↦[arg13.view.set]{fullShare} arg13.view.writes (Elt F) (harg13.unread xs0) LS0) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
          ⊢ wp frame (wpE (defs₀ (F := F)) Variants.none c none) E (cc0_vq_attention i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, fun E K => ?run⟩
  case run =>
    simp only [cc0_vq_attention_eq_skeleton]; unfold cc0_vq_attention_skel
    simp only [k0_part41_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%fs0, %hfs0, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg13.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [HS0]; · iexact HS0
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.Kernel.FrameRun

end
-- ==== Proof.KernelFrame.lean ====
/- The frame of the kernel: its run with the contents of the outputs left open (copied from the generated modules). -/
module

public import proofs.«01_k».proof.Proof.KernelFrame.RunB
public import Idealize.ShloMosaic.Lib.Claim

@[expose] public section

-- membership in a rectangle of production extents (`View.cover_of_tiled`): the elaborator's structural look
-- recurses once per coordinate of the long axes
set_option maxRecDepth 16384

noncomputable section

namespace Cert.Kernel.FrameRun

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for scratch `arg13`, which the kernel carries between points, cover it: one of them a store of the WHOLE buffer (Lib/Ring.lean `sl_whole_mem`). -/
theorem scover0_A_0 (c : Dev nD) (i : grid0.Coords) (arg2 : Memref sig .tc .smem S3x2x20 .f32) (harg2 : arg2.IsWhole) (arg3 : Memref sig .tc .smem S3x2x20 .f32) (harg3 : arg3.IsWhole) (arg4 : Memref sig .tc .vmem S1x4x512x128 .fp8e4m3) (harg4 : arg4.IsWhole) (arg5 : Memref sig .tc .vmem S1x20x512 .i32) (harg5 : arg5.IsWhole) (arg6 : Memref sig .tc .vmem S4x768x128 .bf16) (harg6 : arg6.IsWhole) (arg7 : Memref sig .tc .vmem S1x4x512x128 .fp8e4m3) (harg7 : arg7.IsWhole) (arg8 : Memref sig .tc .vmem S1x4x768x128 .f32) (harg8 : arg8.IsWhole) (arg9 : Memref sig .tc .vmem S3x20x768 .f32) (harg9 : arg9.IsWhole) (arg10 : Memref sig .tc .vmem S1x512x512 .bf16) (harg10 : arg10.IsWhole) (arg11 : Memref sig .tc .vmem S1x4x768x128 .f32) (harg11 : arg11.IsWhole) (arg12 : Memref sig .tc .vmem S3x20x768 .f32) (harg12 : arg12.IsWhole) (arg13 : Memref sig .tc .vmem S1280x256 .bf16) (harg13 : arg13.IsWhole) (arg14 : Memref sig .tc .vmem S512x256 .bf16) (harg14 : arg14.IsWhole) (arg15 : Memref sig .tc .vmem S1280x512 .f32) (harg15 : arg15.IsWhole) (arg16 : Memref sig .tc .vmem S1280x512 .bf16) (harg16 : arg16.IsWhole) (arg17 : Memref sig .tc .vmem S128x1280 .bf16) (harg17 : arg17.IsWhole) (hc0 : cond0_0 i)
    (x0 : Vec F S3x2x20 .f32) (x1 : Vec F S3x2x20 .f32) (x2 : Vec F S1x4x512x128 .fp8e4m3) (x3 : Vec F S1x20x512 .i32) (x4 : Vec F S4x768x128 .bf16) (x5 : Vec F S1x4x512x128 .fp8e4m3) (x6 : Vec F S1x4x768x128 .f32) (x7 : Vec F S3x20x768 .f32) (y : S1280x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7).1, y ∈ pc.1.set :=
  View.cover_of_wholeMem (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7).1 (by sl_whole_mem) y

/-- What case A leaves in scratch `arg13`: its pieces read back over junk. -/
def sout0_A_0 (c : Dev nD) (i : grid0.Coords) (arg2 : Memref sig .tc .smem S3x2x20 .f32) (harg2 : arg2.IsWhole) (arg3 : Memref sig .tc .smem S3x2x20 .f32) (harg3 : arg3.IsWhole) (arg4 : Memref sig .tc .vmem S1x4x512x128 .fp8e4m3) (harg4 : arg4.IsWhole) (arg5 : Memref sig .tc .vmem S1x20x512 .i32) (harg5 : arg5.IsWhole) (arg6 : Memref sig .tc .vmem S4x768x128 .bf16) (harg6 : arg6.IsWhole) (arg7 : Memref sig .tc .vmem S1x4x512x128 .fp8e4m3) (harg7 : arg7.IsWhole) (arg8 : Memref sig .tc .vmem S1x4x768x128 .f32) (harg8 : arg8.IsWhole) (arg9 : Memref sig .tc .vmem S3x20x768 .f32) (harg9 : arg9.IsWhole) (arg10 : Memref sig .tc .vmem S1x512x512 .bf16) (harg10 : arg10.IsWhole) (arg11 : Memref sig .tc .vmem S1x4x768x128 .f32) (harg11 : arg11.IsWhole) (arg12 : Memref sig .tc .vmem S3x20x768 .f32) (harg12 : arg12.IsWhole) (arg13 : Memref sig .tc .vmem S1280x256 .bf16) (harg13 : arg13.IsWhole) (arg14 : Memref sig .tc .vmem S512x256 .bf16) (harg14 : arg14.IsWhole) (arg15 : Memref sig .tc .vmem S1280x512 .f32) (harg15 : arg15.IsWhole) (arg16 : Memref sig .tc .vmem S1280x512 .bf16) (harg16 : arg16.IsWhole) (arg17 : Memref sig .tc .vmem S128x1280 .bf16) (harg17 : arg17.IsWhole) (hc0 : cond0_0 i)
    (x0 : Vec F S3x2x20 .f32) (x1 : Vec F S3x2x20 .f32) (x2 : Vec F S1x4x512x128 .fp8e4m3) (x3 : Vec F S1x20x512 .i32) (x4 : Vec F S4x768x128 .bf16) (x5 : Vec F S1x4x512x128 .fp8e4m3) (x6 : Vec F S1x4x768x128 .f32) (x7 : Vec F S3x20x768 .f32) : Vec F S1280x256 .bf16 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7).1)

/-- What case B leaves in scratch `arg13`: its pieces (stores, a counted loop's segment) read back over what the point before left there, which it read first. -/
def sout0_B_0 (c : Dev nD) (i : grid0.Coords) (arg2 : Memref sig .tc .smem S3x2x20 .f32) (harg2 : arg2.IsWhole) (arg3 : Memref sig .tc .smem S3x2x20 .f32) (harg3 : arg3.IsWhole) (arg4 : Memref sig .tc .vmem S1x4x512x128 .fp8e4m3) (harg4 : arg4.IsWhole) (arg5 : Memref sig .tc .vmem S1x20x512 .i32) (harg5 : arg5.IsWhole) (arg6 : Memref sig .tc .vmem S4x768x128 .bf16) (harg6 : arg6.IsWhole) (arg7 : Memref sig .tc .vmem S1x4x512x128 .fp8e4m3) (harg7 : arg7.IsWhole) (arg8 : Memref sig .tc .vmem S1x4x768x128 .f32) (harg8 : arg8.IsWhole) (arg9 : Memref sig .tc .vmem S3x20x768 .f32) (harg9 : arg9.IsWhole) (arg10 : Memref sig .tc .vmem S1x512x512 .bf16) (harg10 : arg10.IsWhole) (arg11 : Memref sig .tc .vmem S1x4x768x128 .f32) (harg11 : arg11.IsWhole) (arg12 : Memref sig .tc .vmem S3x20x768 .f32) (harg12 : arg12.IsWhole) (arg13 : Memref sig .tc .vmem S1280x256 .bf16) (harg13 : arg13.IsWhole) (arg14 : Memref sig .tc .vmem S512x256 .bf16) (harg14 : arg14.IsWhole) (arg15 : Memref sig .tc .vmem S1280x512 .f32) (harg15 : arg15.IsWhole) (arg16 : Memref sig .tc .vmem S1280x512 .bf16) (harg16 : arg16.IsWhole) (arg17 : Memref sig .tc .vmem S128x1280 .bf16) (harg17 : arg17.IsWhole) (hc0 : ¬cond0_0 i)
    (x0 : Vec F S3x2x20 .f32) (x1 : Vec F S3x2x20 .f32) (x2 : Vec F S1x4x512x128 .fp8e4m3) (x3 : Vec F S1x20x512 .i32) (x4 : Vec F S4x768x128 .bf16) (x5 : Vec F S1x4x512x128 .fp8e4m3) (x6 : Vec F S1x4x768x128 .f32) (x7 : Vec F S3x20x768 .f32) (xs0 : Vec F S1280x256 .bf16) : Vec F S1280x256 .bf16 :=
  arg13.view.read (Elt F) (arg13.view.writes (Elt F) (harg13.unread xs0) (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xs0).1)

/-! ## What the outputs hold after each point -/

/-- THE ACCUMULATION. What the outputs' staging buffers and the scratch the kernel carries between points hold after the body at position `n`:
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1280x256 .bf16
  | 0, hn => sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩)
  | n + 1, hn =>
    if h0 : (n + 1) % 15 = 0 then
      sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩)
    else
      sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn))

/-- `outsAt0` at a point of case A: that case's contents. -/
theorem outsAt0_A (c : Dev nD) (t : Fin cfg0.N) (h0 : t.val % 15 = 0) :
    outsAt0 m c t.val t.isLt = sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 15 = 0) :
    outsAt0 m c t.val t.isLt = sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn)) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn)) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega))) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  cases n with
  | zero => exact absurd rfl hz
  | succ n => rfl

/-! ## The pipeline's proof data -/

/-- The output windows this certificate FORGETS (8, 9, 10): nothing reads what the kernel leaves in them, so nothing
    of it is named (Lib/Pipeline/Dat.lean `Dat.toRForget`). -/
def forgets0 : Fin 11 → Bool := fun w => w.val == 8 || w.val == 9 || w.val == 10

/-- The proof data of the one pipeline on core `c`: the arrays as the region finds them (`V`); after the body at
    point `t` each input's buffer at its block and the outputs, FORGOTTEN, at `Dat.unnamed`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare d)
    ∗ (∃ d, owns (c : Thread nD τ) (ms0_9 t) fullShare d)
    ∗ (∃ d, owns (c : Thread nD τ) (ms0_10 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ (∃ d, owns (c : Thread nD τ) (ms0_8 t) fullShare d)
    ∗ (∃ d, owns (c : Thread nD τ) (ms0_9 t) fullShare d)
    ∗ (∃ d, owns (c : Thread nD τ) (ms0_10 t) fullShare d))

set_option maxHeartbeats 12800000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl,
    after0_0, after0_1, after0_2, after0_3, after0_4, after0_5, after0_6, after0_7]
  rw [show (dats m 0 c).Φ t.succ = PhiS m c (t.val + 1) t.isLt from rfl, PhiS_succ]
  have hN : t.val < 15 := lt_of_lt_of_eq t.isLt (show cfg0.N = 15 from N_0)
  by_cases h0 : t.val % 15 = 0
  · by_cases hz : t.val = 0
    · rw [PhiS_castSucc m c t, PhiS_zero m c _ _ hz, PhiA0_eq]
      rw [outsAt0_A m c t h0]
      unfold sout0_A_0
      iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun0_A c (grid0.coords t) _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [HS0]; · iexact HS0
      isplitl [HS1]; · iexact HS1
      isplitl [HS2]; · iexact HS2
      isplitl [HS3]; · iexact HS3
      isplitl [HS4]; · iexact HS4
      iintro ⟨H0, H1, H2, H3, H4, H5, H6, H7, H8, H9, H10, ⟨%es0, HS0⟩, HS1, HS2, HS3, HS4⟩
      isplitl [HS0 HS1 HS2 HS3 HS4 Hg]
      · isplitl [HS0 HS1 HS2 HS3 HS4]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _ _ _ _ _ _ _)
          isplitl [HS1]
          · iexact HS1
          isplitl [HS2]
          · iexact HS2
          isplitl [HS3]
          · iexact HS3
          iexact HS4
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    · exfalso; have hN : t.val < 15 := lt_of_lt_of_eq t.isLt (show cfg0.N = 15 from N_0); omega
  · by_cases hz : t.val = 0
    · exfalso; have hN : t.val < 15 := lt_of_lt_of_eq t.isLt (show cfg0.N = 15 from N_0); omega
    · rw [PhiS_castSucc m c t, PhiS_pos m c _ _ hz]
      rw [outsAt0_B m c t h0]
      unfold sout0_B_0
      iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun0_B c (grid0.coords t) _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) _).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [HS0]; · iexact HS0
      isplitl [HS1]; · iexact HS1
      isplitl [HS2]; · iexact HS2
      isplitl [HS3]; · iexact HS3
      isplitl [HS4]; · iexact HS4
      iintro ⟨H0, H1, H2, H3, H4, H5, H6, H7, H8, H9, H10, HS0, HS1, HS2, HS3, HS4⟩
      isplitl [HS0 HS1 HS2 HS3 HS4 Hg]
      · isplitl [HS0 HS1 HS2 HS3 HS4]
        · isplitl [HS0]
          · unfold owns; iexists _; isplitr
            swap; · iexact HS0
            ipureintro; rfl
          isplitl [HS1]
          · iexact HS1
          isplitl [HS2]
          · iexact HS2
          isplitl [HS3]
          · iexact HS3
          iexact HS4
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4⟩, Hg⟩
  isplitl [HS0 HS1 HS2 HS3 HS4]
  · isplitl [HS0]
    · iexists _; iexact HS0
    isplitl [HS1]
    · iexact HS1
    isplitl [HS2]
    · iexact HS2
    isplitl [HS3]
    · iexact HS3
    iexact HS4
  iexact Hg

/-- The same after the last point. -/
theorem hout (c : Dev nD) : (dats m 0 c).Φ (Fin.last cfg0.N) ⊢ Pipeline.ΦA spec0 c :=
  Phi_out m c _ (by rw [Fin.val_last]; have : cfg0.N = 15 := N_0; omega)

/-! ## The run and the frame -/

-- `θ_run_frame_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (windows 8, 9, 10) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.Kernel.FrameRun

end
-- ==== Proof.KernelIdealFrame.Runs.lean ====
/- The frame of the kernel: its run with the contents of the outputs left open (copied from the generated modules). -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.FrameRun

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_KernelIdeal`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Pipeline.mem_restRefs_of main_arg0 (by decide) (by decide))).trans (V_main_arg0 m c),
      (Pipeline.RDat.FramePost.arr_in h c 0 rfl).trans ((hA c 0).trans (V_main_arg1 m c)),
      ((h c).2 main_arg2 (Pipeline.mem_restRefs_of main_arg2 (by decide) (by decide))).trans (V_main_arg2 m c),
      (Pipeline.RDat.FramePost.arr_in h c 4 rfl).trans ((hA c 4).trans (V_main_arg3 m c)),
      ((h c).2 main_arg4 (Pipeline.mem_restRefs_of main_arg4 (by decide) (by decide))).trans (V_main_arg4 m c),
      (Pipeline.RDat.FramePost.arr_in h c 1 rfl).trans ((hA c 1).trans (V_main_arg5 m c)),
      (Pipeline.RDat.FramePost.arr_in h c 6 rfl).trans ((hA c 6).trans (V_main_arg6 m c)),
      (Pipeline.RDat.FramePost.arr_in h c 7 rfl).trans ((hA c 7).trans (V_main_arg7 m c))⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — by arithmetic of the point. -/
theorem hcond0_0 : ∀ t : Fin cfg0.N, cond0_0 (grid0.coords t) ↔ t.val % 15 = 0 :=
  (fun t => by
    have ht : t.val < 15 := Nat.lt_of_lt_of_eq t.isLt N_0
    have e0 : (grid0.coords t 0).val = t.val / 3 % 5 := Pipeline.Grid.coords_val t 0 (by decide) rfl
    have e1 : (grid0.coords t 1).val = t.val / 1 % 3 := Pipeline.Grid.coords_val t 1 (by decide) rfl
    simp only [cond0_0, e0, e1]
    word_cmp
   : ∀ t : Fin grid0.N, cond0_0 (grid0.coords t) ↔ t.val % 15 = 0)

/-! ## The kernel body on any staging memrefs: a subtype the run finds -/

/-- Each window's current staging memref at point `t`, spelled as the pipeline passes it (`bodyAt0`), and its wholeness. -/
abbrev ms0_0 (t : Fin cfg0.N) : Memref sig .tc .smem S3x2x20 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S3x2x20 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x4x512x128 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x20x512 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S4x768x128 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x4x512x128 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x4x768x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S3x20x768 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x512x512 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x4x768x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S3x20x768 .f32 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S1280x256 .bf16 := Memref.whole cc0_scratch0
abbrev scM0_1 : Memref sig .tc .vmem S512x256 .bf16 := Memref.whole cc0_scratch1
abbrev scM0_2 : Memref sig .tc .vmem S1280x512 .f32 := Memref.whole cc0_scratch2
abbrev scM0_3 : Memref sig .tc .vmem S1280x512 .bf16 := Memref.whole cc0_scratch3
abbrev scM0_4 : Memref sig .tc .vmem S128x1280 .bf16 := Memref.whole cc0_scratch4
/-- The scratch `arg13` the kernel carries between points, as a view: what it holds is stated through it. -/
abbrev VS0_0 : View sig .tc .vmem S1280x256 .bf16 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.KernelIdeal.FrameRun

end
-- ==== Proof.KernelIdealFrame.RunA.lean ====
/- The frame of the kernel: its run with the contents of the outputs left open (copied from the generated modules). -/
module

public import proofs.«01_k».proof.Proof.KernelIdealFrame.Runs

@[expose] public section

-- membership in a rectangle of production extents (`View.cover_of_tiled`): the elaborator's structural look
-- recurses once per coordinate of the long axes
set_option maxRecDepth 16384

noncomputable section

namespace Cert.KernelIdeal.FrameRun

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 2512000 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (8, 9, 10) at anything, handed back at some contents nothing names. -/
noncomputable def kernelRun0_A (c : Dev nD) (i : grid0.Coords) (arg2 : Memref sig .tc .smem S3x2x20 .f32) (harg2 : arg2.IsWhole) (arg3 : Memref sig .tc .smem S3x2x20 .f32) (harg3 : arg3.IsWhole) (arg4 : Memref sig .tc .vmem S1x4x512x128 .fp8e4m3) (harg4 : arg4.IsWhole) (arg5 : Memref sig .tc .vmem S1x20x512 .i32) (harg5 : arg5.IsWhole) (arg6 : Memref sig .tc .vmem S4x768x128 .bf16) (harg6 : arg6.IsWhole) (arg7 : Memref sig .tc .vmem S1x4x512x128 .fp8e4m3) (harg7 : arg7.IsWhole) (arg8 : Memref sig .tc .vmem S1x4x768x128 .f32) (harg8 : arg8.IsWhole) (arg9 : Memref sig .tc .vmem S3x20x768 .f32) (harg9 : arg9.IsWhole) (arg10 : Memref sig .tc .vmem S1x512x512 .bf16) (harg10 : arg10.IsWhole) (arg11 : Memref sig .tc .vmem S1x4x768x128 .f32) (harg11 : arg11.IsWhole) (arg12 : Memref sig .tc .vmem S3x20x768 .f32) (harg12 : arg12.IsWhole) (arg13 : Memref sig .tc .vmem S1280x256 .bf16) (harg13 : arg13.IsWhole) (arg14 : Memref sig .tc .vmem S512x256 .bf16) (harg14 : arg14.IsWhole) (arg15 : Memref sig .tc .vmem S1280x512 .f32) (harg15 : arg15.IsWhole) (arg16 : Memref sig .tc .vmem S1280x512 .bf16) (harg16 : arg16.IsWhole) (arg17 : Memref sig .tc .vmem S128x1280 .bf16) (harg17 : arg17.IsWhole) (hc0 : cond0_0 i)
    (x0 : Vec F S3x2x20 .f32) (x1 : Vec F S3x2x20 .f32) (x2 : Vec F S1x4x512x128 .fp8e4m3) (x3 : Vec F S1x20x512 .i32) (x4 : Vec F S4x768x128 .bf16) (x5 : Vec F S1x4x512x128 .fp8e4m3) (x6 : Vec F S1x4x768x128 .f32) (x7 : Vec F S3x20x768 .f32) :
    { LS0 : List (View.Piece (Elt F) S1280x256 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ f, arg13.view.loc (c : Thread nD τ) ↦[arg13.view.set]{fullShare} arg13.view.writes (Elt F) f LS0) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
          ⊢ wp frame (wpE (defs₀ (F := F)) Variants.none c none) E (cc0_vq_attention i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, fun E K => ?run⟩
  case run =>
    simp only [cc0_vq_attention_eq_skeleton]; unfold cc0_vq_attention_skel
    simp only [k0_part41_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [HS0]; · iexists _; iexact HS0
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.KernelIdeal.FrameRun

end
-- ==== Proof.KernelIdealFrame.RunB.lean ====
/- The frame of the kernel: its run with the contents of the outputs left open (copied from the generated modules). -/
module

public import proofs.«01_k».proof.Proof.KernelIdealFrame.RunA

@[expose] public section

-- membership in a rectangle of production extents (`View.cover_of_tiled`): the elaborator's structural look
-- recurses once per coordinate of the long axes
set_option maxRecDepth 16384

noncomputable section

namespace Cert.KernelIdeal.FrameRun

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 2476000 in
/-- What the body's stores leave in each output's staging memref, as pieces (last first) IN CASE B (`scf.if` 0 not taken: points 1, 2, … 14: 14 of 15), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (8, 9, 10) at anything, handed back at some contents nothing names. -/
noncomputable def kernelRun0_B (c : Dev nD) (i : grid0.Coords) (arg2 : Memref sig .tc .smem S3x2x20 .f32) (harg2 : arg2.IsWhole) (arg3 : Memref sig .tc .smem S3x2x20 .f32) (harg3 : arg3.IsWhole) (arg4 : Memref sig .tc .vmem S1x4x512x128 .fp8e4m3) (harg4 : arg4.IsWhole) (arg5 : Memref sig .tc .vmem S1x20x512 .i32) (harg5 : arg5.IsWhole) (arg6 : Memref sig .tc .vmem S4x768x128 .bf16) (harg6 : arg6.IsWhole) (arg7 : Memref sig .tc .vmem S1x4x512x128 .fp8e4m3) (harg7 : arg7.IsWhole) (arg8 : Memref sig .tc .vmem S1x4x768x128 .f32) (harg8 : arg8.IsWhole) (arg9 : Memref sig .tc .vmem S3x20x768 .f32) (harg9 : arg9.IsWhole) (arg10 : Memref sig .tc .vmem S1x512x512 .bf16) (harg10 : arg10.IsWhole) (arg11 : Memref sig .tc .vmem S1x4x768x128 .f32) (harg11 : arg11.IsWhole) (arg12 : Memref sig .tc .vmem S3x20x768 .f32) (harg12 : arg12.IsWhole) (arg13 : Memref sig .tc .vmem S1280x256 .bf16) (harg13 : arg13.IsWhole) (arg14 : Memref sig .tc .vmem S512x256 .bf16) (harg14 : arg14.IsWhole) (arg15 : Memref sig .tc .vmem S1280x512 .f32) (harg15 : arg15.IsWhole) (arg16 : Memref sig .tc .vmem S1280x512 .bf16) (harg16 : arg16.IsWhole) (arg17 : Memref sig .tc .vmem S128x1280 .bf16) (harg17 : arg17.IsWhole) (hc0 : ¬cond0_0 i)
    (x0 : Vec F S3x2x20 .f32) (x1 : Vec F S3x2x20 .f32) (x2 : Vec F S1x4x512x128 .fp8e4m3) (x3 : Vec F S1x20x512 .i32) (x4 : Vec F S4x768x128 .bf16) (x5 : Vec F S1x4x512x128 .fp8e4m3) (x6 : Vec F S1x4x768x128 .f32) (x7 : Vec F S3x20x768 .f32) (xs0 : Vec F S1280x256 .bf16) :
    { LS0 : List (View.Piece (Elt F) S1280x256 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xs0 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (arg13.view.loc (c : Thread nD τ) ↦[arg13.view.set]{fullShare} arg13.view.writes (Elt F) (harg13.unread xs0) LS0) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
          ⊢ wp frame (wpE (defs₀ (F := F)) Variants.none c none) E (cc0_vq_attention i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, fun E K => ?run⟩
  case run =>
    simp only [cc0_vq_attention_eq_skeleton]; unfold cc0_vq_attention_skel
    simp only [k0_part41_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%fs0, %hfs0, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg13.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [HS0]; · iexact HS0
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.KernelIdeal.FrameRun

end
-- ==== Proof.KernelIdealFrame.lean ====
/- The frame of the kernel: its run with the contents of the outputs left open (copied from the generated modules). -/
module

public import proofs.«01_k».proof.Proof.KernelIdealFrame.RunB
public import Idealize.ShloMosaic.Lib.Claim

@[expose] public section

-- membership in a rectangle of production extents (`View.cover_of_tiled`): the elaborator's structural look
-- recurses once per coordinate of the long axes
set_option maxRecDepth 16384

noncomputable section

namespace Cert.KernelIdeal.FrameRun

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- Case A's pieces for scratch `arg13`, which the kernel carries between points, cover it: one of them a store of the WHOLE buffer (Lib/Ring.lean `sl_whole_mem`). -/
theorem scover0_A_0 (c : Dev nD) (i : grid0.Coords) (arg2 : Memref sig .tc .smem S3x2x20 .f32) (harg2 : arg2.IsWhole) (arg3 : Memref sig .tc .smem S3x2x20 .f32) (harg3 : arg3.IsWhole) (arg4 : Memref sig .tc .vmem S1x4x512x128 .fp8e4m3) (harg4 : arg4.IsWhole) (arg5 : Memref sig .tc .vmem S1x20x512 .i32) (harg5 : arg5.IsWhole) (arg6 : Memref sig .tc .vmem S4x768x128 .bf16) (harg6 : arg6.IsWhole) (arg7 : Memref sig .tc .vmem S1x4x512x128 .fp8e4m3) (harg7 : arg7.IsWhole) (arg8 : Memref sig .tc .vmem S1x4x768x128 .f32) (harg8 : arg8.IsWhole) (arg9 : Memref sig .tc .vmem S3x20x768 .f32) (harg9 : arg9.IsWhole) (arg10 : Memref sig .tc .vmem S1x512x512 .bf16) (harg10 : arg10.IsWhole) (arg11 : Memref sig .tc .vmem S1x4x768x128 .f32) (harg11 : arg11.IsWhole) (arg12 : Memref sig .tc .vmem S3x20x768 .f32) (harg12 : arg12.IsWhole) (arg13 : Memref sig .tc .vmem S1280x256 .bf16) (harg13 : arg13.IsWhole) (arg14 : Memref sig .tc .vmem S512x256 .bf16) (harg14 : arg14.IsWhole) (arg15 : Memref sig .tc .vmem S1280x512 .f32) (harg15 : arg15.IsWhole) (arg16 : Memref sig .tc .vmem S1280x512 .bf16) (harg16 : arg16.IsWhole) (arg17 : Memref sig .tc .vmem S128x1280 .bf16) (harg17 : arg17.IsWhole) (hc0 : cond0_0 i)
    (x0 : Vec F S3x2x20 .f32) (x1 : Vec F S3x2x20 .f32) (x2 : Vec F S1x4x512x128 .fp8e4m3) (x3 : Vec F S1x20x512 .i32) (x4 : Vec F S4x768x128 .bf16) (x5 : Vec F S1x4x512x128 .fp8e4m3) (x6 : Vec F S1x4x768x128 .f32) (x7 : Vec F S3x20x768 .f32) (y : S1280x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7).1, y ∈ pc.1.set :=
  View.cover_of_wholeMem (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7).1 (by sl_whole_mem) y

/-- What case A leaves in scratch `arg13`: its pieces read back over junk. -/
def sout0_A_0 (c : Dev nD) (i : grid0.Coords) (arg2 : Memref sig .tc .smem S3x2x20 .f32) (harg2 : arg2.IsWhole) (arg3 : Memref sig .tc .smem S3x2x20 .f32) (harg3 : arg3.IsWhole) (arg4 : Memref sig .tc .vmem S1x4x512x128 .fp8e4m3) (harg4 : arg4.IsWhole) (arg5 : Memref sig .tc .vmem S1x20x512 .i32) (harg5 : arg5.IsWhole) (arg6 : Memref sig .tc .vmem S4x768x128 .bf16) (harg6 : arg6.IsWhole) (arg7 : Memref sig .tc .vmem S1x4x512x128 .fp8e4m3) (harg7 : arg7.IsWhole) (arg8 : Memref sig .tc .vmem S1x4x768x128 .f32) (harg8 : arg8.IsWhole) (arg9 : Memref sig .tc .vmem S3x20x768 .f32) (harg9 : arg9.IsWhole) (arg10 : Memref sig .tc .vmem S1x512x512 .bf16) (harg10 : arg10.IsWhole) (arg11 : Memref sig .tc .vmem S1x4x768x128 .f32) (harg11 : arg11.IsWhole) (arg12 : Memref sig .tc .vmem S3x20x768 .f32) (harg12 : arg12.IsWhole) (arg13 : Memref sig .tc .vmem S1280x256 .bf16) (harg13 : arg13.IsWhole) (arg14 : Memref sig .tc .vmem S512x256 .bf16) (harg14 : arg14.IsWhole) (arg15 : Memref sig .tc .vmem S1280x512 .f32) (harg15 : arg15.IsWhole) (arg16 : Memref sig .tc .vmem S1280x512 .bf16) (harg16 : arg16.IsWhole) (arg17 : Memref sig .tc .vmem S128x1280 .bf16) (harg17 : arg17.IsWhole) (hc0 : cond0_0 i)
    (x0 : Vec F S3x2x20 .f32) (x1 : Vec F S3x2x20 .f32) (x2 : Vec F S1x4x512x128 .fp8e4m3) (x3 : Vec F S1x20x512 .i32) (x4 : Vec F S4x768x128 .bf16) (x5 : Vec F S1x4x512x128 .fp8e4m3) (x6 : Vec F S1x4x768x128 .f32) (x7 : Vec F S3x20x768 .f32) : Vec F S1280x256 .bf16 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7).1)

/-- What case B leaves in scratch `arg13`: its pieces (stores, a counted loop's segment) read back over what the point before left there, which it read first. -/
def sout0_B_0 (c : Dev nD) (i : grid0.Coords) (arg2 : Memref sig .tc .smem S3x2x20 .f32) (harg2 : arg2.IsWhole) (arg3 : Memref sig .tc .smem S3x2x20 .f32) (harg3 : arg3.IsWhole) (arg4 : Memref sig .tc .vmem S1x4x512x128 .fp8e4m3) (harg4 : arg4.IsWhole) (arg5 : Memref sig .tc .vmem S1x20x512 .i32) (harg5 : arg5.IsWhole) (arg6 : Memref sig .tc .vmem S4x768x128 .bf16) (harg6 : arg6.IsWhole) (arg7 : Memref sig .tc .vmem S1x4x512x128 .fp8e4m3) (harg7 : arg7.IsWhole) (arg8 : Memref sig .tc .vmem S1x4x768x128 .f32) (harg8 : arg8.IsWhole) (arg9 : Memref sig .tc .vmem S3x20x768 .f32) (harg9 : arg9.IsWhole) (arg10 : Memref sig .tc .vmem S1x512x512 .bf16) (harg10 : arg10.IsWhole) (arg11 : Memref sig .tc .vmem S1x4x768x128 .f32) (harg11 : arg11.IsWhole) (arg12 : Memref sig .tc .vmem S3x20x768 .f32) (harg12 : arg12.IsWhole) (arg13 : Memref sig .tc .vmem S1280x256 .bf16) (harg13 : arg13.IsWhole) (arg14 : Memref sig .tc .vmem S512x256 .bf16) (harg14 : arg14.IsWhole) (arg15 : Memref sig .tc .vmem S1280x512 .f32) (harg15 : arg15.IsWhole) (arg16 : Memref sig .tc .vmem S1280x512 .bf16) (harg16 : arg16.IsWhole) (arg17 : Memref sig .tc .vmem S128x1280 .bf16) (harg17 : arg17.IsWhole) (hc0 : ¬cond0_0 i)
    (x0 : Vec F S3x2x20 .f32) (x1 : Vec F S3x2x20 .f32) (x2 : Vec F S1x4x512x128 .fp8e4m3) (x3 : Vec F S1x20x512 .i32) (x4 : Vec F S4x768x128 .bf16) (x5 : Vec F S1x4x512x128 .fp8e4m3) (x6 : Vec F S1x4x768x128 .f32) (x7 : Vec F S3x20x768 .f32) (xs0 : Vec F S1280x256 .bf16) : Vec F S1280x256 .bf16 :=
  arg13.view.read (Elt F) (arg13.view.writes (Elt F) (harg13.unread xs0) (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xs0).1)

/-! ## What the outputs hold after each point -/

/-- THE ACCUMULATION. What the outputs' staging buffers and the scratch the kernel carries between points hold after the body at position `n`:
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1280x256 .bf16
  | 0, hn => sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩)
  | n + 1, hn =>
    if h0 : (n + 1) % 15 = 0 then
      sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩)
    else
      sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn))

/-- `outsAt0` at a point of case A: that case's contents. -/
theorem outsAt0_A (c : Dev nD) (t : Fin cfg0.N) (h0 : t.val % 15 = 0) :
    outsAt0 m c t.val t.isLt = sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 15 = 0) :
    outsAt0 m c t.val t.isLt = sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn)) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn)) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega))) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  cases n with
  | zero => exact absurd rfl hz
  | succ n => rfl

/-! ## The pipeline's proof data -/

/-- The output windows this certificate FORGETS (8, 9, 10): nothing reads what the kernel leaves in them, so nothing
    of it is named (Lib/Pipeline/Dat.lean `Dat.toRForget`). -/
def forgets0 : Fin 11 → Bool := fun w => w.val == 8 || w.val == 9 || w.val == 10

/-- The proof data of the one pipeline on core `c`: the arrays as the region finds them (`V`); after the body at
    point `t` each input's buffer at its block and the outputs, FORGOTTEN, at `Dat.unnamed`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare d)
    ∗ (∃ d, owns (c : Thread nD τ) (ms0_9 t) fullShare d)
    ∗ (∃ d, owns (c : Thread nD τ) (ms0_10 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ (∃ d, owns (c : Thread nD τ) (ms0_8 t) fullShare d)
    ∗ (∃ d, owns (c : Thread nD τ) (ms0_9 t) fullShare d)
    ∗ (∃ d, owns (c : Thread nD τ) (ms0_10 t) fullShare d))

set_option maxHeartbeats 12800000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl,
    after0_0, after0_1, after0_2, after0_3, after0_4, after0_5, after0_6, after0_7]
  rw [show (dats m 0 c).Φ t.succ = PhiS m c (t.val + 1) t.isLt from rfl, PhiS_succ]
  have hN : t.val < 15 := lt_of_lt_of_eq t.isLt (show cfg0.N = 15 from N_0)
  by_cases h0 : t.val % 15 = 0
  · by_cases hz : t.val = 0
    · rw [PhiS_castSucc m c t, PhiS_zero m c _ _ hz, PhiA0_eq]
      rw [outsAt0_A m c t h0]
      unfold sout0_A_0
      iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun0_A c (grid0.coords t) _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [HS0]; · iexact HS0
      isplitl [HS1]; · iexact HS1
      isplitl [HS2]; · iexact HS2
      isplitl [HS3]; · iexact HS3
      isplitl [HS4]; · iexact HS4
      iintro ⟨H0, H1, H2, H3, H4, H5, H6, H7, H8, H9, H10, ⟨%es0, HS0⟩, HS1, HS2, HS3, HS4⟩
      isplitl [HS0 HS1 HS2 HS3 HS4 Hg]
      · isplitl [HS0 HS1 HS2 HS3 HS4]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _ _ _ _ _ _ _)
          isplitl [HS1]
          · iexact HS1
          isplitl [HS2]
          · iexact HS2
          isplitl [HS3]
          · iexact HS3
          iexact HS4
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    · exfalso; have hN : t.val < 15 := lt_of_lt_of_eq t.isLt (show cfg0.N = 15 from N_0); omega
  · by_cases hz : t.val = 0
    · exfalso; have hN : t.val < 15 := lt_of_lt_of_eq t.isLt (show cfg0.N = 15 from N_0); omega
    · rw [PhiS_castSucc m c t, PhiS_pos m c _ _ hz]
      rw [outsAt0_B m c t h0]
      unfold sout0_B_0
      iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun0_B c (grid0.coords t) _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) _).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [HS0]; · iexact HS0
      isplitl [HS1]; · iexact HS1
      isplitl [HS2]; · iexact HS2
      isplitl [HS3]; · iexact HS3
      isplitl [HS4]; · iexact HS4
      iintro ⟨H0, H1, H2, H3, H4, H5, H6, H7, H8, H9, H10, HS0, HS1, HS2, HS3, HS4⟩
      isplitl [HS0 HS1 HS2 HS3 HS4 Hg]
      · isplitl [HS0 HS1 HS2 HS3 HS4]
        · isplitl [HS0]
          · unfold owns; iexists _; isplitr
            swap; · iexact HS0
            ipureintro; rfl
          isplitl [HS1]
          · iexact HS1
          isplitl [HS2]
          · iexact HS2
          isplitl [HS3]
          · iexact HS3
          iexact HS4
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4⟩, Hg⟩
  isplitl [HS0 HS1 HS2 HS3 HS4]
  · isplitl [HS0]
    · iexists _; iexact HS0
    isplitl [HS1]
    · iexact HS1
    isplitl [HS2]
    · iexact HS2
    isplitl [HS3]
    · iexact HS3
    iexact HS4
  iexact Hg

/-- The same after the last point. -/
theorem hout (c : Dev nD) : (dats m 0 c).Φ (Fin.last cfg0.N) ⊢ Pipeline.ΦA spec0 c :=
  Phi_out m c _ (by rw [Fin.val_last]; have : cfg0.N = 15 := N_0; omega)

/-! ## The run and the frame -/

-- `θ_run_frame_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (windows 8, 9, 10) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (fun c => (dats m 0 c).toRForget forgets0) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.KernelIdeal.FrameRun

end
-- ==== Proof.Math.lean ====
/- The attention weights: a softmax whose scores carry the log of a count, at base two and with its scale folded in, is
   the softmax of the scores weighted by the counts. Also, facts about sums and suprema over rows. -/
module

public import Idealize.ShloMosaic.Lib.Pointwise

@[expose] public section

noncomputable section

namespace Cert.KernelIdeal.Hand

open Idealize.ShloMosaic

/-! ### The exponential -/

theorem exp_bot : Ideal.exp ⊥ = 0 := rfl
theorem exp_coe (r : ℝ) : Ideal.exp (r : EReal) = ((Real.exp r : ℝ) : EReal) := rfl

/-- A power of two with the exponent over the log of two is the exponential. -/
theorem exp2_mul (y : EReal) (a : ℝ) (ha : 0 < a) :
    Ideal.exp2 (y * ((a : EReal) * (((Real.log 2)⁻¹ : ℝ) : EReal))) = Ideal.exp (y * (a : EReal)) := by
  have hl : 0 < Real.log 2 := Real.log_pos (by norm_num)
  have hp : 0 < a * (Real.log 2)⁻¹ := by positivity
  rw [← EReal.coe_mul]
  induction y with
  | bot => rw [EReal.bot_mul_coe_of_pos hp, EReal.bot_mul_coe_of_pos ha]; rfl
  | top => rw [EReal.top_mul_coe_of_pos hp, EReal.top_mul_coe_of_pos ha]; rfl
  | coe r =>
    rw [← EReal.coe_mul, ← EReal.coe_mul]
    show ((Real.rpow 2 _ : ℝ) : EReal) = ((Real.exp _ : ℝ) : EReal)
    congr 1
    rw [show Real.rpow 2 (r * (a * (Real.log 2)⁻¹)) = (2 : ℝ) ^ (r * (a * (Real.log 2)⁻¹)) from rfl, Real.rpow_def_of_pos (by norm_num)]
    congr 1
    field_simp

theorem sub_mul_coe (x y : EReal) (a : ℝ) (ha : 0 < a) : (x - y) * (a : EReal) = x * (a : EReal) - y * (a : EReal) := by
  rw [sub_eq_add_neg, sub_eq_add_neg, mul_comm, EReal.left_distrib_of_nonneg_of_ne_top (by exact_mod_cast ha.le) (EReal.coe_ne_top a),
    mul_comm, mul_comm (a : EReal) (-y), EReal.neg_mul]

/-- A sum times a finite number that is not negative. -/
theorem sum_mul_coe {ι : Type} (s : Finset ι) (f : ι → EReal) (a : ℝ) (ha : 0 ≤ a) :
    (∑ i ∈ s, f i) * (a : EReal) = ∑ i ∈ s, f i * (a : EReal) := by
  classical
  induction s using Finset.induction_on with
  | empty => simp
  | insert i s hi ih =>
    rw [Finset.sum_insert hi, Finset.sum_insert hi, ← ih, mul_comm,
      EReal.left_distrib_of_nonneg_of_ne_top (by exact_mod_cast ha) (EReal.coe_ne_top a), mul_comm, mul_comm (a : EReal)]

theorem coe_sum' {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-! ### The softmax -/

section Softmax

variable {J : Type} [Fintype J]

/-- The weights of the scores `s`, each counted `c` times, over their sum, applied to `y`. -/
def attn (s c y : J → EReal) : EReal :=
  let e := fun j => Ideal.exp (s j - Finset.univ.sup s)
  let den := ∑ j, e j * c j
  ∑ j, Ideal.div (e j) (if 0 < den then den else 1) * y j

theorem exp_sub_bot_top (x M : EReal) (h : M = ⊤ ∨ (M = ⊥ ∧ x = ⊥)) : Ideal.exp (x - M) = 0 := by
  rcases h with rfl | ⟨rfl, rfl⟩
  · rw [sub_eq_add_neg, EReal.neg_top, EReal.add_bot]; rfl
  · rw [sub_eq_add_neg, EReal.bot_add]; rfl

/-- A score that carries the log of its count. -/
def withLog (s c : J → EReal) (j : J) : EReal := if 0 < c j then s j + Ideal.log (c j) else ⊥

theorem exists_eq_sup [Nonempty J] (f : J → EReal) : ∃ j, Finset.univ.sup f = f j := by
  obtain ⟨j, -, h⟩ := Finset.exists_mem_eq_sup Finset.univ Finset.univ_nonempty f
  exact ⟨j, h⟩

/-- The softmax of the scores with the logs of their counts is the one weighted by the counts. -/
theorem attn_log [Nonempty J] (s c y y' : J → EReal)
    (hc : ∀ j, c j < ⊤) (hdead : ∀ j, ¬ 0 < c j → s j = ⊥)
    (hy : ∀ j, y' j = y j * (if 0 < c j then Ideal.div 1 (c j) else 0)) :
    (∑ j, y' j * Ideal.exp (withLog s c j - Finset.univ.sup (withLog s c)))
      * Ideal.div 1 (∑ j, Ideal.exp (withLog s c j - Finset.univ.sup (withLog s c))) = attn s c y := by
  classical
  -- the log of a count that counts
  have hlog : ∀ j, 0 < c j → ∃ r : ℝ, 0 < r ∧ c j = (r : EReal) ∧ Ideal.log (c j) = ((Real.log r : ℝ) : EReal) := fun j hj => by
    have hr : ∃ r : ℝ, c j = (r : EReal) := by
      refine ⟨(c j).toReal, (EReal.coe_toReal (hc j).ne ?_).symm⟩
      intro h; rw [h] at hj; exact absurd hj (by simp)
    obtain ⟨r, hr⟩ := hr
    have h0 : 0 < r := by rw [hr] at hj; exact_mod_cast hj
    refine ⟨r, h0, hr, ?_⟩
    rw [hr]
    show (if r ≤ 0 then (⊥ : EReal) else ((Real.log r : ℝ) : EReal)) = _
    rw [if_neg (not_le.2 h0)]
  set M := Finset.univ.sup s with hM
  set M' := Finset.univ.sup (withLog s c) with hM'
  have hle : ∀ j, s j ≤ M := fun j => Finset.le_sup (Finset.mem_univ j)
  have hle' : ∀ j, withLog s c j ≤ M' := fun j => Finset.le_sup (Finset.mem_univ j)
  -- a score is infinite with its log as without
  have hbot : ∀ j, withLog s c j = ⊥ ↔ s j = ⊥ := fun j => by
    unfold withLog
    split_ifs with h
    · obtain ⟨r, -, -, h2⟩ := hlog j h
      rw [h2]
      constructor
      · intro h; rw [EReal.add_eq_bot_iff] at h; simpa using h
      · intro h; rw [h, EReal.bot_add]
    · simp [hdead j h]
  have htop : ∀ j, withLog s c j = ⊤ ↔ s j = ⊤ := fun j => by
    unfold withLog
    split_ifs with h
    · obtain ⟨r, -, -, h2⟩ := hlog j h
      rw [h2]
      constructor
      · intro h
        by_contra hne
        exact absurd h (EReal.add_lt_top hne (EReal.coe_ne_top _)).ne
      · intro h; rw [h]; exact EReal.top_add_coe _
    · rw [hdead j h]
  -- every weight is zero where the supremum is infinite
  have zero (hz : M = ⊤ ∨ M = ⊥) : (∑ j, y' j * Ideal.exp (withLog s c j - M')) * Ideal.div 1 (∑ j, Ideal.exp (withLog s c j - M')) = attn s c y := by
    have h1 : ∀ j, Ideal.exp (s j - M) = 0 := fun j => exp_sub_bot_top _ _ (hz.imp id fun h => ⟨h, le_bot_iff.1 (h ▸ hle j)⟩)
    have h2 : ∀ j, Ideal.exp (withLog s c j - M') = 0 := fun j => by
      refine exp_sub_bot_top _ _ ?_
      rcases hz with h | h
      · left
        obtain ⟨k, hk⟩ := exists_eq_sup s
        rw [← hM, h] at hk
        exact top_le_iff.1 ((htop k).2 hk.symm ▸ hle' k)
      · right
        have hall : ∀ k, withLog s c k = ⊥ := fun k => (hbot k).2 (le_bot_iff.1 (h ▸ hle k))
        refine ⟨?_, hall j⟩
        obtain ⟨k, hk⟩ := exists_eq_sup (withLog s c)
        rw [hM', hk, hall]
    unfold attn
    simp only [← hM, h1, h2, mul_zero, zero_mul, Finset.sum_const_zero, lt_irrefl, if_false]
    symm
    refine Finset.sum_eq_zero fun j _ => ?_
    have : Ideal.div 0 1 = 0 := by
      show (if (1 : EReal) = 0 then _ else (0 : EReal) * (1 : EReal)⁻¹) = 0
      rw [if_neg one_ne_zero, zero_mul]
    rw [this, zero_mul]
  by_cases h1 : M = ⊤
  · exact zero (.inl h1)
  by_cases h2 : M = ⊥
  · exact zero (.inr h2)
  -- the suprema are finite
  obtain ⟨m, hm⟩ : ∃ m : ℝ, M = (m : EReal) := ⟨M.toReal, (EReal.coe_toReal h1 h2).symm⟩
  obtain ⟨m', hm'⟩ : ∃ m' : ℝ, M' = (m' : EReal) := by
    refine ⟨M'.toReal, (EReal.coe_toReal ?_ ?_).symm⟩
    · obtain ⟨k, hk⟩ := exists_eq_sup (withLog s c)
      rw [hM', hk]
      intro h
      exact h1 (top_le_iff.1 ((htop k).1 h ▸ hle k))
    · intro h
      obtain ⟨k, hk⟩ := exists_eq_sup s
      apply h2
      rw [hM, hk, ← hbot k]
      exact le_bot_iff.1 (h ▸ hle' k)
  -- the weights as reals
  let e : J → ℝ := fun j => if s j = ⊥ then 0 else Real.exp ((s j).toReal - m)
  let w : J → ℝ := fun j => if 0 < c j then (c j).toReal else 0
  have he : ∀ j, Ideal.exp (s j - M) = (e j : EReal) := fun j => by
    by_cases h : s j = ⊥
    · rw [h, sub_eq_add_neg, EReal.bot_add]
      simp [e, h, exp_bot]
    · have ht : s j ≠ ⊤ := fun h => h1 (top_le_iff.1 (h ▸ hle j))
      rw [hm, ← EReal.coe_toReal ht h, ← EReal.coe_sub, exp_coe]
      simp [e, h]
  have hw : ∀ j, Ideal.exp (s j - M) * c j = ((e j * w j : ℝ) : EReal) := fun j => by
    by_cases h : 0 < c j
    · obtain ⟨r, hr, h3, -⟩ := hlog j h
      have : w j = r := by simp [w, h, h3]; intro h; exact absurd hr (not_lt.2 h)
      rw [he, this, h3, EReal.coe_mul]
    · have : e j = 0 := by simp [e, hdead j h]
      rw [he, this]; simp
  let k : ℝ := Real.exp (m - m')
  have hk : 0 < k := Real.exp_pos _
  have hE : ∀ j, Ideal.exp (withLog s c j - M') = ((e j * w j * k : ℝ) : EReal) := fun j => by
    by_cases h : s j = ⊥
    · have : e j = 0 := by simp [e, h]
      rw [(hbot j).2 h, sub_eq_add_neg, EReal.bot_add, exp_bot, this]; simp
    · have hcj : 0 < c j := by by_contra hh; exact h (hdead j hh)
      obtain ⟨r, hr, h3, h4⟩ := hlog j hcj
      have ht : s j ≠ ⊤ := fun h => h1 (top_le_iff.1 (h ▸ hle j))
      have hwj : w j = r := by simp [w, hcj, h3]; intro h; exact absurd hr (not_lt.2 h)
      have : withLog s c j = (((s j).toReal + Real.log r : ℝ) : EReal) := by
        unfold withLog
        rw [if_pos hcj, h4, EReal.coe_add, EReal.coe_toReal ht h]
      rw [this, hm', ← EReal.coe_sub, exp_coe, hwj]
      congr 1
      have hej : e j = Real.exp ((s j).toReal - m) := by simp [e, h]
      rw [hej]
      show _ = _ * r * Real.exp (m - m')
      rw [mul_comm _ r, ← Real.exp_log hr, mul_assoc, ← Real.exp_add, ← Real.exp_add, Real.log_exp]
      congr 1; ring
  let D : ℝ := ∑ j, e j * w j
  have hD : 0 < D := by
    have hnn : ∀ j, 0 ≤ e j * w j := fun j => by
      refine mul_nonneg ?_ ?_
      · simp only [e]; split_ifs; exacts [le_rfl, (Real.exp_pos _).le]
      · simp only [w]; split_ifs with h; exacts [EReal.toReal_nonneg h.le, le_rfl]
    obtain ⟨j, hj⟩ := exists_eq_sup s
    have hjb : s j ≠ ⊥ := by rw [← hj]; exact h2
    have hcj : 0 < c j := by by_contra hh; exact hjb (hdead j hh)
    obtain ⟨r, hr, h3, -⟩ := hlog j hcj
    refine Finset.sum_pos' (fun j _ => hnn j) ⟨j, Finset.mem_univ _, ?_⟩
    refine mul_pos ?_ ?_
    · simp only [e, hjb, if_false]; exact Real.exp_pos _
    · simp only [w]; rw [if_pos hcj, h3]; exact hr
  have hden : ∑ j, Ideal.exp (s j - M) * c j = (D : EReal) := by
    simp only [hw]; rw [← coe_sum']
  have hden' : ∑ j, Ideal.exp (withLog s c j - M') = ((D * k : ℝ) : EReal) := by
    simp only [hE]; rw [← coe_sum', ← Finset.sum_mul]
  have hDk : 0 < D * k := mul_pos hD hk
  have hdiv : ∀ (x r : ℝ), 0 < r → Ideal.div (x : EReal) (r : EReal) = ((x / r : ℝ) : EReal) := fun x r hr => by
    show (if (r : EReal) = 0 then _ else (x : EReal) * (r : EReal)⁻¹) = _
    rw [if_neg (by exact_mod_cast hr.ne'), ← EReal.coe_inv, ← EReal.coe_mul, div_eq_mul_inv]
  have hone : Ideal.div 1 ((D * k : ℝ) : EReal) = ((1 / (D * k) : ℝ) : EReal) := hdiv 1 _ hDk
  unfold attn
  simp only [← hM]
  rw [hden, hden', hone, if_pos (by exact_mod_cast hD), sum_mul_coe _ _ _ (by positivity)]
  refine Finset.sum_congr rfl fun j _ => ?_
  rw [hE, he, hdiv _ _ hD, hy]
  by_cases hcj : 0 < c j
  · obtain ⟨r, hr, h3, -⟩ := hlog j hcj
    have hwj : w j = r := by simp [w, hcj, h3]; intro h; exact absurd hr (not_lt.2 h)
    rw [if_pos hcj, h3, show Ideal.div 1 (r : EReal) = ((1 / r : ℝ) : EReal) from hdiv 1 r hr, hwj, mul_assoc, mul_assoc, mul_comm, ← EReal.coe_mul, ← EReal.coe_mul]
    congr 2
    field_simp
  · have : e j = 0 := by simp [e, hdead j hcj]
    rw [this]; simp

end Softmax

/-! ### Rows past the block -/

theorem sup_rows {n p : ℕ} (hp : p + 128 ≤ n) (f : Fin n → EReal) (hz : ∀ r : Fin n, p + 128 ≤ r.val → f r = ⊥) :
    Finset.univ.sup f = max (Finset.univ.sup fun r : Fin p => f ⟨r.val, by omega⟩) (Finset.univ.sup fun r : Fin 128 => f ⟨p + r.val, by omega⟩) := by
  apply le_antisymm
  · refine Finset.sup_le fun r _ => ?_
    by_cases h1 : r.val < p
    · exact le_max_of_le_left (Finset.le_sup (f := fun r : Fin p => f ⟨r.val, by omega⟩) (Finset.mem_univ ⟨r.val, h1⟩))
    by_cases h2 : r.val < p + 128
    · refine le_max_of_le_right ?_
      have := Finset.le_sup (f := fun r : Fin 128 => f ⟨p + r.val, by omega⟩) (Finset.mem_univ ⟨r.val - p, by omega⟩)
      refine le_trans (le_of_eq (congrArg f (Fin.ext ?_))) this
      show r.val = p + (r.val - p)
      omega
    · rw [hz r (by omega)]; exact bot_le
  · exact max_le (Finset.sup_le fun r _ => Finset.le_sup (Finset.mem_univ _)) (Finset.sup_le fun r _ => Finset.le_sup (Finset.mem_univ _))

theorem sum_first {n p : ℕ} (hp : p ≤ n) (f : Fin n → EReal) (hz : ∀ r : Fin n, p ≤ r.val → f r = 0) :
    ∑ r, f r = ∑ r : Fin p, f ⟨r.val, by omega⟩ := by
  obtain ⟨m, rfl⟩ := Nat.exists_eq_add_of_le hp
  rw [Fin.sum_univ_add]
  rw [show (∑ i : Fin m, f (Fin.natAdd p i)) = 0 from Finset.sum_eq_zero fun i _ => hz _ (by simp)]
  rw [add_zero]
  rfl

theorem sum_rows {n p : ℕ} (hp : p + 128 ≤ n) (f : Fin n → EReal) (hz : ∀ r : Fin n, p + 128 ≤ r.val → f r = 0) :
    ∑ r, f r = (∑ r : Fin p, f ⟨r.val, by omega⟩) + ∑ r : Fin 128, f ⟨p + r.val, by omega⟩ := by
  rw [sum_first hp f hz, Fin.sum_univ_add]
  rfl

end Cert.KernelIdeal.Hand
-- ==== Proof.Rows.lean ====
/- The scores, counts and values that one query's attention runs over: the codes, then the tokens. -/
module

public import proofs.«01_k».proof.Proof.Math

@[expose] public section

noncomputable section

namespace Cert.KernelIdeal.Hand

open Idealize.ShloMosaic

/-- The scores of a query token, scaled and masked: the codes, then the key tokens. -/
def scoreRow (g : Fin 768 → EReal) (cnt : Fin 768 → EReal) (kc : Fin 512 → Fin 768) (a : EReal) (t : Fin 512) (r : Fin 1280) : EReal :=
  if h : r.val < 768 then (if 0 < cnt ⟨r.val, h⟩ then g ⟨r.val, h⟩ * a else ⊥)
  else if r.val - 768 ≤ t.val then g (kc ⟨r.val - 768, by omega⟩) * a else ⊥
/-- How often each score counts. -/
def countRow (cnt : Fin 768 → EReal) (r : Fin 1280) : EReal := if h : r.val < 768 then cnt ⟨r.val, h⟩ else 1
/-- What the weights are applied to. -/
def valueRow (u : Fin 768 → EReal) (v : Fin 512 → EReal) (r : Fin 1280) : EReal :=
  if h : r.val < 768 then u ⟨r.val, h⟩ else v ⟨r.val - 768, by omega⟩

end Cert.KernelIdeal.Hand

end
-- ==== Proof.Spec.lean ====
/- What the three results are, in closed form over the eight arguments. -/
module

public import proofs.«01_k».proof.Proof.Rows

@[expose] public section

noncomputable section

namespace Cert.Spec

open Idealize.ShloMosaic Cert.KernelIdeal.Hand

/-- The eight arguments, each as a function of its indices. -/
structure In where
  q : Fin 3 → Fin 512 → Fin 20 → Fin 128 → EReal
  qs : Fin 3 → Fin 2 → Fin 20 → EReal
  k : Fin 3 → Fin 512 → Fin 20 → BitVec 32
  cb : Fin 20 → Fin 768 → Fin 128 → EReal
  v : Fin 3 → Fin 512 → Fin 20 → Fin 128 → EReal
  vs : Fin 3 → Fin 2 → Fin 20 → EReal
  u : Fin 3 → Fin 20 → Fin 768 → Fin 128 → EReal
  cnt : Fin 3 → Fin 20 → Fin 768 → EReal

variable (A : In)

/-- The block of tokens a token lies in. -/
def blkOf (t : Fin 512) : Fin 2 := if t.val < 384 then 0 else 1
/-- The code of a token, as a row of the codebook. -/
def In.kc (b : Fin 3) (H : Fin 20) (s : Fin 512) : Fin 768 := ⟨(A.k b s H).toNat % 768, Nat.mod_lt _ (by norm_num)⟩
/-- The inner products of a query with the codebook. -/
def In.g (b : Fin 3) (H : Fin 20) (t : Fin 512) (n : Fin 768) : EReal := ∑ d : Fin 128, A.cb H n d * A.q b t H d
/-- What a query's scores are multiplied by. -/
def In.sc (b : Fin 3) (H : Fin 20) (t : Fin 512) : EReal := A.qs b (blkOf t) H * Ideal.ofBits .f32 0x3DB504F3#32
/-- The scaled values. -/
def In.vv (b : Fin 3) (H : Fin 20) (s : Fin 512) (d : Fin 128) : EReal := A.v b s H d * A.vs b (blkOf s) H
/-- One where a token's code is `n`. -/
def In.hot (b : Fin 3) (H : Fin 20) (s : Fin 512) (n : Fin 768) : EReal := if A.k b s H = BitVec.ofNat 32 n.val then 1 else 0

/-- The attention output. -/
def In.O (b : Fin 3) (H : Fin 20) (t : Fin 512) (d : Fin 128) : EReal :=
  attn (scoreRow (A.g b H t) (A.cnt b H) (A.kc b H) (A.sc b H t) t) (countRow (A.cnt b H)) (valueRow (fun n => A.u b H n d) (fun s => A.vv b H s d))
/-- The sums of values per code. -/
def In.U (b : Fin 3) (H : Fin 20) (n : Fin 768) (d : Fin 128) : EReal := A.u b H n d + ∑ s : Fin 512, A.vv b H s d * A.hot b H s n
/-- The counts per code. -/
def In.C (b : Fin 3) (H : Fin 20) (n : Fin 768) : EReal := A.cnt b H n + ∑ s : Fin 512, A.hot b H s n

/-- What the claim asks of the arguments. -/
structure In.Ok : Prop where
  hqs : ∀ b j H, ∃ r : ℝ, 0 < r ∧ A.qs b j H = (r : EReal)
  hvs : ∀ b j H, ∃ r : ℝ, 0 ≤ r ∧ A.vs b j H = (r : EReal)
  hk : ∀ b H s, A.k b s H = BitVec.ofNat 32 (A.kc b H s).val
  hc : ∀ b H n, A.cnt b H n < ⊤

end Cert.Spec

end
-- ==== Proof.Head.lean ====
/- One head of the kernel, written once for all four heads of a group: the values it stores as functions of what it has
   loaded, and its loads and stores in order. -/
module

public import proofs.«01_k».proof.Proof.Gen.KernelIdeal.Frame
public import Idealize.ShloMosaic.Lib.VecWindow

@[expose] public section

set_option maxRecDepth 16384

noncomputable section

namespace Cert.KernelIdeal.Hand

open Idealize.ShloMosaic Idealize.ShloMosaic.TcCoe Idealize.SL.Sem Cert.KernelIdeal Cert.KernelIdeal.Gen

variable {F : FTy → Type} [FloatOps F] [Named F]

theorem inb_cb (j : Fin 4) : ∀ a, (![j.val, 0, 0] : Fin 3 → ℕ) a + S1x768x128.size a ≤ S4x768x128.size a :=
  match j with
  | 0 => inb_S4x768x128_S1x768x128_0_0_0 | 1 => inb_S4x768x128_S1x768x128_1_0_0
  | 2 => inb_S4x768x128_S1x768x128_2_0_0 | 3 => inb_S4x768x128_S1x768x128_3_0_0
theorem inb_q (j : Fin 4) : ∀ a, (![0, j.val, 0, 0] : Fin 4 → ℕ) a + S1x1x512x128.size a ≤ S1x4x512x128.size a :=
  match j with
  | 0 => inb_S1x4x512x128_S1x1x512x128_0_0_0_0 | 1 => inb_S1x4x512x128_S1x1x512x128_0_1_0_0
  | 2 => inb_S1x4x512x128_S1x1x512x128_0_2_0_0 | 3 => inb_S1x4x512x128_S1x1x512x128_0_3_0_0
theorem inb_u (j : Fin 4) : ∀ a, (![0, j.val, 0, 0] : Fin 4 → ℕ) a + S1x1x768x128.size a ≤ S1x4x768x128.size a :=
  match j with
  | 0 => inb_S1x4x768x128_S1x1x768x128_0_0_0_0 | 1 => inb_S1x4x768x128_S1x1x768x128_0_1_0_0
  | 2 => inb_S1x4x768x128_S1x1x768x128_0_2_0_0 | 3 => inb_S1x4x768x128_S1x1x768x128_0_3_0_0
theorem inb_v0 (j : Fin 4) : ∀ a, (![0, j.val, 0, 0] : Fin 4 → ℕ) a + S1x1x384x128.size a ≤ S1x4x512x128.size a :=
  match j with
  | 0 => inb_S1x4x512x128_S1x1x384x128_0_0_0_0 | 1 => inb_S1x4x512x128_S1x1x384x128_0_1_0_0
  | 2 => inb_S1x4x512x128_S1x1x384x128_0_2_0_0 | 3 => inb_S1x4x512x128_S1x1x384x128_0_3_0_0
theorem inb_v1 (j : Fin 4) : ∀ a, (![0, j.val, 384, 0] : Fin 4 → ℕ) a + S1x1x128x128.size a ≤ S1x4x512x128.size a :=
  match j with
  | 0 => inb_S1x4x512x128_S1x1x128x128_0_0_384_0 | 1 => inb_S1x4x512x128_S1x1x128x128_0_1_384_0
  | 2 => inb_S1x4x512x128_S1x1x128x128_0_2_384_0 | 3 => inb_S1x4x512x128_S1x1x128x128_0_3_384_0
theorem inb_o0 (j : Fin 4) : ∀ a, (![0, 0, 128 * j.val] : Fin 3 → ℕ) a + S1x128x128.size a ≤ S1x512x512.size a :=
  match j with
  | 0 => inb_S1x512x512_S1x128x128_0_0_0 | 1 => inb_S1x512x512_S1x128x128_0_0_128 | 2 => inb_S1x512x512_S1x128x128_0_0_256 | 3 => inb_S1x512x512_S1x128x128_0_0_384
theorem pk_o0 (j : Fin 4) : (Rect.unit (s := S1x512x512) ![0, 0, 128 * j.val] S1x128x128.size (inb_o0 j)).PackedRows (EltTy.packing .bf16) :=
  match j with
  | 0 => packedbf16_S1x512x512_S1x128x128_0_0_0 | 1 => packedbf16_S1x512x512_S1x128x128_0_0_128 | 2 => packedbf16_S1x512x512_S1x128x128_0_0_256 | 3 => packedbf16_S1x512x512_S1x128x128_0_0_384
theorem inb_o128 (j : Fin 4) : ∀ a, (![0, 128, 128 * j.val] : Fin 3 → ℕ) a + S1x128x128.size a ≤ S1x512x512.size a :=
  match j with
  | 0 => inb_S1x512x512_S1x128x128_0_128_0 | 1 => inb_S1x512x512_S1x128x128_0_128_128 | 2 => inb_S1x512x512_S1x128x128_0_128_256 | 3 => inb_S1x512x512_S1x128x128_0_128_384
theorem pk_o128 (j : Fin 4) : (Rect.unit (s := S1x512x512) ![0, 128, 128 * j.val] S1x128x128.size (inb_o128 j)).PackedRows (EltTy.packing .bf16) :=
  match j with
  | 0 => packedbf16_S1x512x512_S1x128x128_0_128_0 | 1 => packedbf16_S1x512x512_S1x128x128_0_128_128 | 2 => packedbf16_S1x512x512_S1x128x128_0_128_256 | 3 => packedbf16_S1x512x512_S1x128x128_0_128_384
theorem inb_o256 (j : Fin 4) : ∀ a, (![0, 256, 128 * j.val] : Fin 3 → ℕ) a + S1x128x128.size a ≤ S1x512x512.size a :=
  match j with
  | 0 => inb_S1x512x512_S1x128x128_0_256_0 | 1 => inb_S1x512x512_S1x128x128_0_256_128 | 2 => inb_S1x512x512_S1x128x128_0_256_256 | 3 => inb_S1x512x512_S1x128x128_0_256_384
theorem pk_o256 (j : Fin 4) : (Rect.unit (s := S1x512x512) ![0, 256, 128 * j.val] S1x128x128.size (inb_o256 j)).PackedRows (EltTy.packing .bf16) :=
  match j with
  | 0 => packedbf16_S1x512x512_S1x128x128_0_256_0 | 1 => packedbf16_S1x512x512_S1x128x128_0_256_128 | 2 => packedbf16_S1x512x512_S1x128x128_0_256_256 | 3 => packedbf16_S1x512x512_S1x128x128_0_256_384
theorem inb_o384 (j : Fin 4) : ∀ a, (![0, 384, 128 * j.val] : Fin 3 → ℕ) a + S1x128x128.size a ≤ S1x512x512.size a :=
  match j with
  | 0 => inb_S1x512x512_S1x128x128_0_384_0 | 1 => inb_S1x512x512_S1x128x128_0_384_128 | 2 => inb_S1x512x512_S1x128x128_0_384_256 | 3 => inb_S1x512x512_S1x128x128_0_384_384
theorem pk_o384 (j : Fin 4) : (Rect.unit (s := S1x512x512) ![0, 384, 128 * j.val] S1x128x128.size (inb_o384 j)).PackedRows (EltTy.packing .bf16) :=
  match j with
  | 0 => packedbf16_S1x512x512_S1x128x128_0_384_0 | 1 => packedbf16_S1x512x512_S1x128x128_0_384_128 | 2 => packedbf16_S1x512x512_S1x128x128_0_384_256 | 3 => packedbf16_S1x512x512_S1x128x128_0_384_384

/-- The value `%62` of a head, of what the head has loaded. -/
def p62 (v20 : Vec F S1x1x512 .i32) : FVec F S512x768 .bf16 :=
  have v21 : IVec S1x512 32 := shapeCast S1x512 v20 shapeCasts_S1x1x512_S1x512
  have v22 : IVec S1x512 32 := shapeCast S1x512 v21 shapeCasts_S1x512_S1x512
  have v23 : IVec S128x512 32 := broadcastTo S128x512 v22 broadcasts_S1x512_S128x512
  have v24 : IVec S512x128 32 := transpose S512x128 [1, 0] v23 transposes_S128x512_p1_0_S512x128
  have v25 : IVec S512x128 32 := iota .tc S512x128 32 [1] iota_S512x128_d1_w32
  have c0_i32_7 : BitVec 32 := 0#32
  have v26 : IVec S512x128 32 := broadcast S512x128 c0_i32_7
  have v27 : IVec S512x128 32 := addi v25 v26
  have v28 : IVec S512x128 1 := cmpi .eq v24 v27
  have v29 : IVec S512x128 32 := extui 32 v28 natLt_1_32
  have v30 : FVec F S512x128 .f32 := sitofp .f32 v29
  have v31 : FVec F S512x128 .bf16 := truncf .bf16 v30 bitsLt_bf16_f32
  have c128_i32 : BitVec 32 := 128#32
  have v32 : IVec S512x128 32 := broadcast S512x128 c128_i32
  have v33 : IVec S512x128 32 := addi v25 v32
  have v34 : IVec S512x128 1 := cmpi .eq v24 v33
  have v35 : IVec S512x128 32 := extui 32 v34 natLt_1_32
  have v36 : FVec F S512x128 .f32 := sitofp .f32 v35
  have v37 : FVec F S512x128 .bf16 := truncf .bf16 v36 bitsLt_bf16_f32
  have c256_i32 : BitVec 32 := 256#32
  have v38 : IVec S512x128 32 := broadcast S512x128 c256_i32
  have v39 : IVec S512x128 32 := addi v25 v38
  have v40 : IVec S512x128 1 := cmpi .eq v24 v39
  have v41 : IVec S512x128 32 := extui 32 v40 natLt_1_32
  have v42 : FVec F S512x128 .f32 := sitofp .f32 v41
  have v43 : FVec F S512x128 .bf16 := truncf .bf16 v42 bitsLt_bf16_f32
  have c384_i32 : BitVec 32 := 384#32
  have v44 : IVec S512x128 32 := broadcast S512x128 c384_i32
  have v45 : IVec S512x128 32 := addi v25 v44
  have v46 : IVec S512x128 1 := cmpi .eq v24 v45
  have v47 : IVec S512x128 32 := extui 32 v46 natLt_1_32
  have v48 : FVec F S512x128 .f32 := sitofp .f32 v47
  have v49 : FVec F S512x128 .bf16 := truncf .bf16 v48 bitsLt_bf16_f32
  have c512_i32 : BitVec 32 := 512#32
  have v50 : IVec S512x128 32 := broadcast S512x128 c512_i32
  have v51 : IVec S512x128 32 := addi v25 v50
  have v52 : IVec S512x128 1 := cmpi .eq v24 v51
  have v53 : IVec S512x128 32 := extui 32 v52 natLt_1_32
  have v54 : FVec F S512x128 .f32 := sitofp .f32 v53
  have v55 : FVec F S512x128 .bf16 := truncf .bf16 v54 bitsLt_bf16_f32
  have c640_i32 : BitVec 32 := 640#32
  have v56 : IVec S512x128 32 := broadcast S512x128 c640_i32
  have v57 : IVec S512x128 32 := addi v25 v56
  have v58 : IVec S512x128 1 := cmpi .eq v24 v57
  have v59 : IVec S512x128 32 := extui 32 v58 natLt_1_32
  have v60 : FVec F S512x128 .f32 := sitofp .f32 v59
  have v61 : FVec F S512x128 .bf16 := truncf .bf16 v60 bitsLt_bf16_f32
  concatenate S512x768 1 [⟨S512x128, v31⟩, ⟨S512x128, v37⟩, ⟨S512x128, v43⟩, ⟨S512x128, v49⟩, ⟨S512x128, v55⟩, ⟨S512x128, v61⟩] concatenates_S512x128_S512x128_S512x128_S512x128_S512x128_S512x128_S512x768_d1

/-- The value `%64` of a head, of what the head has loaded. -/
def p64 (v63 : Vec F S1x768x128 .bf16) : FVec F S768x128 .bf16 :=
  shapeCast S768x128 v63 shapeCasts_S1x768x128_S768x128

/-- The value `%68` of a head, of what the head has loaded. -/
def p68 (v67 : Vec F S1x1x768 .f32) : FVec F S1x768 .f32 :=
  shapeCast S1x768 v67 shapeCasts_S1x1x768_S1x768

/-- The value `%70` of a head, of what the head has loaded. -/
def p70 (v67 : Vec F S1x1x768 .f32) : IVec S1x768 1 :=
  have cst : F .f32 := Scalar.ofBits .f32 0x00000000#32
  have v69 : FVec F S1x768 .f32 := broadcast S1x768 cst
  cmpf .ogt (p68 v67) v69

/-- The value `%77` of a head, of what the head has loaded. -/
def p77 (v67 : Vec F S1x1x768 .f32) : FVec F S1x768 .f32 :=
  have cst_12 : F .f32 := Scalar.ofBits .f32 0x3F800000#32
  have v71 : FVec F S1x768 .f32 := broadcast S1x768 cst_12
  have v72 : FVec F S1x768 .f32 := select (p70 v67) (p68 v67) v71
  have v73 : FVec F S1x768 .f32 := log v72
  have cst_13 : F .f32 := Named.named κ "inv_scale" 0x413504F3#32
  have v74 : FVec F S1x768 .f32 := broadcast S1x768 cst_13
  have v75 : FVec F S1x768 .f32 := mulf v73 v74
  have cst_14 : F .f32 := Named.named κ "masked" 0xF1800000#32
  have v76 : FVec F S1x768 .f32 := broadcast S1x768 cst_14
  select (p70 v67) v75 v76

/-- The value `%79` of a head, of what the head has loaded. -/
def p79 (v67 : Vec F S1x1x768 .f32) : FVec F S1x768 .f32 :=
  have v78 : FVec F S1x768 .bf16 := truncf .bf16 (p77 v67) bitsLt_bf16_f32
  extf .f32 v78 bitsLt_bf16_f32

/-- The value `%82` of a head, of what the head has loaded. -/
def p82 (v67 : Vec F S1x1x768 .f32) : FVec F S1x768 .f32 :=
  have v80 : FVec F S1x768 .f32 := subf (p77 v67) (p79 v67)
  have v81 : FVec F S1x768 .bf16 := truncf .bf16 v80 bitsLt_bf16_f32
  extf .f32 v81 bitsLt_bf16_f32

/-- The value `%85` of a head, of what the head has loaded. -/
def p85 (v67 : Vec F S1x1x768 .f32) : FVec F S1x768 .f32 :=
  have v80 : FVec F S1x768 .f32 := subf (p77 v67) (p79 v67)
  have v83 : FVec F S1x768 .f32 := subf v80 (p82 v67)
  have v84 : FVec F S1x768 .bf16 := truncf .bf16 v83 bitsLt_bf16_f32
  extf .f32 v84 bitsLt_bf16_f32

/-- The value `%87` of a head, of what the head has loaded. -/
def p87 (v67 : Vec F S1x1x768 .f32) : FVec F S16x768 .f32 :=
  have cst_15 : F .f32 := Scalar.ofBits .f32 0x00000000#32
  have v86 : FVec F S1x768 .f32 := broadcast S1x768 cst_15
  concatenate S16x768 0 [⟨S1x768, (p79 v67)⟩, ⟨S1x768, (p82 v67)⟩, ⟨S1x768, (p85 v67)⟩, ⟨S1x768, (p79 v67)⟩, ⟨S1x768, (p82 v67)⟩, ⟨S1x768, (p79 v67)⟩, ⟨S1x768, v86⟩, ⟨S1x768, v86⟩, ⟨S1x768, v86⟩, ⟨S1x768, v86⟩, ⟨S1x768, v86⟩, ⟨S1x768, v86⟩, ⟨S1x768, v86⟩, ⟨S1x768, v86⟩, ⟨S1x768, v86⟩, ⟨S1x768, v86⟩] concatenates_S1x768_S1x768_S1x768_S1x768_S1x768_S1x768_S1x768_S1x768_S1x768_S1x768_S1x768_S1x768_S1x768_S1x768_S1x768_S1x768_S16x768_d0

/-- The value `%90` of a head, of what the head has loaded. -/
def p90 (v63 : Vec F S1x768x128 .bf16) : FVec F S768x128 .bf16 :=
  shapeCast S768x128 (p64 v63) shapeCasts_S768x128_S768x128

/-- The value `%95` of a head, of what the head has loaded. -/
def p95 (v67 : Vec F S1x1x768 .f32) : FVec F S768x16 .bf16 :=
  have v91 : FVec F S768x16 .f32 := transpose S768x16 [1, 0] (p87 v67) transposes_S16x768_p1_0_S768x16
  have v92 : FVec F S768x16 .bf16 := truncf .bf16 v91 bitsLt_bf16_f32
  shapeCast S768x16 v92 shapeCasts_S768x16_S768x16

/-- The value `%97` of a head, of what the head has loaded. -/
def p97 (v20 : Vec F S1x1x512 .i32) (v63 : Vec F S1x768x128 .bf16) : FVec F S512x128 .bf16 :=
  have cst_19 : FVec F S512x128 .f32 := constant S512x128 .f32 0x00000000#32
  have v96 : FVec F S512x128 .f32 := matmul dot_S512x768_S768x128_S512x128_1_0_0_1_n_n none (p62 v20) (p64 v63) cst_19
  truncf .bf16 v96 bitsLt_bf16_f32

/-- The value `%100` of a head, of what the head has loaded. -/
def p100 (v20 : Vec F S1x1x512 .i32) (v63 : Vec F S1x768x128 .bf16) : FVec F S512x128 .bf16 :=
  shapeCast S512x128 (p97 v20 v63) shapeCasts_S512x128_S512x128

/-- The value `%106` of a head, of what the head has loaded. -/
def p106 (v101 : Vec F S1x1x512x128 .fp8e4m3) : FVec F S512x128 .bf16 :=
  have v102 : FVec F S512x128 .fp8e4m3 := shapeCast S512x128 v101 shapeCasts_S1x1x512x128_S512x128
  have v103 : FVec F S512x128 .bf16 := extf .bf16 v102 bitsLt_fp8e4m3_bf16
  shapeCast S512x128 v103 shapeCasts_S512x128_S512x128

/-- The value `%110` of a head, of what the head has loaded. -/
def p110 (v9 : Elt F .f32) : FVec F S16x128 .f32 :=
  have v108 : FVec F S16x128 .f32 := broadcast S16x128 v9
  have cst_27 : F .f32 := Scalar.ofBits .f32 0x3F800000#32
  have v109 : FVec F S16x128 .f32 := broadcast S16x128 cst_27
  divf v109 v108

/-- The value `%112` of a head, of what the head has loaded. -/
def p112 (v9 : Elt F .f32) : FVec F S16x128 .f32 :=
  have v111 : FVec F S16x128 .bf16 := truncf .bf16 (p110 v9) bitsLt_bf16_f32
  extf .f32 v111 bitsLt_bf16_f32

/-- The value `%115` of a head, of what the head has loaded. -/
def p115 (v9 : Elt F .f32) : FVec F S16x128 .f32 :=
  have v113 : FVec F S16x128 .f32 := subf (p110 v9) (p112 v9)
  have v114 : FVec F S16x128 .bf16 := truncf .bf16 v113 bitsLt_bf16_f32
  extf .f32 v114 bitsLt_bf16_f32

/-- The value `%118` of a head, of what the head has loaded. -/
def p118 (v9 : Elt F .f32) : FVec F S16x128 .f32 :=
  have v113 : FVec F S16x128 .f32 := subf (p110 v9) (p112 v9)
  have v116 : FVec F S16x128 .f32 := subf v113 (p115 v9)
  have v117 : FVec F S16x128 .bf16 := truncf .bf16 v116 bitsLt_bf16_f32
  extf .f32 v117 bitsLt_bf16_f32

/-- The value `%128` of a head, of what the head has loaded. -/
def p128 (v9 : Elt F .f32) : FVec F S16x128 .f32 :=
  have v107 : IVec S16x128 32 := iota .tc S16x128 32 [1] iota_S16x128_d1_w32
  have c3_i32 : BitVec 32 := 3#32
  have v119 : IVec S16x128 32 := broadcast S16x128 c3_i32
  have v120 : IVec S16x128 1 := cmpi .slt v107 v119
  have c5_i32 : BitVec 32 := 5#32
  have v121 : IVec S16x128 32 := broadcast S16x128 c5_i32
  have v122 : IVec S16x128 1 := cmpi .slt v107 v121
  have c6_i32 : BitVec 32 := 6#32
  have v123 : IVec S16x128 32 := broadcast S16x128 c6_i32
  have v124 : IVec S16x128 1 := cmpi .slt v107 v123
  have cst_28 : F .f32 := Scalar.ofBits .f32 0x00000000#32
  have v125 : FVec F S16x128 .f32 := broadcast S16x128 cst_28
  have v126 : FVec F S16x128 .f32 := select v124 (p118 v9) v125
  have v127 : FVec F S16x128 .f32 := select v122 (p115 v9) v126
  select v120 (p112 v9) v127

/-- The value `%135` of a head, of what the head has loaded. -/
def p135 (v9 : Elt F .f32) : FVec F S384x128 .bf16 :=
  have v129 : FVec F S1x128 .f32 := extractStridedSlice S1x128 ![0, 0] (p128 v9) slices_S16x128_o0_0_S1x128
  have v130 : FVec F S1x128 .f32 := shapeCast S1x128 v129 shapeCasts_S1x128_S1x128
  have v131 : FVec F S384x128 .f32 := broadcastTo S384x128 v130 broadcasts_S1x128_S384x128
  have v132 : FVec F S384x128 .bf16 := truncf .bf16 v131 bitsLt_bf16_f32
  shapeCast S384x128 v132 shapeCasts_S384x128_S384x128

/-- The value `%138` of a head, of what the head has loaded. -/
def p138 (v12 : Elt F .f32) : FVec F S16x128 .f32 :=
  have v136 : FVec F S16x128 .f32 := broadcast S16x128 v12
  have cst_31 : F .f32 := Scalar.ofBits .f32 0x3F800000#32
  have v137 : FVec F S16x128 .f32 := broadcast S16x128 cst_31
  divf v137 v136

/-- The value `%140` of a head, of what the head has loaded. -/
def p140 (v12 : Elt F .f32) : FVec F S16x128 .f32 :=
  have v139 : FVec F S16x128 .bf16 := truncf .bf16 (p138 v12) bitsLt_bf16_f32
  extf .f32 v139 bitsLt_bf16_f32

/-- The value `%143` of a head, of what the head has loaded. -/
def p143 (v12 : Elt F .f32) : FVec F S16x128 .f32 :=
  have v141 : FVec F S16x128 .f32 := subf (p138 v12) (p140 v12)
  have v142 : FVec F S16x128 .bf16 := truncf .bf16 v141 bitsLt_bf16_f32
  extf .f32 v142 bitsLt_bf16_f32

/-- The value `%146` of a head, of what the head has loaded. -/
def p146 (v12 : Elt F .f32) : FVec F S16x128 .f32 :=
  have v141 : FVec F S16x128 .f32 := subf (p138 v12) (p140 v12)
  have v144 : FVec F S16x128 .f32 := subf v141 (p143 v12)
  have v145 : FVec F S16x128 .bf16 := truncf .bf16 v144 bitsLt_bf16_f32
  extf .f32 v145 bitsLt_bf16_f32

/-- The value `%156` of a head, of what the head has loaded. -/
def p156 (v12 : Elt F .f32) : FVec F S16x128 .f32 :=
  have v107 : IVec S16x128 32 := iota .tc S16x128 32 [1] iota_S16x128_d1_w32
  have c3_i32_32 : BitVec 32 := 3#32
  have v147 : IVec S16x128 32 := broadcast S16x128 c3_i32_32
  have v148 : IVec S16x128 1 := cmpi .slt v107 v147
  have c5_i32_33 : BitVec 32 := 5#32
  have v149 : IVec S16x128 32 := broadcast S16x128 c5_i32_33
  have v150 : IVec S16x128 1 := cmpi .slt v107 v149
  have c6_i32_34 : BitVec 32 := 6#32
  have v151 : IVec S16x128 32 := broadcast S16x128 c6_i32_34
  have v152 : IVec S16x128 1 := cmpi .slt v107 v151
  have cst_35 : F .f32 := Scalar.ofBits .f32 0x00000000#32
  have v153 : FVec F S16x128 .f32 := broadcast S16x128 cst_35
  have v154 : FVec F S16x128 .f32 := select v152 (p146 v12) v153
  have v155 : FVec F S16x128 .f32 := select v150 (p143 v12) v154
  select v148 (p140 v12) v155

/-- The value `%163` of a head, of what the head has loaded. -/
def p163 (v12 : Elt F .f32) : FVec F S128x128 .bf16 :=
  have v157 : FVec F S1x128 .f32 := extractStridedSlice S1x128 ![0, 0] (p156 v12) slices_S16x128_o0_0_S1x128
  have v158 : FVec F S1x128 .f32 := shapeCast S1x128 v157 shapeCasts_S1x128_S1x128
  have v159 : FVec F S128x128 .f32 := broadcastTo S128x128 v158 broadcasts_S1x128_S128x128
  have v160 : FVec F S128x128 .bf16 := truncf .bf16 v159 bitsLt_bf16_f32
  shapeCast S128x128 v160 shapeCasts_S128x128_S128x128

/-- The value `%169` of a head, of what the head has loaded. -/
def p169 (v164 : Vec F S1024x256 .bf16) (v165 : Vec F S256x256 .bf16) : FVec F S1024x256 .f32 :=
  have cst_41 : FVec F S1024x256 .f32 := constant S1024x256 .f32 0x00000000#32
  have v166 : FVec F S1024x256 .f32 := matmul dot_S1024x256_S256x256_S1024x256_1_1_0_0_n_n none v164 v165 cst_41
  shapeCast S1024x256 v166 shapeCasts_S1024x256_S1024x256

/-- The value `%175` of a head, of what the head has loaded. -/
def p175 (v170 : Vec F S1280x256 .bf16) (v171 : Vec F S256x256 .bf16) : FVec F S1280x256 .f32 :=
  have cst_47 : FVec F S1280x256 .f32 := constant S1280x256 .f32 0x00000000#32
  have v172 : FVec F S1280x256 .f32 := matmul dot_S1280x256_S256x256_S1280x256_1_1_0_0_n_n none v170 v171 cst_47
  shapeCast S1280x256 v172 shapeCasts_S1280x256_S1280x256

/-- The value `%177` of a head, of what the head has loaded. -/
def p177 (v9 : Elt F .f32) : F .f32 :=
  have cst_50 : F .f32 := Scalar.ofBits .f32 0x3DB504F3#32
  have v176 : F .f32 := Scalar.mulf v9 cst_50
  have cst_51 : F .f32 := Named.named κ "log2e" 0x3FB8AA3B#32
  Scalar.mulf v176 cst_51

/-- The value `%183` of a head, of what the head has loaded. -/
def p183 (v181 : Vec F S128x128 .f32) : Vec F S128x128 .f32 :=
  have v178 : IVec S128x128 32 := iota .tc S128x128 32 [0] iota_S128x128_d0_w32
  have v179 : IVec S128x128 32 := iota .tc S128x128 32 [1] iota_S128x128_d1_w32
  have v180 : IVec S128x128 1 := cmpi .sle v178 v179
  have cst_54 : F .f32 := Scalar.ofBits .f32 0xFF800000#32
  have v182 : FVec F S128x128 .f32 := broadcast S128x128 cst_54
  select v180 v181 v182

/-- The value `%189` of a head, of what the head has loaded. -/
def p189 (v181 : Vec F S128x128 .f32) (v184 : Vec F S768x128 .f32) : FVec F S1x128 .f32 :=
  have v185 : FVec F S128 .f32 := multiReduction .maximumf [0] S128 v184 0xFF800000#32 reduces_S768x128_S128 (.inl rfl) rfl
  have v186 : FVec F S1x128 .f32 := shapeCast S1x128 v185 shapeCasts_S128_S1x128
  have v187 : FVec F S128 .f32 := multiReduction .maximumf [0] S128 (p183 v181) 0xFF800000#32 reduces_S128x128_S128 (.inl rfl) rfl
  have v188 : FVec F S1x128 .f32 := shapeCast S1x128 v187 shapeCasts_S128_S1x128
  maximumf v186 v188

/-- The value `%194` of a head, of what the head has loaded. -/
def p194 (v9 : Elt F .f32) (v181 : Vec F S128x128 .f32) (v184 : Vec F S768x128 .f32) : FVec F S768x128 .f32 :=
  have v190 : FVec F S768x128 .f32 := broadcastTo S768x128 (p189 v181 v184) broadcasts_S1x128_S768x128
  have v191 : FVec F S768x128 .f32 := subf v184 v190
  have v192 : FVec F S768x128 .f32 := broadcast S768x128 (p177 v9)
  have v193 : FVec F S768x128 .f32 := mulf v191 v192
  exp2 v193

/-- The value `%199` of a head, of what the head has loaded. -/
def p199 (v9 : Elt F .f32) (v181 : Vec F S128x128 .f32) (v184 : Vec F S768x128 .f32) : FVec F S128x128 .f32 :=
  have v195 : FVec F S128x128 .f32 := broadcastTo S128x128 (p189 v181 v184) broadcasts_S1x128_S128x128
  have v196 : FVec F S128x128 .f32 := subf (p183 v181) v195
  have v197 : FVec F S128x128 .f32 := broadcast S128x128 (p177 v9)
  have v198 : FVec F S128x128 .f32 := mulf v196 v197
  exp2 v198

/-- The value `%204` of a head, of what the head has loaded. -/
def p204 (v9 : Elt F .f32) (v181 : Vec F S128x128 .f32) (v184 : Vec F S768x128 .f32) : FVec F S1x128 .f32 :=
  have v200 : FVec F S128 .f32 := multiReduction .add [0] S128 (p194 v9 v181 v184) 0x00000000#32 reduces_S768x128_S128 (.inl rfl) rfl
  have v201 : FVec F S1x128 .f32 := shapeCast S1x128 v200 shapeCasts_S128_S1x128
  have v202 : FVec F S128 .f32 := multiReduction .add [0] S128 (p199 v9 v181 v184) 0x00000000#32 reduces_S128x128_S128 (.inl rfl) rfl
  have v203 : FVec F S1x128 .f32 := shapeCast S1x128 v202 shapeCasts_S128_S1x128
  addf v201 v203

/-- The value `%206` of a head, of what the head has loaded. -/
def p206 (v9 : Elt F .f32) (v181 : Vec F S128x128 .f32) (v184 : Vec F S768x128 .f32) : FVec F S1x128 .f32 :=
  have cst_61 : F .f32 := Scalar.ofBits .f32 0x3F800000#32
  have v205 : FVec F S1x128 .f32 := broadcast S1x128 cst_61
  divf v205 (p204 v9 v181 v184)

/-- The value `%210` of a head, of what the head has loaded. -/
def p210 (v9 : Elt F .f32) (v181 : Vec F S128x128 .f32) (v184 : Vec F S768x128 .f32) : FVec F S768x128 .bf16 :=
  have v207 : FVec F S768x128 .bf16 := truncf .bf16 (p194 v9 v181 v184) bitsLt_bf16_f32
  shapeCast S768x128 v207 shapeCasts_S768x128_S768x128

/-- The value `%214` of a head, of what the head has loaded. -/
def p214 (v9 : Elt F .f32) (v181 : Vec F S128x128 .f32) (v184 : Vec F S768x128 .f32) : FVec F S128x128 .bf16 :=
  have v211 : FVec F S128x128 .bf16 := truncf .bf16 (p199 v9 v181 v184) bitsLt_bf16_f32
  shapeCast S128x128 v211 shapeCasts_S128x128_S128x128

/-- The value `%216` of a head, of what the head has loaded. -/
def p216 (v9 : Elt F .f32) : F .f32 :=
  have cst_66 : F .f32 := Scalar.ofBits .f32 0x3DB504F3#32
  have v215 : F .f32 := Scalar.mulf v9 cst_66
  have cst_67 : F .f32 := Named.named κ "log2e" 0x3FB8AA3B#32
  Scalar.mulf v215 cst_67

/-- The value `%222` of a head, of what the head has loaded. -/
def p222 (v220 : Vec F S128x128 .f32) : Vec F S128x128 .f32 :=
  have v217 : IVec S128x128 32 := iota .tc S128x128 32 [0] iota_S128x128_d0_w32
  have v218 : IVec S128x128 32 := iota .tc S128x128 32 [1] iota_S128x128_d1_w32
  have v219 : IVec S128x128 1 := cmpi .sle v217 v218
  have cst_69 : F .f32 := Scalar.ofBits .f32 0xFF800000#32
  have v221 : FVec F S128x128 .f32 := broadcast S128x128 cst_69
  select v219 v220 v221

/-- The value `%228` of a head, of what the head has loaded. -/
def p228 (v220 : Vec F S128x128 .f32) (v223 : Vec F S896x128 .f32) : FVec F S1x128 .f32 :=
  have v224 : FVec F S128 .f32 := multiReduction .maximumf [0] S128 v223 0xFF800000#32 reduces_S896x128_S128 (.inl rfl) rfl
  have v225 : FVec F S1x128 .f32 := shapeCast S1x128 v224 shapeCasts_S128_S1x128
  have v226 : FVec F S128 .f32 := multiReduction .maximumf [0] S128 (p222 v220) 0xFF800000#32 reduces_S128x128_S128 (.inl rfl) rfl
  have v227 : FVec F S1x128 .f32 := shapeCast S1x128 v226 shapeCasts_S128_S1x128
  maximumf v225 v227

/-- The value `%233` of a head, of what the head has loaded. -/
def p233 (v9 : Elt F .f32) (v220 : Vec F S128x128 .f32) (v223 : Vec F S896x128 .f32) : FVec F S896x128 .f32 :=
  have v229 : FVec F S896x128 .f32 := broadcastTo S896x128 (p228 v220 v223) broadcasts_S1x128_S896x128
  have v230 : FVec F S896x128 .f32 := subf v223 v229
  have v231 : FVec F S896x128 .f32 := broadcast S896x128 (p216 v9)
  have v232 : FVec F S896x128 .f32 := mulf v230 v231
  exp2 v232

/-- The value `%238` of a head, of what the head has loaded. -/
def p238 (v9 : Elt F .f32) (v220 : Vec F S128x128 .f32) (v223 : Vec F S896x128 .f32) : FVec F S128x128 .f32 :=
  have v234 : FVec F S128x128 .f32 := broadcastTo S128x128 (p228 v220 v223) broadcasts_S1x128_S128x128
  have v235 : FVec F S128x128 .f32 := subf (p222 v220) v234
  have v236 : FVec F S128x128 .f32 := broadcast S128x128 (p216 v9)
  have v237 : FVec F S128x128 .f32 := mulf v235 v236
  exp2 v237

/-- The value `%243` of a head, of what the head has loaded. -/
def p243 (v9 : Elt F .f32) (v220 : Vec F S128x128 .f32) (v223 : Vec F S896x128 .f32) : FVec F S1x128 .f32 :=
  have v239 : FVec F S128 .f32 := multiReduction .add [0] S128 (p233 v9 v220 v223) 0x00000000#32 reduces_S896x128_S128 (.inl rfl) rfl
  have v240 : FVec F S1x128 .f32 := shapeCast S1x128 v239 shapeCasts_S128_S1x128
  have v241 : FVec F S128 .f32 := multiReduction .add [0] S128 (p238 v9 v220 v223) 0x00000000#32 reduces_S128x128_S128 (.inl rfl) rfl
  have v242 : FVec F S1x128 .f32 := shapeCast S1x128 v241 shapeCasts_S128_S1x128
  addf v240 v242

/-- The value `%245` of a head, of what the head has loaded. -/
def p245 (v9 : Elt F .f32) (v220 : Vec F S128x128 .f32) (v223 : Vec F S896x128 .f32) : FVec F S1x128 .f32 :=
  have cst_76 : F .f32 := Scalar.ofBits .f32 0x3F800000#32
  have v244 : FVec F S1x128 .f32 := broadcast S1x128 cst_76
  divf v244 (p243 v9 v220 v223)

/-- The value `%249` of a head, of what the head has loaded. -/
def p249 (v9 : Elt F .f32) (v220 : Vec F S128x128 .f32) (v223 : Vec F S896x128 .f32) : FVec F S896x128 .bf16 :=
  have v246 : FVec F S896x128 .bf16 := truncf .bf16 (p233 v9 v220 v223) bitsLt_bf16_f32
  shapeCast S896x128 v246 shapeCasts_S896x128_S896x128

/-- The value `%253` of a head, of what the head has loaded. -/
def p253 (v9 : Elt F .f32) (v220 : Vec F S128x128 .f32) (v223 : Vec F S896x128 .f32) : FVec F S128x128 .bf16 :=
  have v250 : FVec F S128x128 .bf16 := truncf .bf16 (p238 v9 v220 v223) bitsLt_bf16_f32
  shapeCast S128x128 v250 shapeCasts_S128x128_S128x128

/-- The value `%255` of a head, of what the head has loaded. -/
def p255 (v9 : Elt F .f32) : F .f32 :=
  have cst_81 : F .f32 := Scalar.ofBits .f32 0x3DB504F3#32
  have v254 : F .f32 := Scalar.mulf v9 cst_81
  have cst_82 : F .f32 := Named.named κ "log2e" 0x3FB8AA3B#32
  Scalar.mulf v254 cst_82

/-- The value `%261` of a head, of what the head has loaded. -/
def p261 (v259 : Vec F S128x128 .f32) : Vec F S128x128 .f32 :=
  have v256 : IVec S128x128 32 := iota .tc S128x128 32 [0] iota_S128x128_d0_w32
  have v257 : IVec S128x128 32 := iota .tc S128x128 32 [1] iota_S128x128_d1_w32
  have v258 : IVec S128x128 1 := cmpi .sle v256 v257
  have cst_84 : F .f32 := Scalar.ofBits .f32 0xFF800000#32
  have v260 : FVec F S128x128 .f32 := broadcast S128x128 cst_84
  select v258 v259 v260

/-- The value `%267` of a head, of what the head has loaded. -/
def p267 (v259 : Vec F S128x128 .f32) (v262 : Vec F S1024x128 .f32) : FVec F S1x128 .f32 :=
  have v263 : FVec F S128 .f32 := multiReduction .maximumf [0] S128 v262 0xFF800000#32 reduces_S1024x128_S128 (.inl rfl) rfl
  have v264 : FVec F S1x128 .f32 := shapeCast S1x128 v263 shapeCasts_S128_S1x128
  have v265 : FVec F S128 .f32 := multiReduction .maximumf [0] S128 (p261 v259) 0xFF800000#32 reduces_S128x128_S128 (.inl rfl) rfl
  have v266 : FVec F S1x128 .f32 := shapeCast S1x128 v265 shapeCasts_S128_S1x128
  maximumf v264 v266

/-- The value `%272` of a head, of what the head has loaded. -/
def p272 (v9 : Elt F .f32) (v259 : Vec F S128x128 .f32) (v262 : Vec F S1024x128 .f32) : FVec F S1024x128 .f32 :=
  have v268 : FVec F S1024x128 .f32 := broadcastTo S1024x128 (p267 v259 v262) broadcasts_S1x128_S1024x128
  have v269 : FVec F S1024x128 .f32 := subf v262 v268
  have v270 : FVec F S1024x128 .f32 := broadcast S1024x128 (p255 v9)
  have v271 : FVec F S1024x128 .f32 := mulf v269 v270
  exp2 v271

/-- The value `%277` of a head, of what the head has loaded. -/
def p277 (v9 : Elt F .f32) (v259 : Vec F S128x128 .f32) (v262 : Vec F S1024x128 .f32) : FVec F S128x128 .f32 :=
  have v273 : FVec F S128x128 .f32 := broadcastTo S128x128 (p267 v259 v262) broadcasts_S1x128_S128x128
  have v274 : FVec F S128x128 .f32 := subf (p261 v259) v273
  have v275 : FVec F S128x128 .f32 := broadcast S128x128 (p255 v9)
  have v276 : FVec F S128x128 .f32 := mulf v274 v275
  exp2 v276

/-- The value `%282` of a head, of what the head has loaded. -/
def p282 (v9 : Elt F .f32) (v259 : Vec F S128x128 .f32) (v262 : Vec F S1024x128 .f32) : FVec F S1x128 .f32 :=
  have v278 : FVec F S128 .f32 := multiReduction .add [0] S128 (p272 v9 v259 v262) 0x00000000#32 reduces_S1024x128_S128 (.inl rfl) rfl
  have v279 : FVec F S1x128 .f32 := shapeCast S1x128 v278 shapeCasts_S128_S1x128
  have v280 : FVec F S128 .f32 := multiReduction .add [0] S128 (p277 v9 v259 v262) 0x00000000#32 reduces_S128x128_S128 (.inl rfl) rfl
  have v281 : FVec F S1x128 .f32 := shapeCast S1x128 v280 shapeCasts_S128_S1x128
  addf v279 v281

/-- The value `%284` of a head, of what the head has loaded. -/
def p284 (v9 : Elt F .f32) (v259 : Vec F S128x128 .f32) (v262 : Vec F S1024x128 .f32) : FVec F S1x128 .f32 :=
  have cst_91 : F .f32 := Scalar.ofBits .f32 0x3F800000#32
  have v283 : FVec F S1x128 .f32 := broadcast S1x128 cst_91
  divf v283 (p282 v9 v259 v262)

/-- The value `%288` of a head, of what the head has loaded. -/
def p288 (v9 : Elt F .f32) (v259 : Vec F S128x128 .f32) (v262 : Vec F S1024x128 .f32) : FVec F S1024x128 .bf16 :=
  have v285 : FVec F S1024x128 .bf16 := truncf .bf16 (p272 v9 v259 v262) bitsLt_bf16_f32
  shapeCast S1024x128 v285 shapeCasts_S1024x128_S1024x128

/-- The value `%292` of a head, of what the head has loaded. -/
def p292 (v9 : Elt F .f32) (v259 : Vec F S128x128 .f32) (v262 : Vec F S1024x128 .f32) : FVec F S128x128 .bf16 :=
  have v289 : FVec F S128x128 .bf16 := truncf .bf16 (p277 v9 v259 v262) bitsLt_bf16_f32
  shapeCast S128x128 v289 shapeCasts_S128x128_S128x128

/-- The value `%294` of a head, of what the head has loaded. -/
def p294 (v12 : Elt F .f32) : F .f32 :=
  have cst_96 : F .f32 := Scalar.ofBits .f32 0x3DB504F3#32
  have v293 : F .f32 := Scalar.mulf v12 cst_96
  have cst_97 : F .f32 := Named.named κ "log2e" 0x3FB8AA3B#32
  Scalar.mulf v293 cst_97

/-- The value `%300` of a head, of what the head has loaded. -/
def p300 (v298 : Vec F S128x128 .f32) : Vec F S128x128 .f32 :=
  have v295 : IVec S128x128 32 := iota .tc S128x128 32 [0] iota_S128x128_d0_w32
  have v296 : IVec S128x128 32 := iota .tc S128x128 32 [1] iota_S128x128_d1_w32
  have v297 : IVec S128x128 1 := cmpi .sle v295 v296
  have cst_99 : F .f32 := Scalar.ofBits .f32 0xFF800000#32
  have v299 : FVec F S128x128 .f32 := broadcast S128x128 cst_99
  select v297 v298 v299

/-- The value `%306` of a head, of what the head has loaded. -/
def p306 (v298 : Vec F S128x128 .f32) (v301 : Vec F S1152x128 .f32) : FVec F S1x128 .f32 :=
  have v302 : FVec F S128 .f32 := multiReduction .maximumf [0] S128 v301 0xFF800000#32 reduces_S1152x128_S128 (.inl rfl) rfl
  have v303 : FVec F S1x128 .f32 := shapeCast S1x128 v302 shapeCasts_S128_S1x128
  have v304 : FVec F S128 .f32 := multiReduction .maximumf [0] S128 (p300 v298) 0xFF800000#32 reduces_S128x128_S128 (.inl rfl) rfl
  have v305 : FVec F S1x128 .f32 := shapeCast S1x128 v304 shapeCasts_S128_S1x128
  maximumf v303 v305

/-- The value `%311` of a head, of what the head has loaded. -/
def p311 (v12 : Elt F .f32) (v298 : Vec F S128x128 .f32) (v301 : Vec F S1152x128 .f32) : FVec F S1152x128 .f32 :=
  have v307 : FVec F S1152x128 .f32 := broadcastTo S1152x128 (p306 v298 v301) broadcasts_S1x128_S1152x128
  have v308 : FVec F S1152x128 .f32 := subf v301 v307
  have v309 : FVec F S1152x128 .f32 := broadcast S1152x128 (p294 v12)
  have v310 : FVec F S1152x128 .f32 := mulf v308 v309
  exp2 v310

/-- The value `%316` of a head, of what the head has loaded. -/
def p316 (v12 : Elt F .f32) (v298 : Vec F S128x128 .f32) (v301 : Vec F S1152x128 .f32) : FVec F S128x128 .f32 :=
  have v312 : FVec F S128x128 .f32 := broadcastTo S128x128 (p306 v298 v301) broadcasts_S1x128_S128x128
  have v313 : FVec F S128x128 .f32 := subf (p300 v298) v312
  have v314 : FVec F S128x128 .f32 := broadcast S128x128 (p294 v12)
  have v315 : FVec F S128x128 .f32 := mulf v313 v314
  exp2 v315

/-- The value `%321` of a head, of what the head has loaded. -/
def p321 (v12 : Elt F .f32) (v298 : Vec F S128x128 .f32) (v301 : Vec F S1152x128 .f32) : FVec F S1x128 .f32 :=
  have v317 : FVec F S128 .f32 := multiReduction .add [0] S128 (p311 v12 v298 v301) 0x00000000#32 reduces_S1152x128_S128 (.inl rfl) rfl
  have v318 : FVec F S1x128 .f32 := shapeCast S1x128 v317 shapeCasts_S128_S1x128
  have v319 : FVec F S128 .f32 := multiReduction .add [0] S128 (p316 v12 v298 v301) 0x00000000#32 reduces_S128x128_S128 (.inl rfl) rfl
  have v320 : FVec F S1x128 .f32 := shapeCast S1x128 v319 shapeCasts_S128_S1x128
  addf v318 v320

/-- The value `%323` of a head, of what the head has loaded. -/
def p323 (v12 : Elt F .f32) (v298 : Vec F S128x128 .f32) (v301 : Vec F S1152x128 .f32) : FVec F S1x128 .f32 :=
  have cst_106 : F .f32 := Scalar.ofBits .f32 0x3F800000#32
  have v322 : FVec F S1x128 .f32 := broadcast S1x128 cst_106
  divf v322 (p321 v12 v298 v301)

/-- The value `%327` of a head, of what the head has loaded. -/
def p327 (v12 : Elt F .f32) (v298 : Vec F S128x128 .f32) (v301 : Vec F S1152x128 .f32) : FVec F S1152x128 .bf16 :=
  have v324 : FVec F S1152x128 .bf16 := truncf .bf16 (p311 v12 v298 v301) bitsLt_bf16_f32
  shapeCast S1152x128 v324 shapeCasts_S1152x128_S1152x128

/-- The value `%331` of a head, of what the head has loaded. -/
def p331 (v12 : Elt F .f32) (v298 : Vec F S128x128 .f32) (v301 : Vec F S1152x128 .f32) : FVec F S128x128 .bf16 :=
  have v328 : FVec F S128x128 .bf16 := truncf .bf16 (p316 v12 v298 v301) bitsLt_bf16_f32
  shapeCast S128x128 v328 shapeCasts_S128x128_S128x128

/-- The value `%339` of a head, of what the head has loaded. -/
def p339 (v338 : Vec F S1x1x768x128 .f32) : FVec F S768x128 .f32 :=
  shapeCast S768x128 v338 shapeCasts_S1x1x768x128_S768x128

/-- The value `%343` of a head, of what the head has loaded. -/
def p343 (v67 : Vec F S1x1x768 .f32) (v338 : Vec F S1x1x768x128 .f32) : FVec F S128x768 .bf16 :=
  have cst_111 : F .f32 := Scalar.ofBits .f32 0x3F800000#32
  have v332 : FVec F S1x768 .f32 := broadcast S1x768 cst_111
  have v333 : FVec F S1x768 .f32 := select (p70 v67) (p68 v67) v332
  have cst_112 : F .f32 := Scalar.ofBits .f32 0x3F800000#32
  have v334 : FVec F S1x768 .f32 := broadcast S1x768 cst_112
  have v335 : FVec F S1x768 .f32 := divf v334 v333
  have cst_113 : F .f32 := Scalar.ofBits .f32 0x00000000#32
  have v336 : FVec F S1x768 .f32 := broadcast S1x768 cst_113
  have v337 : FVec F S1x768 .f32 := select (p70 v67) v335 v336
  have v340 : FVec F S128x768 .f32 := transpose S128x768 [1, 0] (p339 v338) transposes_S768x128_p1_0_S128x768
  have v341 : FVec F S128x768 .f32 := broadcastTo S128x768 v337 broadcasts_S1x768_S128x768
  have v342 : FVec F S128x768 .f32 := mulf v340 v341
  truncf .bf16 v342 bitsLt_bf16_f32

/-- The value `%346` of a head, of what the head has loaded. -/
def p346 (v67 : Vec F S1x1x768 .f32) (v338 : Vec F S1x1x768x128 .f32) : FVec F S128x768 .bf16 :=
  shapeCast S128x768 (p343 v67 v338) shapeCasts_S128x768_S128x768

/-- The value `%351` of a head, of what the head has loaded. -/
def p351 (v15 : Elt F .f32) (v347 : Vec F S1x1x384x128 .fp8e4m3) : FVec F S384x128 .f32 :=
  have v348 : FVec F S384x128 .fp8e4m3 := shapeCast S384x128 v347 shapeCasts_S1x1x384x128_S384x128
  have v349 : FVec F S384x128 .f32 := extf .f32 v348 bitsLt_fp8e4m3_f32
  have v350 : FVec F S384x128 .f32 := broadcast S384x128 v15
  mulf v349 v350

/-- The value `%356` of a head, of what the head has loaded. -/
def p356 (v18 : Elt F .f32) (v352 : Vec F S1x1x128x128 .fp8e4m3) : FVec F S128x128 .f32 :=
  have v353 : FVec F S128x128 .fp8e4m3 := shapeCast S128x128 v352 shapeCasts_S1x1x128x128_S128x128
  have v354 : FVec F S128x128 .f32 := extf .f32 v353 bitsLt_fp8e4m3_f32
  have v355 : FVec F S128x128 .f32 := broadcast S128x128 v18
  mulf v354 v355

/-- The value `%359` of a head, of what the head has loaded. -/
def p359 (v15 : Elt F .f32) (v18 : Elt F .f32) (v347 : Vec F S1x1x384x128 .fp8e4m3) (v352 : Vec F S1x1x128x128 .fp8e4m3) : FVec F S128x512 .bf16 :=
  have v357 : FVec F S512x128 .f32 := concatenate S512x128 0 [⟨S384x128, (p351 v15 v347)⟩, ⟨S128x128, (p356 v18 v352)⟩] concatenates_S384x128_S128x128_S512x128_d0
  have v358 : FVec F S128x512 .f32 := transpose S128x512 [1, 0] v357 transposes_S512x128_p1_0_S128x512
  truncf .bf16 v358 bitsLt_bf16_f32

/-- The value `%362` of a head, of what the head has loaded. -/
def p362 (v15 : Elt F .f32) (v18 : Elt F .f32) (v347 : Vec F S1x1x384x128 .fp8e4m3) (v352 : Vec F S1x1x128x128 .fp8e4m3) : FVec F S128x512 .bf16 :=
  shapeCast S128x512 (p359 v15 v18 v347 v352) shapeCasts_S128x512_S128x512

/-- The value `%365` of a head, of what the head has loaded. -/
def p365 (v363 : Vec F S128x1024 .bf16) (v364 : Vec F S1024x256 .bf16) : FVec F S128x256 .f32 :=
  have cst_134 : FVec F S128x256 .f32 := constant S128x256 .f32 0x00000000#32
  matmul dot_S128x1024_S1024x256_S128x256_1_0_0_1_n_n none v363 v364 cst_134

/-- The value `%373` of a head, of what the head has loaded. -/
def p373 (v9 : Elt F .f32) (v181 : Vec F S128x128 .f32) (v184 : Vec F S768x128 .f32) (v363 : Vec F S128x1024 .bf16) (v364 : Vec F S1024x256 .bf16) : FVec F S1x128x128 .bf16 :=
  have v366 : FVec F S128x128 .f32 := extractStridedSlice S128x128 ![0, 0] (p365 v363 v364) slices_S128x256_o0_0_S128x128
  have v367 : FVec F S128x128 .f32 := broadcastTo S128x128 (p206 v9 v181 v184) broadcasts_S1x128_S128x128
  have v368 : FVec F S128x128 .f32 := mulf v366 v367
  have v369 : FVec F S128x128 .f32 := transpose S128x128 [1, 0] v368 transposes_S128x128_p1_0_S128x128
  have v370 : FVec F S128x128 .bf16 := truncf .bf16 v369 bitsLt_bf16_f32
  shapeCast S1x128x128 v370 shapeCasts_S128x128_S1x128x128

/-- The value `%381` of a head, of what the head has loaded. -/
def p381 (v9 : Elt F .f32) (v220 : Vec F S128x128 .f32) (v223 : Vec F S896x128 .f32) (v363 : Vec F S128x1024 .bf16) (v364 : Vec F S1024x256 .bf16) : FVec F S1x128x128 .bf16 :=
  have v374 : FVec F S128x128 .f32 := extractStridedSlice S128x128 ![0, 128] (p365 v363 v364) slices_S128x256_o0_128_S128x128
  have v375 : FVec F S128x128 .f32 := broadcastTo S128x128 (p245 v9 v220 v223) broadcasts_S1x128_S128x128
  have v376 : FVec F S128x128 .f32 := mulf v374 v375
  have v377 : FVec F S128x128 .f32 := transpose S128x128 [1, 0] v376 transposes_S128x128_p1_0_S128x128
  have v378 : FVec F S128x128 .bf16 := truncf .bf16 v377 bitsLt_bf16_f32
  shapeCast S1x128x128 v378 shapeCasts_S128x128_S1x128x128

/-- The value `%384` of a head, of what the head has loaded. -/
def p384 (v382 : Vec F S128x1280 .bf16) (v383 : Vec F S1280x256 .bf16) : FVec F S128x256 .f32 :=
  have cst_145 : FVec F S128x256 .f32 := constant S128x256 .f32 0x00000000#32
  matmul dot_S128x1280_S1280x256_S128x256_1_0_0_1_n_n none v382 v383 cst_145

/-- The value `%392` of a head, of what the head has loaded. -/
def p392 (v9 : Elt F .f32) (v259 : Vec F S128x128 .f32) (v262 : Vec F S1024x128 .f32) (v382 : Vec F S128x1280 .bf16) (v383 : Vec F S1280x256 .bf16) : FVec F S1x128x128 .bf16 :=
  have v385 : FVec F S128x128 .f32 := extractStridedSlice S128x128 ![0, 0] (p384 v382 v383) slices_S128x256_o0_0_S128x128
  have v386 : FVec F S128x128 .f32 := broadcastTo S128x128 (p284 v9 v259 v262) broadcasts_S1x128_S128x128
  have v387 : FVec F S128x128 .f32 := mulf v385 v386
  have v388 : FVec F S128x128 .f32 := transpose S128x128 [1, 0] v387 transposes_S128x128_p1_0_S128x128
  have v389 : FVec F S128x128 .bf16 := truncf .bf16 v388 bitsLt_bf16_f32
  shapeCast S1x128x128 v389 shapeCasts_S128x128_S1x128x128

/-- The value `%400` of a head, of what the head has loaded. -/
def p400 (v12 : Elt F .f32) (v298 : Vec F S128x128 .f32) (v301 : Vec F S1152x128 .f32) (v382 : Vec F S128x1280 .bf16) (v383 : Vec F S1280x256 .bf16) : FVec F S1x128x128 .bf16 :=
  have v393 : FVec F S128x128 .f32 := extractStridedSlice S128x128 ![0, 128] (p384 v382 v383) slices_S128x256_o0_128_S128x128
  have v394 : FVec F S128x128 .f32 := broadcastTo S128x128 (p323 v12 v298 v301) broadcasts_S1x128_S128x128
  have v395 : FVec F S128x128 .f32 := mulf v393 v394
  have v396 : FVec F S128x128 .f32 := transpose S128x128 [1, 0] v395 transposes_S128x128_p1_0_S128x128
  have v397 : FVec F S128x128 .bf16 := truncf .bf16 v396 bitsLt_bf16_f32
  shapeCast S1x128x128 v397 shapeCasts_S128x128_S1x128x128

/-- The value `%403` of a head, of what the head has loaded. -/
def p403 (v15 : Elt F .f32) (v18 : Elt F .f32) (v20 : Vec F S1x1x512 .i32) (v347 : Vec F S1x1x384x128 .fp8e4m3) (v352 : Vec F S1x1x128x128 .fp8e4m3) : FVec F S144x768 .f32 :=
  have cst_152 : F .bf16 := Scalar.ofBits .bf16 0x3F80#16
  have v401 : FVec F S16x512 .bf16 := broadcast S16x512 cst_152
  have v402 : FVec F S144x512 .bf16 := concatenate S144x512 0 [⟨S128x512, (p359 v15 v18 v347 v352)⟩, ⟨S16x512, v401⟩] concatenates_S128x512_S16x512_S144x512_d0
  have cst_153 : FVec F S144x768 .f32 := constant S144x768 .f32 0x00000000#32
  matmul dot_S144x512_S512x768_S144x768_1_0_0_1_n_n none v402 (p62 v20) cst_153

/-- The value `%409` of a head, of what the head has loaded. -/
def p409 (v15 : Elt F .f32) (v18 : Elt F .f32) (v20 : Vec F S1x1x512 .i32) (v338 : Vec F S1x1x768x128 .f32) (v347 : Vec F S1x1x384x128 .fp8e4m3) (v352 : Vec F S1x1x128x128 .fp8e4m3) : FVec F S1x1x768x128 .f32 :=
  have v404 : FVec F S128x768 .f32 := extractStridedSlice S128x768 ![0, 0] (p403 v15 v18 v20 v347 v352) slices_S144x768_o0_0_S128x768
  have v405 : FVec F S768x128 .f32 := transpose S768x128 [1, 0] v404 transposes_S128x768_p1_0_S768x128
  have v406 : FVec F S768x128 .f32 := addf (p339 v338) v405
  shapeCast S1x1x768x128 v406 shapeCasts_S768x128_S1x1x768x128

/-- The value `%416` of a head, of what the head has loaded. -/
def p416 (v15 : Elt F .f32) (v18 : Elt F .f32) (v20 : Vec F S1x1x512 .i32) (v67 : Vec F S1x1x768 .f32) (v347 : Vec F S1x1x384x128 .fp8e4m3) (v352 : Vec F S1x1x128x128 .fp8e4m3) : FVec F S1x1x768 .f32 :=
  have v410 : FVec F S1x768 .f32 := extractStridedSlice S1x768 ![128, 0] (p403 v15 v18 v20 v347 v352) slices_S144x768_o128_0_S1x768
  have v411 : FVec F S1x768 .f32 := addf (p68 v67) v410
  shapeCast S1x1x768 v411 shapeCasts_S1x768_S1x1x768

/-- One head of the kernel: its loads and stores in order, at head `j` of the group. -/
def headProg (i : grid0.Coords) (arg2 : Memref sig .tc .smem S3x2x20 .f32) (harg2 : arg2.IsWhole) (arg3 : Memref sig .tc .smem S3x2x20 .f32) (harg3 : arg3.IsWhole) (arg4 : Memref sig .tc .vmem S1x4x512x128 .fp8e4m3) (harg4 : arg4.IsWhole) (arg5 : Memref sig .tc .vmem S1x20x512 .i32) (harg5 : arg5.IsWhole) (arg6 : Memref sig .tc .vmem S4x768x128 .bf16) (harg6 : arg6.IsWhole) (arg7 : Memref sig .tc .vmem S1x4x512x128 .fp8e4m3) (harg7 : arg7.IsWhole) (arg8 : Memref sig .tc .vmem S1x4x768x128 .f32) (harg8 : arg8.IsWhole) (arg9 : Memref sig .tc .vmem S3x20x768 .f32) (harg9 : arg9.IsWhole) (arg10 : Memref sig .tc .vmem S1x512x512 .bf16) (harg10 : arg10.IsWhole) (arg11 : Memref sig .tc .vmem S1x4x768x128 .f32) (harg11 : arg11.IsWhole) (arg12 : Memref sig .tc .vmem S3x20x768 .f32) (harg12 : arg12.IsWhole) (arg13 : Memref sig .tc .vmem S1280x256 .bf16) (harg13 : arg13.IsWhole) (arg14 : Memref sig .tc .vmem S512x256 .bf16) (harg14 : arg14.IsWhole) (arg15 : Memref sig .tc .vmem S1280x512 .f32) (harg15 : arg15.IsWhole) (arg16 : Memref sig .tc .vmem S1280x512 .bf16) (harg16 : arg16.IsWhole) (arg17 : Memref sig .tc .vmem S128x1280 .bf16) (harg17 : arg17.IsWhole) (j : Fin 4) :
    Prog (TpuEff nD τ sig (Elt F) Λ₀ .tc) PUnit := do
  let v9 : Elt F .f32 ← smemLoad arg2 (Rect.unit (s := S3x2x20) (k0_off1 i (BitVec.ofNat 32 j.val)) S1x1x1.size (k0_off1_inb i j)) numel1_S1x1x1 rfl
  let v12 : Elt F .f32 ← smemLoad arg2 (Rect.unit (s := S3x2x20) (k0_off2 i (BitVec.ofNat 32 j.val)) S1x1x1.size (k0_off2_inb i j)) numel1_S1x1x1 rfl
  let v15 : Elt F .f32 ← smemLoad arg3 (Rect.unit (s := S3x2x20) (k0_off1 i (BitVec.ofNat 32 j.val)) S1x1x1.size (k0_off1_inb i j)) numel1_S1x1x1 rfl
  let v18 : Elt F .f32 ← smemLoad arg3 (Rect.unit (s := S3x2x20) (k0_off2 i (BitVec.ofNat 32 j.val)) S1x1x1.size (k0_off2_inb i j)) numel1_S1x1x1 rfl
  let v20 : Vec F S1x1x512 .i32 ← Prog.lift (.load arg5 (Rect.unit (s := S1x20x512) (k0_off3 i (BitVec.ofNat 32 j.val)) S1x1x512.size (k0_off3_inb i j)).toLoadRect (View.loadsAt_vmem h_S1x1x512))
  let v63 : Vec F S1x768x128 .bf16 ← Prog.lift (.load arg6 (Rect.unit (s := S4x768x128) ![j.val, 0, 0] S1x768x128.size (inb_cb j)).toLoadRect (View.loadsAt_vmem h_S1x768x128))
  let v67 : Vec F S1x1x768 .f32 ← Prog.lift (.load arg9 (Rect.unit (s := S3x20x768) (k0_off4 i (BitVec.ofNat 32 j.val)) S1x1x768.size (k0_off4_inb i j)).toLoadRect (View.loadsAt_vmem h_S1x1x768))
  let v88 : Vec F S768x128 .bf16 ← Prog.lift (.load arg13 (Rect.unit (s := S1280x256) ![0, 0] S768x128.size inb_S1280x256_S768x128_0_0).toLoadRect (View.loadsAt_vmem h_S768x128))
  Prog.lift (.store arg13 (Rect.unit (s := S1280x256) ![0, 0] S768x128.size inb_S1280x256_S768x128_0_0) (p90 v63) Finset.univ (View.stores_vmem h_S768x128 (harg13.storeExact_slice rfl _ packedbf16_S1280x256_S768x128_0_0) (fun _ => rfl)) (.inl rfl))
  let v93 : Vec F S768x16 .bf16 ← Prog.lift (.load arg13 (Rect.unit (s := S1280x256) ![0, 128] S768x16.size inb_S1280x256_S768x16_0_128).toLoadRect (View.loadsAt_vmem h_S768x16))
  Prog.lift (.store arg13 (Rect.unit (s := S1280x256) ![0, 128] S768x16.size inb_S1280x256_S768x16_0_128) (p95 v67) Finset.univ (View.stores_vmem h_S768x16 (harg13.storeExact_slice rfl _ packedbf16_S1280x256_S768x16_0_128) (fun _ => rfl)) (.inl rfl))
  let v98 : Vec F S512x128 .bf16 ← Prog.lift (.load arg13 (Rect.unit (s := S1280x256) ![768, 0] S512x128.size inb_S1280x256_S512x128_768_0).toLoadRect (View.loadsAt_vmem h_S512x128))
  Prog.lift (.store arg13 (Rect.unit (s := S1280x256) ![768, 0] S512x128.size inb_S1280x256_S512x128_768_0) (p100 v20 v63) Finset.univ (View.stores_vmem h_S512x128 (harg13.storeExact_slice rfl _ packedbf16_S1280x256_S512x128_768_0) (fun _ => rfl)) (.inl rfl))
  let v101 : Vec F S1x1x512x128 .fp8e4m3 ← Prog.lift (.load arg4 (Rect.unit (s := S1x4x512x128) ![0, j.val, 0, 0] S1x1x512x128.size (inb_q j)).toLoadRect (View.loadsAt_vmem h_S1x1x512x128))
  let v104 : Vec F S512x128 .bf16 ← Prog.lift (.load arg14 (Rect.unit (s := S512x256) ![0, 0] S512x128.size inb_S512x256_S512x128_0_0).toLoadRect (View.loadsAt_vmem h_S512x128))
  Prog.lift (.store arg14 (Rect.unit (s := S512x256) ![0, 0] S512x128.size inb_S512x256_S512x128_0_0) (p106 v101) Finset.univ (View.stores_vmem h_S512x128 (harg14.storeExact_slice rfl _ packedbf16_S512x256_S512x128_0_0) (fun _ => rfl)) (.inl rfl))
  let v133 : Vec F S384x128 .bf16 ← Prog.lift (.load arg14 (Rect.unit (s := S512x256) ![0, 128] S384x128.size inb_S512x256_S384x128_0_128).toLoadRect (View.loadsAt_vmem h_S384x128))
  Prog.lift (.store arg14 (Rect.unit (s := S512x256) ![0, 128] S384x128.size inb_S512x256_S384x128_0_128) (p135 v9) Finset.univ (View.stores_vmem h_S384x128 (harg14.storeExact_slice rfl _ packedbf16_S512x256_S384x128_0_128) (fun _ => rfl)) (.inl rfl))
  let v161 : Vec F S128x128 .bf16 ← Prog.lift (.load arg14 (Rect.unit (s := S512x256) ![384, 128] S128x128.size inb_S512x256_S128x128_384_128).toLoadRect (View.loadsAt_vmem h_S128x128))
  Prog.lift (.store arg14 (Rect.unit (s := S512x256) ![384, 128] S128x128.size inb_S512x256_S128x128_384_128) (p163 v12) Finset.univ (View.stores_vmem h_S128x128 (harg14.storeExact_slice rfl _ packedbf16_S512x256_S128x128_384_128) (fun _ => rfl)) (.inl rfl))
  let v164 : Vec F S1024x256 .bf16 ← Prog.lift (.load arg13 (Rect.unit (s := S1280x256) ![0, 0] S1024x256.size inb_S1280x256_S1024x256_0_0).toLoadRect (View.loadsAt_vmem h_S1024x256))
  let v165 : Vec F S256x256 .bf16 ← Prog.lift (.load arg14 (Rect.unit (s := S512x256) ![0, 0] S256x256.size inb_S512x256_S256x256_0_0).toLoadRect (View.loadsAt_vmem h_S256x256))
  let v167 : Vec F S1024x256 .f32 ← Prog.lift (.load arg15 (Rect.unit (s := S1280x512) ![0, 0] S1024x256.size inb_S1280x512_S1024x256_0_0).toLoadRect (View.loadsAt_vmem h_S1024x256))
  Prog.lift (.store arg15 (Rect.unit (s := S1280x512) ![0, 0] S1024x256.size inb_S1280x512_S1024x256_0_0) (p169 v164 v165) Finset.univ (View.stores_vmem_bits_univ h_S1024x256 rfl) (.inl rfl))
  let v170 : Vec F S1280x256 .bf16 ← Prog.lift (.load arg13 (Rect.unit (s := S1280x256) ![0, 0] S1280x256.size inb_S1280x256_S1280x256_0_0).toLoadRect (View.loadsAt_vmem h_S1280x256))
  let v171 : Vec F S256x256 .bf16 ← Prog.lift (.load arg14 (Rect.unit (s := S512x256) ![256, 0] S256x256.size inb_S512x256_S256x256_256_0).toLoadRect (View.loadsAt_vmem h_S256x256))
  let v173 : Vec F S1280x256 .f32 ← Prog.lift (.load arg15 (Rect.unit (s := S1280x512) ![0, 256] S1280x256.size inb_S1280x512_S1280x256_0_256).toLoadRect (View.loadsAt_vmem h_S1280x256))
  Prog.lift (.store arg15 (Rect.unit (s := S1280x512) ![0, 256] S1280x256.size inb_S1280x512_S1280x256_0_256) (p175 v170 v171) Finset.univ (View.stores_vmem_bits_univ h_S1280x256 rfl) (.inl rfl))
  let v181 : Vec F S128x128 .f32 ← Prog.lift (.load arg15 (Rect.unit (s := S1280x512) ![768, 0] S128x128.size inb_S1280x512_S128x128_768_0).toLoadRect (View.loadsAt_vmem h_S128x128))
  let v184 : Vec F S768x128 .f32 ← Prog.lift (.load arg15 (Rect.unit (s := S1280x512) ![0, 0] S768x128.size inb_S1280x512_S768x128_0_0).toLoadRect (View.loadsAt_vmem h_S768x128))
  let v208 : Vec F S768x128 .bf16 ← Prog.lift (.load arg16 (Rect.unit (s := S1280x512) ![0, 0] S768x128.size inb_S1280x512_S768x128_0_0).toLoadRect (View.loadsAt_vmem h_S768x128))
  Prog.lift (.store arg16 (Rect.unit (s := S1280x512) ![0, 0] S768x128.size inb_S1280x512_S768x128_0_0) (p210 v9 v181 v184) Finset.univ (View.stores_vmem h_S768x128 (harg16.storeExact_slice rfl _ packedbf16_S1280x512_S768x128_0_0) (fun _ => rfl)) (.inl rfl))
  let v212 : Vec F S128x128 .bf16 ← Prog.lift (.load arg16 (Rect.unit (s := S1280x512) ![768, 0] S128x128.size inb_S1280x512_S128x128_768_0).toLoadRect (View.loadsAt_vmem h_S128x128))
  Prog.lift (.store arg16 (Rect.unit (s := S1280x512) ![768, 0] S128x128.size inb_S1280x512_S128x128_768_0) (p214 v9 v181 v184) Finset.univ (View.stores_vmem h_S128x128 (harg16.storeExact_slice rfl _ packedbf16_S1280x512_S128x128_768_0) (fun _ => rfl)) (.inl rfl))
  let v220 : Vec F S128x128 .f32 ← Prog.lift (.load arg15 (Rect.unit (s := S1280x512) ![896, 128] S128x128.size inb_S1280x512_S128x128_896_128).toLoadRect (View.loadsAt_vmem h_S128x128))
  let v223 : Vec F S896x128 .f32 ← Prog.lift (.load arg15 (Rect.unit (s := S1280x512) ![0, 128] S896x128.size inb_S1280x512_S896x128_0_128).toLoadRect (View.loadsAt_vmem h_S896x128))
  let v247 : Vec F S896x128 .bf16 ← Prog.lift (.load arg16 (Rect.unit (s := S1280x512) ![0, 128] S896x128.size inb_S1280x512_S896x128_0_128).toLoadRect (View.loadsAt_vmem h_S896x128))
  Prog.lift (.store arg16 (Rect.unit (s := S1280x512) ![0, 128] S896x128.size inb_S1280x512_S896x128_0_128) (p249 v9 v220 v223) Finset.univ (View.stores_vmem h_S896x128 (harg16.storeExact_slice rfl _ packedbf16_S1280x512_S896x128_0_128) (fun _ => rfl)) (.inl rfl))
  let v251 : Vec F S128x128 .bf16 ← Prog.lift (.load arg16 (Rect.unit (s := S1280x512) ![896, 128] S128x128.size inb_S1280x512_S128x128_896_128).toLoadRect (View.loadsAt_vmem h_S128x128))
  Prog.lift (.store arg16 (Rect.unit (s := S1280x512) ![896, 128] S128x128.size inb_S1280x512_S128x128_896_128) (p253 v9 v220 v223) Finset.univ (View.stores_vmem h_S128x128 (harg16.storeExact_slice rfl _ packedbf16_S1280x512_S128x128_896_128) (fun _ => rfl)) (.inl rfl))
  let v259 : Vec F S128x128 .f32 ← Prog.lift (.load arg15 (Rect.unit (s := S1280x512) ![1024, 256] S128x128.size inb_S1280x512_S128x128_1024_256).toLoadRect (View.loadsAt_vmem h_S128x128))
  let v262 : Vec F S1024x128 .f32 ← Prog.lift (.load arg15 (Rect.unit (s := S1280x512) ![0, 256] S1024x128.size inb_S1280x512_S1024x128_0_256).toLoadRect (View.loadsAt_vmem h_S1024x128))
  let v286 : Vec F S1024x128 .bf16 ← Prog.lift (.load arg16 (Rect.unit (s := S1280x512) ![0, 256] S1024x128.size inb_S1280x512_S1024x128_0_256).toLoadRect (View.loadsAt_vmem h_S1024x128))
  Prog.lift (.store arg16 (Rect.unit (s := S1280x512) ![0, 256] S1024x128.size inb_S1280x512_S1024x128_0_256) (p288 v9 v259 v262) Finset.univ (View.stores_vmem h_S1024x128 (harg16.storeExact_slice rfl _ packedbf16_S1280x512_S1024x128_0_256) (fun _ => rfl)) (.inl rfl))
  let v290 : Vec F S128x128 .bf16 ← Prog.lift (.load arg16 (Rect.unit (s := S1280x512) ![1024, 256] S128x128.size inb_S1280x512_S128x128_1024_256).toLoadRect (View.loadsAt_vmem h_S128x128))
  Prog.lift (.store arg16 (Rect.unit (s := S1280x512) ![1024, 256] S128x128.size inb_S1280x512_S128x128_1024_256) (p292 v9 v259 v262) Finset.univ (View.stores_vmem h_S128x128 (harg16.storeExact_slice rfl _ packedbf16_S1280x512_S128x128_1024_256) (fun _ => rfl)) (.inl rfl))
  let v298 : Vec F S128x128 .f32 ← Prog.lift (.load arg15 (Rect.unit (s := S1280x512) ![1152, 384] S128x128.size inb_S1280x512_S128x128_1152_384).toLoadRect (View.loadsAt_vmem h_S128x128))
  let v301 : Vec F S1152x128 .f32 ← Prog.lift (.load arg15 (Rect.unit (s := S1280x512) ![0, 384] S1152x128.size inb_S1280x512_S1152x128_0_384).toLoadRect (View.loadsAt_vmem h_S1152x128))
  let v325 : Vec F S1152x128 .bf16 ← Prog.lift (.load arg16 (Rect.unit (s := S1280x512) ![0, 384] S1152x128.size inb_S1280x512_S1152x128_0_384).toLoadRect (View.loadsAt_vmem h_S1152x128))
  Prog.lift (.store arg16 (Rect.unit (s := S1280x512) ![0, 384] S1152x128.size inb_S1280x512_S1152x128_0_384) (p327 v12 v298 v301) Finset.univ (View.stores_vmem h_S1152x128 (harg16.storeExact_slice rfl _ packedbf16_S1280x512_S1152x128_0_384) (fun _ => rfl)) (.inl rfl))
  let v329 : Vec F S128x128 .bf16 ← Prog.lift (.load arg16 (Rect.unit (s := S1280x512) ![1152, 384] S128x128.size inb_S1280x512_S128x128_1152_384).toLoadRect (View.loadsAt_vmem h_S128x128))
  Prog.lift (.store arg16 (Rect.unit (s := S1280x512) ![1152, 384] S128x128.size inb_S1280x512_S128x128_1152_384) (p331 v12 v298 v301) Finset.univ (View.stores_vmem h_S128x128 (harg16.storeExact_slice rfl _ packedbf16_S1280x512_S128x128_1152_384) (fun _ => rfl)) (.inl rfl))
  let v338 : Vec F S1x1x768x128 .f32 ← Prog.lift (.load arg8 (Rect.unit (s := S1x4x768x128) ![0, j.val, 0, 0] S1x1x768x128.size (inb_u j)).toLoadRect (View.loadsAt_vmem h_S1x1x768x128))
  let v344 : Vec F S128x768 .bf16 ← Prog.lift (.load arg17 (Rect.unit (s := S128x1280) ![0, 0] S128x768.size inb_S128x1280_S128x768_0_0).toLoadRect (View.loadsAt_vmem h_S128x768))
  Prog.lift (.store arg17 (Rect.unit (s := S128x1280) ![0, 0] S128x768.size inb_S128x1280_S128x768_0_0) (p346 v67 v338) Finset.univ (View.stores_vmem h_S128x768 (harg17.storeExact_slice rfl _ packedbf16_S128x1280_S128x768_0_0) (fun _ => rfl)) (.inl rfl))
  let v347 : Vec F S1x1x384x128 .fp8e4m3 ← Prog.lift (.load arg7 (Rect.unit (s := S1x4x512x128) ![0, j.val, 0, 0] S1x1x384x128.size (inb_v0 j)).toLoadRect (View.loadsAt_vmem h_S1x1x384x128))
  let v352 : Vec F S1x1x128x128 .fp8e4m3 ← Prog.lift (.load arg7 (Rect.unit (s := S1x4x512x128) ![0, j.val, 384, 0] S1x1x128x128.size (inb_v1 j)).toLoadRect (View.loadsAt_vmem h_S1x1x128x128))
  let v360 : Vec F S128x512 .bf16 ← Prog.lift (.load arg17 (Rect.unit (s := S128x1280) ![0, 768] S128x512.size inb_S128x1280_S128x512_0_768).toLoadRect (View.loadsAt_vmem h_S128x512))
  Prog.lift (.store arg17 (Rect.unit (s := S128x1280) ![0, 768] S128x512.size inb_S128x1280_S128x512_0_768) (p362 v15 v18 v347 v352) Finset.univ (View.stores_vmem h_S128x512 (harg17.storeExact_slice rfl _ packedbf16_S128x1280_S128x512_0_768) (fun _ => rfl)) (.inl rfl))
  let v363 : Vec F S128x1024 .bf16 ← Prog.lift (.load arg17 (Rect.unit (s := S128x1280) ![0, 0] S128x1024.size inb_S128x1280_S128x1024_0_0).toLoadRect (View.loadsAt_vmem h_S128x1024))
  let v364 : Vec F S1024x256 .bf16 ← Prog.lift (.load arg16 (Rect.unit (s := S1280x512) ![0, 0] S1024x256.size inb_S1280x512_S1024x256_0_0).toLoadRect (View.loadsAt_vmem h_S1024x256))
  let v371 : Vec F S1x128x128 .bf16 ← Prog.lift (.load arg10 (Rect.unit (s := S1x512x512) ![0, 0, 128 * j.val] S1x128x128.size (inb_o0 j)).toLoadRect (View.loadsAt_vmem h_S1x128x128))
  Prog.lift (.store arg10 (Rect.unit (s := S1x512x512) ![0, 0, 128 * j.val] S1x128x128.size (inb_o0 j)) (p373 v9 v181 v184 v363 v364) Finset.univ (View.stores_vmem h_S1x128x128 (harg10.storeExact_slice rfl _ (pk_o0 j)) (fun _ => rfl)) (.inl rfl))
  let v379 : Vec F S1x128x128 .bf16 ← Prog.lift (.load arg10 (Rect.unit (s := S1x512x512) ![0, 128, 128 * j.val] S1x128x128.size (inb_o128 j)).toLoadRect (View.loadsAt_vmem h_S1x128x128))
  Prog.lift (.store arg10 (Rect.unit (s := S1x512x512) ![0, 128, 128 * j.val] S1x128x128.size (inb_o128 j)) (p381 v9 v220 v223 v363 v364) Finset.univ (View.stores_vmem h_S1x128x128 (harg10.storeExact_slice rfl _ (pk_o128 j)) (fun _ => rfl)) (.inl rfl))
  let v382 : Vec F S128x1280 .bf16 ← Prog.lift (.load arg17 (Rect.unit (s := S128x1280) ![0, 0] S128x1280.size inb_S128x1280_S128x1280_0_0).toLoadRect (View.loadsAt_vmem h_S128x1280))
  let v383 : Vec F S1280x256 .bf16 ← Prog.lift (.load arg16 (Rect.unit (s := S1280x512) ![0, 256] S1280x256.size inb_S1280x512_S1280x256_0_256).toLoadRect (View.loadsAt_vmem h_S1280x256))
  let v390 : Vec F S1x128x128 .bf16 ← Prog.lift (.load arg10 (Rect.unit (s := S1x512x512) ![0, 256, 128 * j.val] S1x128x128.size (inb_o256 j)).toLoadRect (View.loadsAt_vmem h_S1x128x128))
  Prog.lift (.store arg10 (Rect.unit (s := S1x512x512) ![0, 256, 128 * j.val] S1x128x128.size (inb_o256 j)) (p392 v9 v259 v262 v382 v383) Finset.univ (View.stores_vmem h_S1x128x128 (harg10.storeExact_slice rfl _ (pk_o256 j)) (fun _ => rfl)) (.inl rfl))
  let v398 : Vec F S1x128x128 .bf16 ← Prog.lift (.load arg10 (Rect.unit (s := S1x512x512) ![0, 384, 128 * j.val] S1x128x128.size (inb_o384 j)).toLoadRect (View.loadsAt_vmem h_S1x128x128))
  Prog.lift (.store arg10 (Rect.unit (s := S1x512x512) ![0, 384, 128 * j.val] S1x128x128.size (inb_o384 j)) (p400 v12 v298 v301 v382 v383) Finset.univ (View.stores_vmem h_S1x128x128 (harg10.storeExact_slice rfl _ (pk_o384 j)) (fun _ => rfl)) (.inl rfl))
  let v407 : Vec F S1x1x768x128 .f32 ← Prog.lift (.load arg11 (Rect.unit (s := S1x4x768x128) ![0, j.val, 0, 0] S1x1x768x128.size (inb_u j)).toLoadRect (View.loadsAt_vmem h_S1x1x768x128))
  Prog.lift (.store arg11 (Rect.unit (s := S1x4x768x128) ![0, j.val, 0, 0] S1x1x768x128.size (inb_u j)) (p409 v15 v18 v20 v338 v347 v352) Finset.univ (View.stores_vmem_bits_univ h_S1x1x768x128 rfl) (.inl rfl))
  let v414 : Vec F S1x1x768 .f32 ← Prog.lift (.load arg12 (Rect.unit (s := S3x20x768) (k0_off4 i (BitVec.ofNat 32 j.val)) S1x1x768.size (k0_off4_inb i j)).toLoadRect (View.loadsAt_vmem h_S1x1x768))
  Prog.lift (.store arg12 (Rect.unit (s := S3x20x768) (k0_off4 i (BitVec.ofNat 32 j.val)) S1x1x768.size (k0_off4_inb i j)) (p416 v15 v18 v20 v67 v347 v352) Finset.univ (View.stores_vmem_bits_univ h_S1x1x768 rfl) (.inl rfl))
  pure ⟨⟩

end Cert.KernelIdeal.Hand

end
-- ==== Proof.BodyEq.lean ====
/- The printed kernel body is the head program at heads 0, 1, 2, 3 of the group, after the first grid point's zero fills. -/
module

public import proofs.«01_k».proof.Proof.Head

@[expose] public section

set_option maxRecDepth 16384

noncomputable section

namespace Cert.KernelIdeal.Hand

open Idealize.ShloMosaic Idealize.ShloMosaic.TcCoe Idealize.SL.Sem Cert.KernelIdeal Cert.KernelIdeal.Gen

variable {F : FTy → Type} [FloatOps F] [Named F]

/-- The zero fills of the first grid point. -/
def initProg (i : grid0.Coords) (arg2 : Memref sig .tc .smem S3x2x20 .f32) (harg2 : arg2.IsWhole) (arg3 : Memref sig .tc .smem S3x2x20 .f32) (harg3 : arg3.IsWhole) (arg4 : Memref sig .tc .vmem S1x4x512x128 .fp8e4m3) (harg4 : arg4.IsWhole) (arg5 : Memref sig .tc .vmem S1x20x512 .i32) (harg5 : arg5.IsWhole) (arg6 : Memref sig .tc .vmem S4x768x128 .bf16) (harg6 : arg6.IsWhole) (arg7 : Memref sig .tc .vmem S1x4x512x128 .fp8e4m3) (harg7 : arg7.IsWhole) (arg8 : Memref sig .tc .vmem S1x4x768x128 .f32) (harg8 : arg8.IsWhole) (arg9 : Memref sig .tc .vmem S3x20x768 .f32) (harg9 : arg9.IsWhole) (arg10 : Memref sig .tc .vmem S1x512x512 .bf16) (harg10 : arg10.IsWhole) (arg11 : Memref sig .tc .vmem S1x4x768x128 .f32) (harg11 : arg11.IsWhole) (arg12 : Memref sig .tc .vmem S3x20x768 .f32) (harg12 : arg12.IsWhole) (arg13 : Memref sig .tc .vmem S1280x256 .bf16) (harg13 : arg13.IsWhole) (arg14 : Memref sig .tc .vmem S512x256 .bf16) (harg14 : arg14.IsWhole) (arg15 : Memref sig .tc .vmem S1280x512 .f32) (harg15 : arg15.IsWhole) (arg16 : Memref sig .tc .vmem S1280x512 .bf16) (harg16 : arg16.IsWhole) (arg17 : Memref sig .tc .vmem S128x1280 .bf16) (harg17 : arg17.IsWhole) :
    Prog (TpuEff nD τ sig (Elt F) Λ₀ .tc) PUnit := do
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  if k0_h1 : v4 = 1#1 then do
    have cst_683 : F .bf16 := Scalar.ofBits .bf16 0x0000#16
    have v1653 : FVec F S1280x256 .bf16 := broadcast S1280x256 cst_683
    let c0_684 : Index := 0#32
    let c0_685 : Index := 0#32
    let v1654 : Vec F S1280x256 .bf16 ← Prog.lift (.load arg13 (Rect.unit (s := S1280x256) ![0, 0] S1280x256.size inb_S1280x256_S1280x256_0_0).toLoadRect (View.loadsAt_vmem h_S1280x256))
    have v1655 : FVec F S1280x256 .bf16 := shapeCast S1280x256 v1654 shapeCasts_S1280x256_S1280x256
    have v1656 : FVec F S1280x256 .bf16 := shapeCast S1280x256 v1653 shapeCasts_S1280x256_S1280x256
    Prog.lift (.store arg13 (Rect.unit (s := S1280x256) ![0, 0] S1280x256.size inb_S1280x256_S1280x256_0_0) v1656 Finset.univ (View.stores_vmem h_S1280x256 (harg13.storeExact_slice rfl _ packedbf16_S1280x256_S1280x256_0_0) (fun _ => rfl)) (.inl rfl))
    have cst_686 : F .bf16 := Scalar.ofBits .bf16 0x0000#16
    have v1657 : FVec F S512x256 .bf16 := broadcast S512x256 cst_686
    let c0_687 : Index := 0#32
    let c0_688 : Index := 0#32
    let v1658 : Vec F S512x256 .bf16 ← Prog.lift (.load arg14 (Rect.unit (s := S512x256) ![0, 0] S512x256.size inb_S512x256_S512x256_0_0).toLoadRect (View.loadsAt_vmem h_S512x256))
    have v1659 : FVec F S512x256 .bf16 := shapeCast S512x256 v1658 shapeCasts_S512x256_S512x256
    have v1660 : FVec F S512x256 .bf16 := shapeCast S512x256 v1657 shapeCasts_S512x256_S512x256
    Prog.lift (.store arg14 (Rect.unit (s := S512x256) ![0, 0] S512x256.size inb_S512x256_S512x256_0_0) v1660 Finset.univ (View.stores_vmem h_S512x256 (harg14.storeExact_slice rfl _ packedbf16_S512x256_S512x256_0_0) (fun _ => rfl)) (.inl rfl))
    have cst_689 : F .bf16 := Scalar.ofBits .bf16 0x0000#16
    have v1661 : FVec F S1280x512 .bf16 := broadcast S1280x512 cst_689
    let c0_690 : Index := 0#32
    let c0_691 : Index := 0#32
    let v1662 : Vec F S1280x512 .bf16 ← Prog.lift (.load arg16 (Rect.unit (s := S1280x512) ![0, 0] S1280x512.size inb_S1280x512_S1280x512_0_0).toLoadRect (View.loadsAt_vmem h_S1280x512))
    have v1663 : FVec F S1280x512 .bf16 := shapeCast S1280x512 v1662 shapeCasts_S1280x512_S1280x512
    have v1664 : FVec F S1280x512 .bf16 := shapeCast S1280x512 v1661 shapeCasts_S1280x512_S1280x512
    Prog.lift (.store arg16 (Rect.unit (s := S1280x512) ![0, 0] S1280x512.size inb_S1280x512_S1280x512_0_0) v1664 Finset.univ (View.stores_vmem h_S1280x512 (harg16.storeExact_slice rfl _ packedbf16_S1280x512_S1280x512_0_0) (fun _ => rfl)) (.inl rfl))
    pure ⟨⟩
  else do
    pure ⟨⟩

/-- A continuation moves into both branches of a conditional. -/
theorem dite_bind {c : Prop} [Decidable c] {A B : Type}
    (T : c → Prog (TpuEff nD τ sig (Elt F) Λ₀ .tc) A) (E : ¬ c → Prog (TpuEff nD τ sig (Elt F) Λ₀ .tc) A)
    (K : A → Prog (TpuEff nD τ sig (Elt F) Λ₀ .tc) B) :
    (dite c T E >>= K) = dite c (fun h => T h >>= K) (fun h => E h >>= K) := by
  by_cases h : c
  · rw [dif_pos h, dif_pos h]
  · rw [dif_neg h, dif_neg h]

set_option maxHeartbeats 4000000 in
/-- The body is the zero fills followed by the four heads. -/
theorem body_eq (i : grid0.Coords) (arg2 : Memref sig .tc .smem S3x2x20 .f32) (harg2 : arg2.IsWhole) (arg3 : Memref sig .tc .smem S3x2x20 .f32) (harg3 : arg3.IsWhole) (arg4 : Memref sig .tc .vmem S1x4x512x128 .fp8e4m3) (harg4 : arg4.IsWhole) (arg5 : Memref sig .tc .vmem S1x20x512 .i32) (harg5 : arg5.IsWhole) (arg6 : Memref sig .tc .vmem S4x768x128 .bf16) (harg6 : arg6.IsWhole) (arg7 : Memref sig .tc .vmem S1x4x512x128 .fp8e4m3) (harg7 : arg7.IsWhole) (arg8 : Memref sig .tc .vmem S1x4x768x128 .f32) (harg8 : arg8.IsWhole) (arg9 : Memref sig .tc .vmem S3x20x768 .f32) (harg9 : arg9.IsWhole) (arg10 : Memref sig .tc .vmem S1x512x512 .bf16) (harg10 : arg10.IsWhole) (arg11 : Memref sig .tc .vmem S1x4x768x128 .f32) (harg11 : arg11.IsWhole) (arg12 : Memref sig .tc .vmem S3x20x768 .f32) (harg12 : arg12.IsWhole) (arg13 : Memref sig .tc .vmem S1280x256 .bf16) (harg13 : arg13.IsWhole) (arg14 : Memref sig .tc .vmem S512x256 .bf16) (harg14 : arg14.IsWhole) (arg15 : Memref sig .tc .vmem S1280x512 .f32) (harg15 : arg15.IsWhole) (arg16 : Memref sig .tc .vmem S1280x512 .bf16) (harg16 : arg16.IsWhole) (arg17 : Memref sig .tc .vmem S128x1280 .bf16) (harg17 : arg17.IsWhole) :
    cc0_vq_attention (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 = (do
      initProg i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17
      headProg i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 0
      headProg i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 1
      headProg i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 2
      headProg i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 3) := by
  unfold cc0_vq_attention k0_part41 k0_part1 initProg
  extract_lets
  rw [dite_bind, dite_bind, dite_bind]
  split
  · rfl
  · rfl

end Cert.KernelIdeal.Hand

end
-- ==== Proof.Steps.lean ====
/- Loads and stores of a whole buffer held by its values: a load at a unit-stride rectangle continues with a window of the
   values, an unmasked store leaves the values with the payload put over the window. -/
module

public import proofs.«01_k».proof.Proof.BodyEq
public import Idealize.ShloMosaic.Lib.VecWindow
public import Idealize.ShloMosaic.Lib.Memref
public import Idealize.ShloMosaic.Lib.Tactic

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

/-- A load of a window. -/
theorem ld_step (c : Dev nD) (E : Set ℕ) (K : PUnit → sProp 𝕄) {sp : CoreSpace} {s : Shape} {e : EltTy} {m : Memref sig .tc sp s e}
    {off size : Fin s.rank → ℕ} {inb : ∀ a, off a + size a ≤ s.size a} {hl : m.view.LoadsAt (Rect.unit (s := s) off size inb).toLoadRect}
    {X : s.Idx → Elt F e} {k : ((Rect.unit (s := s) off size inb).shape.Idx → Elt F e) → Prog (TpuEff nD τ sig (Elt F) Λ₀ .tc) PUnit}
    (w : (Rect.unit (s := s) off size inb).shape.Idx → Elt F e) (hw : w = VecWindow.window X off size inb) :
    owns (c : Thread nD τ) m fullShare X
      ⊢ iprop((owns (c : Thread nD τ) m fullShare X -∗ wp frame (wpE (defs₀ (F := F)) Variants.none c none) E (k w) K)
        -∗ wp frame (wpE (defs₀ (F := F)) Variants.none c none) E (Prog.lift (.load m (Rect.unit (s := s) off size inb).toLoadRect hl) >>= k) K) := by
  subst hw
  unfold owns
  iintro ⟨%f, %hf, H⟩ Hk
  subst hf
  iapply (wp_load (defs := defs₀ (F := F)) Variants.none (c : Thread nD τ) none E (m := m) (S := m.view.set) (m.view.setOn_subset_set _)) $$ H
  iintro H
  iapply Hk
  iexists f
  isplitr
  · ipureintro; rfl
  iexact H

/-- A store of a window. -/
theorem st_step (c : Dev nD) (E : Set ℕ) (K : PUnit → sProp 𝕄) {sp : CoreSpace} {s : Shape} {e : EltTy} {m : Memref sig .tc sp s e}
    {off size : Fin s.rank → ℕ} {inb : ∀ a, off a + size a ≤ s.size a} {w : (Rect.unit (s := s) off size inb).shape.Idx → Elt F e}
    {hx : (m.access (Rect.unit (s := s) off size inb)).Stores Finset.univ} {hm : (Finset.univ : Finset (Rect.unit (s := s) off size inb).shape.Idx) = Finset.univ ∨ ∀ a, (Rect.unit (s := s) off size inb).stride a = 1}
    {X : s.Idx → Elt F e} {k : PUnit → Prog (TpuEff nD τ sig (Elt F) Λ₀ .tc) PUnit}
    (Y : s.Idx → Elt F e) (hY : Y = VecWindow.put X off size w) :
    owns (c : Thread nD τ) m fullShare X
      ⊢ iprop((owns (c : Thread nD τ) m fullShare Y -∗ wp frame (wpE (defs₀ (F := F)) Variants.none c none) E (k ⟨⟩) K)
        -∗ wp frame (wpE (defs₀ (F := F)) Variants.none c none) E (Prog.lift (.store m (Rect.unit (s := s) off size inb) w Finset.univ hx hm) >>= k) K) := by
  subst hY
  unfold owns
  iintro ⟨%f, %hf, H⟩ Hk
  subst hf
  iapply (wp_store_writes₀ (defs := defs₀ (F := F)) Variants.none (c : Thread nD τ) none E (m := m) (S := m.view.set) (m.view.set_slice_subset _)) $$ H
  iintro H
  iapply Hk
  iexists (m.view.writes (Elt F) f [⟨Rect.unit (s := s) off size inb, w⟩])
  isplitr
  · ipureintro; exact View.read_writes_cons_put m.view f inb w [] rfl
  iexact H

/-- A load of one word. -/
theorem sm_step (c : Dev nD) (E : Set ℕ) (K : PUnit → sProp 𝕄) {s : Shape} {e : EltTy} {m : Memref sig .tc .smem s e}
    {off size : Fin s.rank → ℕ} {inb : ∀ a, off a + size a ≤ s.size a} {h1 : (Rect.unit (s := s) off size inb).shape.numel = 1} {hp : e.packing = 1}
    {X : s.Idx → Elt F e} {k : Elt F e → Prog (TpuEff nD τ sig (Elt F) Λ₀ .tc) PUnit}
    (w : Elt F e) (hw : w = VecWindow.window X off size inb (Shape.Idx.first (h1.symm ▸ Nat.one_pos))) :
    owns (c : Thread nD τ) m fullShare X
      ⊢ iprop((owns (c : Thread nD τ) m fullShare X -∗ wp frame (wpE (defs₀ (F := F)) Variants.none c none) E (k w) K)
        -∗ wp frame (wpE (defs₀ (F := F)) Variants.none c none) E (smemLoad m (Rect.unit (s := s) off size inb) h1 hp >>= k) K) := by
  subst hw
  unfold owns
  iintro ⟨%f, %hf, H⟩ Hk
  subst hf
  iapply (wp_smemLoadElt (defs := defs₀ (F := F)) Variants.none (c : Thread nD τ) none E (m := m) (S := m.view.set) (r := Rect.unit (s := s) off size inb) (hw := View.loads_smem_one hp h1) (x := Shape.Idx.first (h1.symm ▸ Nat.one_pos)) (k := k) (m.view.set_slice_subset _)) $$ H
  iintro H
  iapply Hk
  iexists f
  isplitr
  · ipureintro; rfl
  iexact H

end Cert.KernelIdeal.Hand

end
-- ==== Proof.HeadRun.lean ====
/- One head of the kernel as a function of what it finds: the contents of every buffer after each of its stores, and the
   triple that says the head's program leaves them. -/
module

public import proofs.«01_k».proof.Proof.Steps

@[expose] public section

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

/-- What a head finds: the grid point, the head's number in its group, and the contents of every buffer. -/
structure HIn (F : FTy → Type) where
  i : grid0.Coords
  j : Fin 4
  qs : Vec F S3x2x20 .f32
  vs : Vec F S3x2x20 .f32
  q : Vec F S1x4x512x128 .fp8e4m3
  k : Vec F S1x20x512 .i32
  cb : Vec F S4x768x128 .bf16
  v : Vec F S1x4x512x128 .fp8e4m3
  u : Vec F S1x4x768x128 .f32
  cnt : Vec F S3x20x768 .f32
  o : Vec F S1x512x512 .bf16
  uf : Vec F S1x4x768x128 .f32
  cf : Vec F S3x20x768 .f32
  lhs : Vec F S1280x256 .bf16
  rhs : Vec F S512x256 .bf16
  gs : Vec F S1280x512 .f32
  ep : Vec F S1280x512 .bf16
  uv : Vec F S128x1280 .bf16

/-- The load `%v9` of a head. -/
def l9 (X : HIn F) : Elt F .f32 := (VecWindow.window (s := S3x2x20) X.qs (k0_off1 X.i (BitVec.ofNat 32 X.j.val)) S1x1x1.size (k0_off1_inb X.i X.j)) (Shape.Idx.first (numel1_S1x1x1.symm ▸ Nat.one_pos))
/-- The load `%v12` of a head. -/
def l12 (X : HIn F) : Elt F .f32 := (VecWindow.window (s := S3x2x20) X.qs (k0_off2 X.i (BitVec.ofNat 32 X.j.val)) S1x1x1.size (k0_off2_inb X.i X.j)) (Shape.Idx.first (numel1_S1x1x1.symm ▸ Nat.one_pos))
/-- The load `%v15` of a head. -/
def l15 (X : HIn F) : Elt F .f32 := (VecWindow.window (s := S3x2x20) X.vs (k0_off1 X.i (BitVec.ofNat 32 X.j.val)) S1x1x1.size (k0_off1_inb X.i X.j)) (Shape.Idx.first (numel1_S1x1x1.symm ▸ Nat.one_pos))
/-- The load `%v18` of a head. -/
def l18 (X : HIn F) : Elt F .f32 := (VecWindow.window (s := S3x2x20) X.vs (k0_off2 X.i (BitVec.ofNat 32 X.j.val)) S1x1x1.size (k0_off2_inb X.i X.j)) (Shape.Idx.first (numel1_S1x1x1.symm ▸ Nat.one_pos))
/-- The load `%v20` of a head. -/
def l20 (X : HIn F) : Vec F S1x1x512 .i32 := VecWindow.window (s := S1x20x512) X.k (k0_off3 X.i (BitVec.ofNat 32 X.j.val)) S1x1x512.size (k0_off3_inb X.i X.j)
/-- The load `%v63` of a head. -/
def l63 (X : HIn F) : Vec F S1x768x128 .bf16 := VecWindow.window (s := S4x768x128) X.cb ![X.j.val, 0, 0] S1x768x128.size (inb_cb X.j)
/-- The load `%v67` of a head. -/
def l67 (X : HIn F) : Vec F S1x1x768 .f32 := VecWindow.window (s := S3x20x768) X.cnt (k0_off4 X.i (BitVec.ofNat 32 X.j.val)) S1x1x768.size (k0_off4_inb X.i X.j)
/-- The load `%v88` of a head. -/
def l88 (X : HIn F) : Vec F S768x128 .bf16 := VecWindow.window (s := S1280x256) X.lhs ![0, 0] S768x128.size inb_S1280x256_S768x128_0_0
/-- The buffer `lhs` after its store number 1. -/
def lhs_1 (X : HIn F) : Vec F S1280x256 .bf16 := VecWindow.put (s := S1280x256) X.lhs ![0, 0] S768x128.size (p90 (l63 X))
/-- The load `%v93` of a head. -/
def l93 (X : HIn F) : Vec F S768x16 .bf16 := VecWindow.window (s := S1280x256) (lhs_1 X) ![0, 128] S768x16.size inb_S1280x256_S768x16_0_128
/-- The buffer `lhs` after its store number 2. -/
def lhs_2 (X : HIn F) : Vec F S1280x256 .bf16 := VecWindow.put (s := S1280x256) (lhs_1 X) ![0, 128] S768x16.size (p95 (l67 X))
/-- The load `%v98` of a head. -/
def l98 (X : HIn F) : Vec F S512x128 .bf16 := VecWindow.window (s := S1280x256) (lhs_2 X) ![768, 0] S512x128.size inb_S1280x256_S512x128_768_0
/-- The buffer `lhs` after its store number 3. -/
def lhs_3 (X : HIn F) : Vec F S1280x256 .bf16 := VecWindow.put (s := S1280x256) (lhs_2 X) ![768, 0] S512x128.size (p100 (l20 X) (l63 X))
/-- The load `%v101` of a head. -/
def l101 (X : HIn F) : Vec F S1x1x512x128 .fp8e4m3 := VecWindow.window (s := S1x4x512x128) X.q ![0, X.j.val, 0, 0] S1x1x512x128.size (inb_q X.j)
/-- The load `%v104` of a head. -/
def l104 (X : HIn F) : Vec F S512x128 .bf16 := VecWindow.window (s := S512x256) X.rhs ![0, 0] S512x128.size inb_S512x256_S512x128_0_0
/-- The buffer `rhs` after its store number 1. -/
def rhs_1 (X : HIn F) : Vec F S512x256 .bf16 := VecWindow.put (s := S512x256) X.rhs ![0, 0] S512x128.size (p106 (l101 X))
/-- The load `%v133` of a head. -/
def l133 (X : HIn F) : Vec F S384x128 .bf16 := VecWindow.window (s := S512x256) (rhs_1 X) ![0, 128] S384x128.size inb_S512x256_S384x128_0_128
/-- The buffer `rhs` after its store number 2. -/
def rhs_2 (X : HIn F) : Vec F S512x256 .bf16 := VecWindow.put (s := S512x256) (rhs_1 X) ![0, 128] S384x128.size (p135 (l9 X))
/-- The load `%v161` of a head. -/
def l161 (X : HIn F) : Vec F S128x128 .bf16 := VecWindow.window (s := S512x256) (rhs_2 X) ![384, 128] S128x128.size inb_S512x256_S128x128_384_128
/-- The buffer `rhs` after its store number 3. -/
def rhs_3 (X : HIn F) : Vec F S512x256 .bf16 := VecWindow.put (s := S512x256) (rhs_2 X) ![384, 128] S128x128.size (p163 (l12 X))
/-- The load `%v164` of a head. -/
def l164 (X : HIn F) : Vec F S1024x256 .bf16 := VecWindow.window (s := S1280x256) (lhs_3 X) ![0, 0] S1024x256.size inb_S1280x256_S1024x256_0_0
/-- The load `%v165` of a head. -/
def l165 (X : HIn F) : Vec F S256x256 .bf16 := VecWindow.window (s := S512x256) (rhs_3 X) ![0, 0] S256x256.size inb_S512x256_S256x256_0_0
/-- The load `%v167` of a head. -/
def l167 (X : HIn F) : Vec F S1024x256 .f32 := VecWindow.window (s := S1280x512) X.gs ![0, 0] S1024x256.size inb_S1280x512_S1024x256_0_0
/-- The buffer `gs` after its store number 1. -/
def gs_1 (X : HIn F) : Vec F S1280x512 .f32 := VecWindow.put (s := S1280x512) X.gs ![0, 0] S1024x256.size (p169 (l164 X) (l165 X))
/-- The load `%v170` of a head. -/
def l170 (X : HIn F) : Vec F S1280x256 .bf16 := VecWindow.window (s := S1280x256) (lhs_3 X) ![0, 0] S1280x256.size inb_S1280x256_S1280x256_0_0
/-- The load `%v171` of a head. -/
def l171 (X : HIn F) : Vec F S256x256 .bf16 := VecWindow.window (s := S512x256) (rhs_3 X) ![256, 0] S256x256.size inb_S512x256_S256x256_256_0
/-- The load `%v173` of a head. -/
def l173 (X : HIn F) : Vec F S1280x256 .f32 := VecWindow.window (s := S1280x512) (gs_1 X) ![0, 256] S1280x256.size inb_S1280x512_S1280x256_0_256
/-- The buffer `gs` after its store number 2. -/
def gs_2 (X : HIn F) : Vec F S1280x512 .f32 := VecWindow.put (s := S1280x512) (gs_1 X) ![0, 256] S1280x256.size (p175 (l170 X) (l171 X))
/-- The load `%v181` of a head. -/
def l181 (X : HIn F) : Vec F S128x128 .f32 := VecWindow.window (s := S1280x512) (gs_2 X) ![768, 0] S128x128.size inb_S1280x512_S128x128_768_0
/-- The load `%v184` of a head. -/
def l184 (X : HIn F) : Vec F S768x128 .f32 := VecWindow.window (s := S1280x512) (gs_2 X) ![0, 0] S768x128.size inb_S1280x512_S768x128_0_0
/-- The load `%v208` of a head. -/
def l208 (X : HIn F) : Vec F S768x128 .bf16 := VecWindow.window (s := S1280x512) X.ep ![0, 0] S768x128.size inb_S1280x512_S768x128_0_0
/-- The buffer `ep` after its store number 1. -/
def ep_1 (X : HIn F) : Vec F S1280x512 .bf16 := VecWindow.put (s := S1280x512) X.ep ![0, 0] S768x128.size (p210 (l9 X) (l181 X) (l184 X))
/-- The load `%v212` of a head. -/
def l212 (X : HIn F) : Vec F S128x128 .bf16 := VecWindow.window (s := S1280x512) (ep_1 X) ![768, 0] S128x128.size inb_S1280x512_S128x128_768_0
/-- The buffer `ep` after its store number 2. -/
def ep_2 (X : HIn F) : Vec F S1280x512 .bf16 := VecWindow.put (s := S1280x512) (ep_1 X) ![768, 0] S128x128.size (p214 (l9 X) (l181 X) (l184 X))
/-- The load `%v220` of a head. -/
def l220 (X : HIn F) : Vec F S128x128 .f32 := VecWindow.window (s := S1280x512) (gs_2 X) ![896, 128] S128x128.size inb_S1280x512_S128x128_896_128
/-- The load `%v223` of a head. -/
def l223 (X : HIn F) : Vec F S896x128 .f32 := VecWindow.window (s := S1280x512) (gs_2 X) ![0, 128] S896x128.size inb_S1280x512_S896x128_0_128
/-- The load `%v247` of a head. -/
def l247 (X : HIn F) : Vec F S896x128 .bf16 := VecWindow.window (s := S1280x512) (ep_2 X) ![0, 128] S896x128.size inb_S1280x512_S896x128_0_128
/-- The buffer `ep` after its store number 3. -/
def ep_3 (X : HIn F) : Vec F S1280x512 .bf16 := VecWindow.put (s := S1280x512) (ep_2 X) ![0, 128] S896x128.size (p249 (l9 X) (l220 X) (l223 X))
/-- The load `%v251` of a head. -/
def l251 (X : HIn F) : Vec F S128x128 .bf16 := VecWindow.window (s := S1280x512) (ep_3 X) ![896, 128] S128x128.size inb_S1280x512_S128x128_896_128
/-- The buffer `ep` after its store number 4. -/
def ep_4 (X : HIn F) : Vec F S1280x512 .bf16 := VecWindow.put (s := S1280x512) (ep_3 X) ![896, 128] S128x128.size (p253 (l9 X) (l220 X) (l223 X))
/-- The load `%v259` of a head. -/
def l259 (X : HIn F) : Vec F S128x128 .f32 := VecWindow.window (s := S1280x512) (gs_2 X) ![1024, 256] S128x128.size inb_S1280x512_S128x128_1024_256
/-- The load `%v262` of a head. -/
def l262 (X : HIn F) : Vec F S1024x128 .f32 := VecWindow.window (s := S1280x512) (gs_2 X) ![0, 256] S1024x128.size inb_S1280x512_S1024x128_0_256
/-- The load `%v286` of a head. -/
def l286 (X : HIn F) : Vec F S1024x128 .bf16 := VecWindow.window (s := S1280x512) (ep_4 X) ![0, 256] S1024x128.size inb_S1280x512_S1024x128_0_256
/-- The buffer `ep` after its store number 5. -/
def ep_5 (X : HIn F) : Vec F S1280x512 .bf16 := VecWindow.put (s := S1280x512) (ep_4 X) ![0, 256] S1024x128.size (p288 (l9 X) (l259 X) (l262 X))
/-- The load `%v290` of a head. -/
def l290 (X : HIn F) : Vec F S128x128 .bf16 := VecWindow.window (s := S1280x512) (ep_5 X) ![1024, 256] S128x128.size inb_S1280x512_S128x128_1024_256
/-- The buffer `ep` after its store number 6. -/
def ep_6 (X : HIn F) : Vec F S1280x512 .bf16 := VecWindow.put (s := S1280x512) (ep_5 X) ![1024, 256] S128x128.size (p292 (l9 X) (l259 X) (l262 X))
/-- The load `%v298` of a head. -/
def l298 (X : HIn F) : Vec F S128x128 .f32 := VecWindow.window (s := S1280x512) (gs_2 X) ![1152, 384] S128x128.size inb_S1280x512_S128x128_1152_384
/-- The load `%v301` of a head. -/
def l301 (X : HIn F) : Vec F S1152x128 .f32 := VecWindow.window (s := S1280x512) (gs_2 X) ![0, 384] S1152x128.size inb_S1280x512_S1152x128_0_384
/-- The load `%v325` of a head. -/
def l325 (X : HIn F) : Vec F S1152x128 .bf16 := VecWindow.window (s := S1280x512) (ep_6 X) ![0, 384] S1152x128.size inb_S1280x512_S1152x128_0_384
/-- The buffer `ep` after its store number 7. -/
def ep_7 (X : HIn F) : Vec F S1280x512 .bf16 := VecWindow.put (s := S1280x512) (ep_6 X) ![0, 384] S1152x128.size (p327 (l12 X) (l298 X) (l301 X))
/-- The load `%v329` of a head. -/
def l329 (X : HIn F) : Vec F S128x128 .bf16 := VecWindow.window (s := S1280x512) (ep_7 X) ![1152, 384] S128x128.size inb_S1280x512_S128x128_1152_384
/-- The buffer `ep` after its store number 8. -/
def ep_8 (X : HIn F) : Vec F S1280x512 .bf16 := VecWindow.put (s := S1280x512) (ep_7 X) ![1152, 384] S128x128.size (p331 (l12 X) (l298 X) (l301 X))
/-- The load `%v338` of a head. -/
def l338 (X : HIn F) : Vec F S1x1x768x128 .f32 := VecWindow.window (s := S1x4x768x128) X.u ![0, X.j.val, 0, 0] S1x1x768x128.size (inb_u X.j)
/-- The load `%v344` of a head. -/
def l344 (X : HIn F) : Vec F S128x768 .bf16 := VecWindow.window (s := S128x1280) X.uv ![0, 0] S128x768.size inb_S128x1280_S128x768_0_0
/-- The buffer `uv` after its store number 1. -/
def uv_1 (X : HIn F) : Vec F S128x1280 .bf16 := VecWindow.put (s := S128x1280) X.uv ![0, 0] S128x768.size (p346 (l67 X) (l338 X))
/-- The load `%v347` of a head. -/
def l347 (X : HIn F) : Vec F S1x1x384x128 .fp8e4m3 := VecWindow.window (s := S1x4x512x128) X.v ![0, X.j.val, 0, 0] S1x1x384x128.size (inb_v0 X.j)
/-- The load `%v352` of a head. -/
def l352 (X : HIn F) : Vec F S1x1x128x128 .fp8e4m3 := VecWindow.window (s := S1x4x512x128) X.v ![0, X.j.val, 384, 0] S1x1x128x128.size (inb_v1 X.j)
/-- The load `%v360` of a head. -/
def l360 (X : HIn F) : Vec F S128x512 .bf16 := VecWindow.window (s := S128x1280) (uv_1 X) ![0, 768] S128x512.size inb_S128x1280_S128x512_0_768
/-- The buffer `uv` after its store number 2. -/
def uv_2 (X : HIn F) : Vec F S128x1280 .bf16 := VecWindow.put (s := S128x1280) (uv_1 X) ![0, 768] S128x512.size (p362 (l15 X) (l18 X) (l347 X) (l352 X))
/-- The load `%v363` of a head. -/
def l363 (X : HIn F) : Vec F S128x1024 .bf16 := VecWindow.window (s := S128x1280) (uv_2 X) ![0, 0] S128x1024.size inb_S128x1280_S128x1024_0_0
/-- The load `%v364` of a head. -/
def l364 (X : HIn F) : Vec F S1024x256 .bf16 := VecWindow.window (s := S1280x512) (ep_8 X) ![0, 0] S1024x256.size inb_S1280x512_S1024x256_0_0
/-- The load `%v371` of a head. -/
def l371 (X : HIn F) : Vec F S1x128x128 .bf16 := VecWindow.window (s := S1x512x512) X.o ![0, 0, 128 * X.j.val] S1x128x128.size (inb_o0 X.j)
/-- The buffer `o` after its store number 1. -/
def o_1 (X : HIn F) : Vec F S1x512x512 .bf16 := VecWindow.put (s := S1x512x512) X.o ![0, 0, 128 * X.j.val] S1x128x128.size (p373 (l9 X) (l181 X) (l184 X) (l363 X) (l364 X))
/-- The load `%v379` of a head. -/
def l379 (X : HIn F) : Vec F S1x128x128 .bf16 := VecWindow.window (s := S1x512x512) (o_1 X) ![0, 128, 128 * X.j.val] S1x128x128.size (inb_o128 X.j)
/-- The buffer `o` after its store number 2. -/
def o_2 (X : HIn F) : Vec F S1x512x512 .bf16 := VecWindow.put (s := S1x512x512) (o_1 X) ![0, 128, 128 * X.j.val] S1x128x128.size (p381 (l9 X) (l220 X) (l223 X) (l363 X) (l364 X))
/-- The load `%v382` of a head. -/
def l382 (X : HIn F) : Vec F S128x1280 .bf16 := VecWindow.window (s := S128x1280) (uv_2 X) ![0, 0] S128x1280.size inb_S128x1280_S128x1280_0_0
/-- The load `%v383` of a head. -/
def l383 (X : HIn F) : Vec F S1280x256 .bf16 := VecWindow.window (s := S1280x512) (ep_8 X) ![0, 256] S1280x256.size inb_S1280x512_S1280x256_0_256
/-- The load `%v390` of a head. -/
def l390 (X : HIn F) : Vec F S1x128x128 .bf16 := VecWindow.window (s := S1x512x512) (o_2 X) ![0, 256, 128 * X.j.val] S1x128x128.size (inb_o256 X.j)
/-- The buffer `o` after its store number 3. -/
def o_3 (X : HIn F) : Vec F S1x512x512 .bf16 := VecWindow.put (s := S1x512x512) (o_2 X) ![0, 256, 128 * X.j.val] S1x128x128.size (p392 (l9 X) (l259 X) (l262 X) (l382 X) (l383 X))
/-- The load `%v398` of a head. -/
def l398 (X : HIn F) : Vec F S1x128x128 .bf16 := VecWindow.window (s := S1x512x512) (o_3 X) ![0, 384, 128 * X.j.val] S1x128x128.size (inb_o384 X.j)
/-- The buffer `o` after its store number 4. -/
def o_4 (X : HIn F) : Vec F S1x512x512 .bf16 := VecWindow.put (s := S1x512x512) (o_3 X) ![0, 384, 128 * X.j.val] S1x128x128.size (p400 (l12 X) (l298 X) (l301 X) (l382 X) (l383 X))
/-- The load `%v407` of a head. -/
def l407 (X : HIn F) : Vec F S1x1x768x128 .f32 := VecWindow.window (s := S1x4x768x128) X.uf ![0, X.j.val, 0, 0] S1x1x768x128.size (inb_u X.j)
/-- The buffer `uf` after its store number 1. -/
def uf_1 (X : HIn F) : Vec F S1x4x768x128 .f32 := VecWindow.put (s := S1x4x768x128) X.uf ![0, X.j.val, 0, 0] S1x1x768x128.size (p409 (l15 X) (l18 X) (l20 X) (l338 X) (l347 X) (l352 X))
/-- The load `%v414` of a head. -/
def l414 (X : HIn F) : Vec F S1x1x768 .f32 := VecWindow.window (s := S3x20x768) X.cf (k0_off4 X.i (BitVec.ofNat 32 X.j.val)) S1x1x768.size (k0_off4_inb X.i X.j)
/-- The buffer `cf` after its store number 1. -/
def cf_1 (X : HIn F) : Vec F S3x20x768 .f32 := VecWindow.put (s := S3x20x768) X.cf (k0_off4 X.i (BitVec.ofNat 32 X.j.val)) S1x1x768.size (p416 (l15 X) (l18 X) (l20 X) (l67 X) (l347 X) (l352 X))

/-- The core holds every buffer of the body at the contents `X` names. -/
def HIn.own (c : Dev nD) (arg2 : Memref sig .tc .smem S3x2x20 .f32) (arg3 : Memref sig .tc .smem S3x2x20 .f32) (arg4 : Memref sig .tc .vmem S1x4x512x128 .fp8e4m3) (arg5 : Memref sig .tc .vmem S1x20x512 .i32) (arg6 : Memref sig .tc .vmem S4x768x128 .bf16) (arg7 : Memref sig .tc .vmem S1x4x512x128 .fp8e4m3) (arg8 : Memref sig .tc .vmem S1x4x768x128 .f32) (arg9 : Memref sig .tc .vmem S3x20x768 .f32) (arg10 : Memref sig .tc .vmem S1x512x512 .bf16) (arg11 : Memref sig .tc .vmem S1x4x768x128 .f32) (arg12 : Memref sig .tc .vmem S3x20x768 .f32) (arg13 : Memref sig .tc .vmem S1280x256 .bf16) (arg14 : Memref sig .tc .vmem S512x256 .bf16) (arg15 : Memref sig .tc .vmem S1280x512 .f32) (arg16 : Memref sig .tc .vmem S1280x512 .bf16) (arg17 : Memref sig .tc .vmem S128x1280 .bf16) (X : HIn F) : sProp 𝕄 :=
  iprop(owns (c : Thread nD τ) arg2 fullShare X.qs ∗ owns (c : Thread nD τ) arg3 fullShare X.vs ∗ owns (c : Thread nD τ) arg4 fullShare X.q ∗ owns (c : Thread nD τ) arg5 fullShare X.k ∗ owns (c : Thread nD τ) arg6 fullShare X.cb ∗ owns (c : Thread nD τ) arg7 fullShare X.v ∗ owns (c : Thread nD τ) arg8 fullShare X.u ∗ owns (c : Thread nD τ) arg9 fullShare X.cnt ∗ owns (c : Thread nD τ) arg10 fullShare X.o ∗ owns (c : Thread nD τ) arg11 fullShare X.uf ∗ owns (c : Thread nD τ) arg12 fullShare X.cf ∗ owns (c : Thread nD τ) arg13 fullShare X.lhs ∗ owns (c : Thread nD τ) arg14 fullShare X.rhs ∗ owns (c : Thread nD τ) arg15 fullShare X.gs ∗ owns (c : Thread nD τ) arg16 fullShare X.ep ∗ owns (c : Thread nD τ) arg17 fullShare X.uv)

/-- What a head leaves. -/
def HIn.out (X : HIn F) : HIn F :=
  { X with o := o_4 X, uf := uf_1 X, cf := cf_1 X, lhs := lhs_3 X, rhs := rhs_3 X, gs := gs_2 X, ep := ep_8 X, uv := uv_2 X }

set_option maxHeartbeats 4000000 in
/-- The head program leaves the buffers at `X.out`. -/
theorem head_run (c : Dev nD) (E : Set ℕ) (K : PUnit → sProp 𝕄) (X : HIn F) (arg2 : Memref sig .tc .smem S3x2x20 .f32) (harg2 : arg2.IsWhole) (arg3 : Memref sig .tc .smem S3x2x20 .f32) (harg3 : arg3.IsWhole) (arg4 : Memref sig .tc .vmem S1x4x512x128 .fp8e4m3) (harg4 : arg4.IsWhole) (arg5 : Memref sig .tc .vmem S1x20x512 .i32) (harg5 : arg5.IsWhole) (arg6 : Memref sig .tc .vmem S4x768x128 .bf16) (harg6 : arg6.IsWhole) (arg7 : Memref sig .tc .vmem S1x4x512x128 .fp8e4m3) (harg7 : arg7.IsWhole) (arg8 : Memref sig .tc .vmem S1x4x768x128 .f32) (harg8 : arg8.IsWhole) (arg9 : Memref sig .tc .vmem S3x20x768 .f32) (harg9 : arg9.IsWhole) (arg10 : Memref sig .tc .vmem S1x512x512 .bf16) (harg10 : arg10.IsWhole) (arg11 : Memref sig .tc .vmem S1x4x768x128 .f32) (harg11 : arg11.IsWhole) (arg12 : Memref sig .tc .vmem S3x20x768 .f32) (harg12 : arg12.IsWhole) (arg13 : Memref sig .tc .vmem S1280x256 .bf16) (harg13 : arg13.IsWhole) (arg14 : Memref sig .tc .vmem S512x256 .bf16) (harg14 : arg14.IsWhole) (arg15 : Memref sig .tc .vmem S1280x512 .f32) (harg15 : arg15.IsWhole) (arg16 : Memref sig .tc .vmem S1280x512 .bf16) (harg16 : arg16.IsWhole) (arg17 : Memref sig .tc .vmem S128x1280 .bf16) (harg17 : arg17.IsWhole) :
    iprop(HIn.own c arg2 arg3 arg4 arg5 arg6 arg7 arg8 arg9 arg10 arg11 arg12 arg13 arg14 arg15 arg16 arg17 X ∗ (HIn.own c arg2 arg3 arg4 arg5 arg6 arg7 arg8 arg9 arg10 arg11 arg12 arg13 arg14 arg15 arg16 arg17 X.out -∗ K ⟨⟩))
      ⊢ wp frame (wpE (defs₀ (F := F)) Variants.none c none) E (headProg X.i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X.j) K := by
  unfold HIn.own headProg
  iintro ⟨⟨H2, H3, H4, H5, H6, H7, H8, H9, H10, H11, H12, H13, H14, H15, H16, H17⟩, Hk⟩
  iapply (sm_step c E K (m := arg2) (l9 X) rfl) $$ H2; iintro H2
  iapply (sm_step c E K (m := arg2) (l12 X) rfl) $$ H2; iintro H2
  iapply (sm_step c E K (m := arg3) (l15 X) rfl) $$ H3; iintro H3
  iapply (sm_step c E K (m := arg3) (l18 X) rfl) $$ H3; iintro H3
  iapply (ld_step c E K (m := arg5) (l20 X) rfl) $$ H5; iintro H5
  iapply (ld_step c E K (m := arg6) (l63 X) rfl) $$ H6; iintro H6
  iapply (ld_step c E K (m := arg9) (l67 X) rfl) $$ H9; iintro H9
  iapply (ld_step c E K (m := arg13) (l88 X) rfl) $$ H13; iintro H13
  iapply (st_step c E K (m := arg13) (lhs_1 X) rfl) $$ H13; iintro H13
  iapply (ld_step c E K (m := arg13) (l93 X) rfl) $$ H13; iintro H13
  iapply (st_step c E K (m := arg13) (lhs_2 X) rfl) $$ H13; iintro H13
  iapply (ld_step c E K (m := arg13) (l98 X) rfl) $$ H13; iintro H13
  iapply (st_step c E K (m := arg13) (lhs_3 X) rfl) $$ H13; iintro H13
  iapply (ld_step c E K (m := arg4) (l101 X) rfl) $$ H4; iintro H4
  iapply (ld_step c E K (m := arg14) (l104 X) rfl) $$ H14; iintro H14
  iapply (st_step c E K (m := arg14) (rhs_1 X) rfl) $$ H14; iintro H14
  iapply (ld_step c E K (m := arg14) (l133 X) rfl) $$ H14; iintro H14
  iapply (st_step c E K (m := arg14) (rhs_2 X) rfl) $$ H14; iintro H14
  iapply (ld_step c E K (m := arg14) (l161 X) rfl) $$ H14; iintro H14
  iapply (st_step c E K (m := arg14) (rhs_3 X) rfl) $$ H14; iintro H14
  iapply (ld_step c E K (m := arg13) (l164 X) rfl) $$ H13; iintro H13
  iapply (ld_step c E K (m := arg14) (l165 X) rfl) $$ H14; iintro H14
  iapply (ld_step c E K (m := arg15) (l167 X) rfl) $$ H15; iintro H15
  iapply (st_step c E K (m := arg15) (gs_1 X) rfl) $$ H15; iintro H15
  iapply (ld_step c E K (m := arg13) (l170 X) rfl) $$ H13; iintro H13
  iapply (ld_step c E K (m := arg14) (l171 X) rfl) $$ H14; iintro H14
  iapply (ld_step c E K (m := arg15) (l173 X) rfl) $$ H15; iintro H15
  iapply (st_step c E K (m := arg15) (gs_2 X) rfl) $$ H15; iintro H15
  iapply (ld_step c E K (m := arg15) (l181 X) rfl) $$ H15; iintro H15
  iapply (ld_step c E K (m := arg15) (l184 X) rfl) $$ H15; iintro H15
  iapply (ld_step c E K (m := arg16) (l208 X) rfl) $$ H16; iintro H16
  iapply (st_step c E K (m := arg16) (ep_1 X) rfl) $$ H16; iintro H16
  iapply (ld_step c E K (m := arg16) (l212 X) rfl) $$ H16; iintro H16
  iapply (st_step c E K (m := arg16) (ep_2 X) rfl) $$ H16; iintro H16
  iapply (ld_step c E K (m := arg15) (l220 X) rfl) $$ H15; iintro H15
  iapply (ld_step c E K (m := arg15) (l223 X) rfl) $$ H15; iintro H15
  iapply (ld_step c E K (m := arg16) (l247 X) rfl) $$ H16; iintro H16
  iapply (st_step c E K (m := arg16) (ep_3 X) rfl) $$ H16; iintro H16
  iapply (ld_step c E K (m := arg16) (l251 X) rfl) $$ H16; iintro H16
  iapply (st_step c E K (m := arg16) (ep_4 X) rfl) $$ H16; iintro H16
  iapply (ld_step c E K (m := arg15) (l259 X) rfl) $$ H15; iintro H15
  iapply (ld_step c E K (m := arg15) (l262 X) rfl) $$ H15; iintro H15
  iapply (ld_step c E K (m := arg16) (l286 X) rfl) $$ H16; iintro H16
  iapply (st_step c E K (m := arg16) (ep_5 X) rfl) $$ H16; iintro H16
  iapply (ld_step c E K (m := arg16) (l290 X) rfl) $$ H16; iintro H16
  iapply (st_step c E K (m := arg16) (ep_6 X) rfl) $$ H16; iintro H16
  iapply (ld_step c E K (m := arg15) (l298 X) rfl) $$ H15; iintro H15
  iapply (ld_step c E K (m := arg15) (l301 X) rfl) $$ H15; iintro H15
  iapply (ld_step c E K (m := arg16) (l325 X) rfl) $$ H16; iintro H16
  iapply (st_step c E K (m := arg16) (ep_7 X) rfl) $$ H16; iintro H16
  iapply (ld_step c E K (m := arg16) (l329 X) rfl) $$ H16; iintro H16
  iapply (st_step c E K (m := arg16) (ep_8 X) rfl) $$ H16; iintro H16
  iapply (ld_step c E K (m := arg8) (l338 X) rfl) $$ H8; iintro H8
  iapply (ld_step c E K (m := arg17) (l344 X) rfl) $$ H17; iintro H17
  iapply (st_step c E K (m := arg17) (uv_1 X) rfl) $$ H17; iintro H17
  iapply (ld_step c E K (m := arg7) (l347 X) rfl) $$ H7; iintro H7
  iapply (ld_step c E K (m := arg7) (l352 X) rfl) $$ H7; iintro H7
  iapply (ld_step c E K (m := arg17) (l360 X) rfl) $$ H17; iintro H17
  iapply (st_step c E K (m := arg17) (uv_2 X) rfl) $$ H17; iintro H17
  iapply (ld_step c E K (m := arg17) (l363 X) rfl) $$ H17; iintro H17
  iapply (ld_step c E K (m := arg16) (l364 X) rfl) $$ H16; iintro H16
  iapply (ld_step c E K (m := arg10) (l371 X) rfl) $$ H10; iintro H10
  iapply (st_step c E K (m := arg10) (o_1 X) rfl) $$ H10; iintro H10
  iapply (ld_step c E K (m := arg10) (l379 X) rfl) $$ H10; iintro H10
  iapply (st_step c E K (m := arg10) (o_2 X) rfl) $$ H10; iintro H10
  iapply (ld_step c E K (m := arg17) (l382 X) rfl) $$ H17; iintro H17
  iapply (ld_step c E K (m := arg16) (l383 X) rfl) $$ H16; iintro H16
  iapply (ld_step c E K (m := arg10) (l390 X) rfl) $$ H10; iintro H10
  iapply (st_step c E K (m := arg10) (o_3 X) rfl) $$ H10; iintro H10
  iapply (ld_step c E K (m := arg10) (l398 X) rfl) $$ H10; iintro H10
  iapply (st_step c E K (m := arg10) (o_4 X) rfl) $$ H10; iintro H10
  iapply (ld_step c E K (m := arg11) (l407 X) rfl) $$ H11; iintro H11
  iapply (st_step c E K (m := arg11) (uf_1 X) rfl) $$ H11; iintro H11
  iapply (ld_step c E K (m := arg12) (l414 X) rfl) $$ H12; iintro H12
  iapply (st_step c E K (m := arg12) (cf_1 X) rfl) $$ H12; iintro H12
  iapply (le_wp_ret _ _ _ PUnit.unit K)
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

end Cert.KernelIdeal.Hand

end
-- ==== Proof.PayVal.lean ====
/- What the values a head stores are, element by element, at the reals. -/
module

public import proofs.«01_k».proof.Proof.Head
public import Idealize.ShloMosaic.Lib.Pointwise

@[expose] public section

set_option maxRecDepth 16384

noncomputable section

namespace Cert.KernelIdeal.Hand

open Idealize.ShloMosaic Idealize.ShloMosaic.TcCoe Idealize.SL.Sem Cert.KernelIdeal Cert.KernelIdeal.Gen
open Idealize.ShloMosaic.Pointwise

/-- The reciprocal of the score scale. -/
def invScale : EReal := ((134217728 / 11863283 : ℝ) : EReal)

/-- The scaled log count of a code, or minus infinity for a code nothing is counted on. -/
def xcode (x : EReal) : EReal := if 0 < x then Ideal.log x * invScale else ⊥

/-- What a lane of the limb columns holds of a number. -/
def lane (x : EReal) (k : ℕ) : EReal :=
  if k = 0 ∨ k = 3 ∨ k = 5 then x else if k = 1 ∨ k = 4 then x - x else if k = 2 then (x - x) - (x - x) else 0

/-- What a lane of the query columns holds of a reciprocal. -/
def qlane (x : EReal) (k : ℕ) : EReal :=
  if k < 3 then x else if k < 5 then x - x else if k < 6 then (x - x) - (x - x) else 0

theorem named_inv_scale : Named.named (F := Ideal) κ "inv_scale" (φ := .f32) 0x413504F3#32 = invScale :=
  by
  show (κ "inv_scale").getD (Ideal.ofBits .f32 0x413504F3#32) = _
  rw [show κ "inv_scale" = some invScale from rfl]
  rfl
theorem named_masked : Named.named (F := Ideal) κ "masked" (φ := .f32) 0xF1800000#32 = ⊥ :=
  by
  show (κ "masked").getD (Ideal.ofBits .f32 0xF1800000#32) = _
  rw [show κ "masked" = some (⊥ : EReal) from rfl]
  rfl
theorem named_log2e : Named.named (F := Ideal) κ "log2e" (φ := .f32) 0x3FB8AA3B#32 = (((Real.log 2)⁻¹ : ℝ) : EReal) :=
  by
  show (κ "log2e").getD (Ideal.ofBits .f32 0x3FB8AA3B#32) = _
  rw [show κ "log2e" = some (((Real.log 2)⁻¹ : ℝ) : EReal) from rfl]
  rfl

theorem ofBits_neg_inf : Ideal.ofBits .f32 0xFF800000#32 = ⊥ := by simp [Ideal.ofBits, Ideal.ieee]

theorem fold_max_eq_sup {n : ℕ} (f : Fin n → EReal) : Finset.fold max ⊥ f Finset.univ = Finset.univ.sup f := rfl

theorem onehot_word (a b : BitVec 32) :
    FloatOps.sitofp (F := Ideal) FTy.f32 (BitVec.setWidth 32 (IntOp.cmpi CmpIPredicate.eq a b)) = if a = b then (1 : EReal) else 0 := by
  by_cases h : a = b
  · subst h
    show (((BitVec.setWidth 32 (BitVec.ofBool (a == a))).toInt : ℝ) : EReal) = _
    simp
  · have : (a == b) = false := by simpa using h
    show (((BitVec.setWidth 32 (BitVec.ofBool (a == b))).toInt : ℝ) : EReal) = _
    simp [h, this]

theorem addi_ofNat (a : ℕ) (c : ℕ) : IntOp.addi (BitVec.ofNat 32 a) (BitVec.ofNat 32 c) = BitVec.ofNat 32 (a + c) := by
  simp [IntOp.addi, BitVec.ofNat_add]

theorem p62_at (v20 : Vec Ideal S1x1x512 .i32) (s : Fin 512) (n : Fin 768) :
    p62 (F := Ideal) v20 (ix2 s n) = if v20 (ix3 0 0 s) = BitVec.ofNat 32 n.val then (1 : EReal) else 0 := by
  have hn := n.isLt
  pointwise [p62]
  simp only [onehot_word, addi_ofNat]
  split_ifs <;> first
    | rfl
    | (exfalso; rename_i h h'; exact h' (h.trans (congrArg _ (by omega))))
    | (exfalso; rename_i h h'; exact h (h'.trans (congrArg _ (by omega))))

theorem p90_at (v63 : Vec Ideal S1x768x128 .bf16) (n : Fin 768) (d : Fin 128) :
    p90 (F := Ideal) v63 (ix2 n d) = v63 (ix3 0 n d) := by
  pointwise [p90, p64]

theorem p100_at (v20 : Vec Ideal S1x1x512 .i32) (v63 : Vec Ideal S1x768x128 .bf16) (s : Fin 512) (d : Fin 128) :
    p100 (F := Ideal) v20 v63 (ix2 s d) = ∑ n : Fin 768, p62 (F := Ideal) v20 (ix2 s n) * v63 (ix3 0 n d) := by
  pointwise [p100, p97, p64]

theorem p77_at (v67 : Vec Ideal S1x1x768 .f32) (n : Fin 768) :
    p77 (F := Ideal) v67 (ix2 0 n) = xcode (v67 (ix3 0 0 n)) := by
  pointwise [p77, p70, p68, xcode]
  rw [named_inv_scale, named_masked]
  split_ifs <;> rfl

theorem p95_at (v67 : Vec Ideal S1x1x768 .f32) (n : Fin 768) (k : Fin 16) :
    p95 (F := Ideal) v67 (ix2 n k) = lane (xcode (v67 (ix3 0 0 n))) k.val := by
  pointwise [p95, p87, p79, p82, p85]
  rw [← p77_at]
  fin_cases k <;> rfl

theorem p106_at (v101 : Vec Ideal S1x1x512x128 .fp8e4m3) (t : Fin 512) (d : Fin 128) :
    p106 (F := Ideal) v101 (ix2 t d) = v101 (ix4 0 0 t d) := by
  pointwise [p106]

theorem slt_word (k : Fin 128) (c : ℕ) (hc : c < 128) : IntOp.cmpi CmpIPredicate.slt (BitVec.ofNat 32 k.val) (BitVec.ofNat 32 c) = BitVec.ofBool (k.val < c) := by
  have := k.isLt
  word_cmp
theorem sle_word (k t : Fin 128) : IntOp.cmpi CmpIPredicate.sle (BitVec.ofNat 32 k.val) (BitVec.ofNat 32 t.val) = BitVec.ofBool (k.val ≤ t.val) := by
  have := k.isLt
  have := t.isLt
  word_cmp
theorem select_ofBool' (p : Prop) [Decidable p] (x y : EReal) : Scalar.select (BitVec.ofBool (decide p)) x y = if p then x else y := by
  by_cases h : p <;> simp [h, Scalar.select]

theorem p135_at (v9 : EReal) (t : Fin 384) (k : Fin 128) :
    p135 (F := Ideal) v9 (ix2 t k) = qlane (Ideal.div 1 v9) k.val := by
  pointwise [p135, p128, p110, p112, p115, p118]
  rw [slt_word k 3 (by omega), slt_word k 5 (by omega), slt_word k 6 (by omega)]
  simp only [select_ofBool', qlane]
theorem p163_at (v12 : EReal) (t : Fin 128) (k : Fin 128) :
    p163 (F := Ideal) v12 (ix2 t k) = qlane (Ideal.div 1 v12) k.val := by
  pointwise [p163, p156, p138, p140, p143, p146]
  rw [slt_word k 3 (by omega), slt_word k 5 (by omega), slt_word k 6 (by omega)]
  simp only [select_ofBool', qlane]

theorem p169_at (a : Vec Ideal S1024x256 .bf16) (b : Vec Ideal S256x256 .bf16) (r : Fin 1024) (t : Fin 256) :
    p169 (F := Ideal) a b (ix2 r t) = ∑ k : Fin 256, a (ix2 r k) * b (ix2 t k) := by
  pointwise [p169]
theorem p175_at (a : Vec Ideal S1280x256 .bf16) (b : Vec Ideal S256x256 .bf16) (r : Fin 1280) (t : Fin 256) :
    p175 (F := Ideal) a b (ix2 r t) = ∑ k : Fin 256, a (ix2 r k) * b (ix2 t k) := by
  pointwise [p175]

/-- The factor a head multiplies a score by. -/
def cfac (qs : EReal) : EReal := qs * Ideal.ofBits .f32 0x3DB504F3#32 * (((Real.log 2)⁻¹ : ℝ) : EReal)

/-! ### Query tokens 0 to 127: 768 rows before the block and the block itself -/

theorem p177_at (q : EReal) : p177 (F := Ideal) q = cfac q := by
  pointwise [p177, cfac]
  rw [named_log2e]
theorem p183_at (a : Vec Ideal S128x128 .f32) (r t : Fin 128) :
    p183 (F := Ideal) a (ix2 r t) = if r.val ≤ t.val then a (ix2 r t) else ⊥ := by
  pointwise [p183]
  rw [sle_word, select_ofBool', ofBits_neg_inf]
theorem p189_at (a : Vec Ideal S128x128 .f32) (b : Vec Ideal S768x128 .f32) (t : Fin 128) :
    p189 (F := Ideal) a b (ix2 0 t) = max (Finset.univ.sup fun r : Fin 768 => b (ix2 r t)) (Finset.univ.sup fun r : Fin 128 => p183 (F := Ideal) a (ix2 r t)) := by
  pointwise [p189]
  rw [ofBits_neg_inf, fold_max_eq_sup, fold_max_eq_sup]
theorem p210_at (q : EReal) (a : Vec Ideal S128x128 .f32) (b : Vec Ideal S768x128 .f32) (r : Fin 768) (t : Fin 128) :
    p210 (F := Ideal) q a b (ix2 r t) = Ideal.exp2 ((b (ix2 r t) - p189 (F := Ideal) a b (ix2 0 t)) * cfac q) := by
  pointwise [p210, p194]
  rw [p177_at]; rfl
theorem p214_at (q : EReal) (a : Vec Ideal S128x128 .f32) (b : Vec Ideal S768x128 .f32) (r : Fin 128) (t : Fin 128) :
    p214 (F := Ideal) q a b (ix2 r t) = Ideal.exp2 ((p183 (F := Ideal) a (ix2 r t) - p189 (F := Ideal) a b (ix2 0 t)) * cfac q) := by
  pointwise [p214, p199]
  rw [p177_at]; rfl
theorem p206_at (q : EReal) (a : Vec Ideal S128x128 .f32) (b : Vec Ideal S768x128 .f32) (t : Fin 128) :
    p206 (F := Ideal) q a b (ix2 0 t) = Ideal.div 1 ((∑ r : Fin 768, p210 (F := Ideal) q a b (ix2 r t)) + ∑ r : Fin 128, p214 (F := Ideal) q a b (ix2 r t)) := by
  pointwise [p206, p204, p210, p214]
theorem p373_at (q : EReal) (a : Vec Ideal S128x128 .f32) (b : Vec Ideal S768x128 .f32) (uv : Vec Ideal S128x1024 .bf16) (e : Vec Ideal S1024x256 .bf16) (t : Fin 128) (d : Fin 128) :
    p373 (F := Ideal) q a b uv e (ix3 0 t d) = (∑ r : Fin 1024, uv (ix2 d r) * e (ix2 r ⟨t.val, by omega⟩)) * p206 (F := Ideal) q a b (ix2 0 t) := by
  pointwise [p373, p365]

/-! ### Query tokens 128 to 255: 896 rows before the block and the block itself -/

theorem p216_at (q : EReal) : p216 (F := Ideal) q = cfac q := by
  pointwise [p216, cfac]
  rw [named_log2e]
theorem p222_at (a : Vec Ideal S128x128 .f32) (r t : Fin 128) :
    p222 (F := Ideal) a (ix2 r t) = if r.val ≤ t.val then a (ix2 r t) else ⊥ := by
  pointwise [p222]
  rw [sle_word, select_ofBool', ofBits_neg_inf]
theorem p228_at (a : Vec Ideal S128x128 .f32) (b : Vec Ideal S896x128 .f32) (t : Fin 128) :
    p228 (F := Ideal) a b (ix2 0 t) = max (Finset.univ.sup fun r : Fin 896 => b (ix2 r t)) (Finset.univ.sup fun r : Fin 128 => p222 (F := Ideal) a (ix2 r t)) := by
  pointwise [p228]
  rw [ofBits_neg_inf, fold_max_eq_sup, fold_max_eq_sup]
theorem p249_at (q : EReal) (a : Vec Ideal S128x128 .f32) (b : Vec Ideal S896x128 .f32) (r : Fin 896) (t : Fin 128) :
    p249 (F := Ideal) q a b (ix2 r t) = Ideal.exp2 ((b (ix2 r t) - p228 (F := Ideal) a b (ix2 0 t)) * cfac q) := by
  pointwise [p249, p233]
  rw [p216_at]; rfl
theorem p253_at (q : EReal) (a : Vec Ideal S128x128 .f32) (b : Vec Ideal S896x128 .f32) (r : Fin 128) (t : Fin 128) :
    p253 (F := Ideal) q a b (ix2 r t) = Ideal.exp2 ((p222 (F := Ideal) a (ix2 r t) - p228 (F := Ideal) a b (ix2 0 t)) * cfac q) := by
  pointwise [p253, p238]
  rw [p216_at]; rfl
theorem p245_at (q : EReal) (a : Vec Ideal S128x128 .f32) (b : Vec Ideal S896x128 .f32) (t : Fin 128) :
    p245 (F := Ideal) q a b (ix2 0 t) = Ideal.div 1 ((∑ r : Fin 896, p249 (F := Ideal) q a b (ix2 r t)) + ∑ r : Fin 128, p253 (F := Ideal) q a b (ix2 r t)) := by
  pointwise [p245, p243, p249, p253]
theorem p381_at (q : EReal) (a : Vec Ideal S128x128 .f32) (b : Vec Ideal S896x128 .f32) (uv : Vec Ideal S128x1024 .bf16) (e : Vec Ideal S1024x256 .bf16) (t : Fin 128) (d : Fin 128) :
    p381 (F := Ideal) q a b uv e (ix3 0 t d) = (∑ r : Fin 1024, uv (ix2 d r) * e (ix2 r ⟨128 + t.val, by omega⟩)) * p245 (F := Ideal) q a b (ix2 0 t) := by
  pointwise [p381, p365]

/-! ### Query tokens 256 to 383: 1024 rows before the block and the block itself -/

theorem p255_at (q : EReal) : p255 (F := Ideal) q = cfac q := by
  pointwise [p255, cfac]
  rw [named_log2e]
theorem p261_at (a : Vec Ideal S128x128 .f32) (r t : Fin 128) :
    p261 (F := Ideal) a (ix2 r t) = if r.val ≤ t.val then a (ix2 r t) else ⊥ := by
  pointwise [p261]
  rw [sle_word, select_ofBool', ofBits_neg_inf]
theorem p267_at (a : Vec Ideal S128x128 .f32) (b : Vec Ideal S1024x128 .f32) (t : Fin 128) :
    p267 (F := Ideal) a b (ix2 0 t) = max (Finset.univ.sup fun r : Fin 1024 => b (ix2 r t)) (Finset.univ.sup fun r : Fin 128 => p261 (F := Ideal) a (ix2 r t)) := by
  pointwise [p267]
  rw [ofBits_neg_inf, fold_max_eq_sup, fold_max_eq_sup]
theorem p288_at (q : EReal) (a : Vec Ideal S128x128 .f32) (b : Vec Ideal S1024x128 .f32) (r : Fin 1024) (t : Fin 128) :
    p288 (F := Ideal) q a b (ix2 r t) = Ideal.exp2 ((b (ix2 r t) - p267 (F := Ideal) a b (ix2 0 t)) * cfac q) := by
  pointwise [p288, p272]
  rw [p255_at]; rfl
theorem p292_at (q : EReal) (a : Vec Ideal S128x128 .f32) (b : Vec Ideal S1024x128 .f32) (r : Fin 128) (t : Fin 128) :
    p292 (F := Ideal) q a b (ix2 r t) = Ideal.exp2 ((p261 (F := Ideal) a (ix2 r t) - p267 (F := Ideal) a b (ix2 0 t)) * cfac q) := by
  pointwise [p292, p277]
  rw [p255_at]; rfl
theorem p284_at (q : EReal) (a : Vec Ideal S128x128 .f32) (b : Vec Ideal S1024x128 .f32) (t : Fin 128) :
    p284 (F := Ideal) q a b (ix2 0 t) = Ideal.div 1 ((∑ r : Fin 1024, p288 (F := Ideal) q a b (ix2 r t)) + ∑ r : Fin 128, p292 (F := Ideal) q a b (ix2 r t)) := by
  pointwise [p284, p282, p288, p292]
theorem p392_at (q : EReal) (a : Vec Ideal S128x128 .f32) (b : Vec Ideal S1024x128 .f32) (uv : Vec Ideal S128x1280 .bf16) (e : Vec Ideal S1280x256 .bf16) (t : Fin 128) (d : Fin 128) :
    p392 (F := Ideal) q a b uv e (ix3 0 t d) = (∑ r : Fin 1280, uv (ix2 d r) * e (ix2 r ⟨t.val, by omega⟩)) * p284 (F := Ideal) q a b (ix2 0 t) := by
  pointwise [p392, p384]

/-! ### Query tokens 384 to 511: 1152 rows before the block and the block itself -/

theorem p294_at (q : EReal) : p294 (F := Ideal) q = cfac q := by
  pointwise [p294, cfac]
  rw [named_log2e]
theorem p300_at (a : Vec Ideal S128x128 .f32) (r t : Fin 128) :
    p300 (F := Ideal) a (ix2 r t) = if r.val ≤ t.val then a (ix2 r t) else ⊥ := by
  pointwise [p300]
  rw [sle_word, select_ofBool', ofBits_neg_inf]
theorem p306_at (a : Vec Ideal S128x128 .f32) (b : Vec Ideal S1152x128 .f32) (t : Fin 128) :
    p306 (F := Ideal) a b (ix2 0 t) = max (Finset.univ.sup fun r : Fin 1152 => b (ix2 r t)) (Finset.univ.sup fun r : Fin 128 => p300 (F := Ideal) a (ix2 r t)) := by
  pointwise [p306]
  rw [ofBits_neg_inf, fold_max_eq_sup, fold_max_eq_sup]
theorem p327_at (q : EReal) (a : Vec Ideal S128x128 .f32) (b : Vec Ideal S1152x128 .f32) (r : Fin 1152) (t : Fin 128) :
    p327 (F := Ideal) q a b (ix2 r t) = Ideal.exp2 ((b (ix2 r t) - p306 (F := Ideal) a b (ix2 0 t)) * cfac q) := by
  pointwise [p327, p311]
  rw [p294_at]; rfl
theorem p331_at (q : EReal) (a : Vec Ideal S128x128 .f32) (b : Vec Ideal S1152x128 .f32) (r : Fin 128) (t : Fin 128) :
    p331 (F := Ideal) q a b (ix2 r t) = Ideal.exp2 ((p300 (F := Ideal) a (ix2 r t) - p306 (F := Ideal) a b (ix2 0 t)) * cfac q) := by
  pointwise [p331, p316]
  rw [p294_at]; rfl
theorem p323_at (q : EReal) (a : Vec Ideal S128x128 .f32) (b : Vec Ideal S1152x128 .f32) (t : Fin 128) :
    p323 (F := Ideal) q a b (ix2 0 t) = Ideal.div 1 ((∑ r : Fin 1152, p327 (F := Ideal) q a b (ix2 r t)) + ∑ r : Fin 128, p331 (F := Ideal) q a b (ix2 r t)) := by
  pointwise [p323, p321, p327, p331]
theorem p400_at (q : EReal) (a : Vec Ideal S128x128 .f32) (b : Vec Ideal S1152x128 .f32) (uv : Vec Ideal S128x1280 .bf16) (e : Vec Ideal S1280x256 .bf16) (t : Fin 128) (d : Fin 128) :
    p400 (F := Ideal) q a b uv e (ix3 0 t d) = (∑ r : Fin 1280, uv (ix2 d r) * e (ix2 r ⟨128 + t.val, by omega⟩)) * p323 (F := Ideal) q a b (ix2 0 t) := by
  pointwise [p400, p384]

theorem p346_at (v67 : Vec Ideal S1x1x768 .f32) (v338 : Vec Ideal S1x1x768x128 .f32) (d : Fin 128) (n : Fin 768) :
    p346 (F := Ideal) v67 v338 (ix2 d n) = v338 (ix4 0 0 n d) * (if 0 < v67 (ix3 0 0 n) then Ideal.div 1 (v67 (ix3 0 0 n)) else 0) := by
  pointwise [p346, p343, p339, p70, p68]
  split_ifs <;> rfl
theorem p359_at (v15 v18 : EReal) (a : Vec Ideal S1x1x384x128 .fp8e4m3) (b : Vec Ideal S1x1x128x128 .fp8e4m3) (d : Fin 128) (s : Fin 512) :
    p359 (F := Ideal) v15 v18 a b (ix2 d s) = if h : s.val < 384 then a (ix4 0 0 ⟨s.val, h⟩ d) * v15 else b (ix4 0 0 ⟨s.val - 384, by omega⟩ d) * v18 := by
  pointwise [p359, p351, p356]
theorem p362_at (v15 v18 : EReal) (a : Vec Ideal S1x1x384x128 .fp8e4m3) (b : Vec Ideal S1x1x128x128 .fp8e4m3) (d : Fin 128) (s : Fin 512) :
    p362 (F := Ideal) v15 v18 a b (ix2 d s) = p359 (F := Ideal) v15 v18 a b (ix2 d s) := by
  pointwise [p362]
theorem p409_at (v15 v18 : EReal) (v20 : Vec Ideal S1x1x512 .i32) (v338 : Vec Ideal S1x1x768x128 .f32) (a : Vec Ideal S1x1x384x128 .fp8e4m3) (b : Vec Ideal S1x1x128x128 .fp8e4m3) (n : Fin 768) (d : Fin 128) :
    p409 (F := Ideal) v15 v18 v20 v338 a b (ix4 0 0 n d) = v338 (ix4 0 0 n d) + ∑ s : Fin 512, p359 (F := Ideal) v15 v18 a b (ix2 d s) * p62 (F := Ideal) v20 (ix2 s n) := by
  pointwise [p409, p403, p339]
theorem p416_at (v15 v18 : EReal) (v20 : Vec Ideal S1x1x512 .i32) (v67 : Vec Ideal S1x1x768 .f32) (a : Vec Ideal S1x1x384x128 .fp8e4m3) (b : Vec Ideal S1x1x128x128 .fp8e4m3) (n : Fin 768) :
    p416 (F := Ideal) v15 v18 v20 v67 a b (ix3 0 0 n) = v67 (ix3 0 0 n) + ∑ s : Fin 512, p62 (F := Ideal) v20 (ix2 s n) := by
  pointwise [p416, p403, p68]

end Cert.KernelIdeal.Hand
-- ==== Proof.HeadVal.lean ====
/- What one head leaves, element by element, at the reals. -/
module

public import proofs.«01_k».proof.Proof.HeadRun
public import proofs.«01_k».proof.Proof.PayVal
public import proofs.«01_k».proof.Proof.Math

@[expose] public section

set_option maxRecDepth 16384

noncomputable section

namespace Cert.KernelIdeal.Hand

open Idealize.ShloMosaic Idealize.ShloMosaic.TcCoe Idealize.SL.Sem Cert.KernelIdeal Cert.KernelIdeal.Gen
open Idealize.ShloMosaic.Pointwise

/-! ### Windows at an index -/

section Windows

variable {α : Type}

theorem window_ix2 {n0 n1 m0 m1 : ℕ} (x : (⟨2, ![n0, n1]⟩ : Shape).Idx → α) (o0 o1 : ℕ)
    (inb : ∀ a, (![o0, o1] : Fin 2 → ℕ) a + (![m0, m1] : Fin 2 → ℕ) a ≤ (⟨2, ![n0, n1]⟩ : Shape).size a)
    (a : Fin m0) (b : Fin m1) (a' : Fin n0) (b' : Fin n1) (ha : a'.val = o0 + a.val) (hb : b'.val = o1 + b.val) :
    VecWindow.window (s := ⟨2, ![n0, n1]⟩) x ![o0, o1] ![m0, m1] inb (ix2 a b) = x (ix2 a' b') := by
  refine congrArg x (funext fun i => ?_)
  match i with
  | ⟨0, _⟩ => exact Fin.ext (by show o0 + 1 * a.val = a'.val; omega)
  | ⟨1, _⟩ => exact Fin.ext (by show o1 + 1 * b.val = b'.val; omega)

theorem put_ix2_in {n0 n1 m0 m1 : ℕ} (x : (⟨2, ![n0, n1]⟩ : Shape).Idx → α) (o0 o1 : ℕ)
    (w : (⟨2, ![m0, m1]⟩ : Shape).Idx → α) (a : Fin n0) (b : Fin n1) (a' : Fin m0) (b' : Fin m1)
    (ha : a.val = o0 + a'.val) (hb : b.val = o1 + b'.val) :
    VecWindow.put (s := ⟨2, ![n0, n1]⟩) x ![o0, o1] ![m0, m1] w (ix2 a b) = w (ix2 a' b') := by
  have h : ∀ i, (![o0, o1] : Fin 2 → ℕ) i ≤ ((ix2 a b : (⟨2, ![n0, n1]⟩ : Shape).Idx) i).val
      ∧ ((ix2 a b : (⟨2, ![n0, n1]⟩ : Shape).Idx) i).val < (![o0, o1] : Fin 2 → ℕ) i + (![m0, m1] : Fin 2 → ℕ) i := fun i => by
    have := a'.isLt
    have := b'.isLt
    match i with
    | ⟨0, _⟩ => exact ⟨by show o0 ≤ a.val; omega, by show a.val < o0 + m0; omega⟩
    | ⟨1, _⟩ => exact ⟨by show o1 ≤ b.val; omega, by show b.val < o1 + m1; omega⟩
  unfold VecWindow.put
  rw [dif_pos h]
  refine congrArg w (funext fun i => ?_)
  match i with
  | ⟨0, _⟩ => exact Fin.ext (by show a.val - o0 = a'.val; omega)
  | ⟨1, _⟩ => exact Fin.ext (by show b.val - o1 = b'.val; omega)

theorem put_ix2_out {n0 n1 m0 m1 : ℕ} (x : (⟨2, ![n0, n1]⟩ : Shape).Idx → α) (o0 o1 : ℕ)
    (w : (⟨2, ![m0, m1]⟩ : Shape).Idx → α) (a : Fin n0) (b : Fin n1)
    (h : a.val < o0 ∨ o0 + m0 ≤ a.val ∨ b.val < o1 ∨ o1 + m1 ≤ b.val) :
    VecWindow.put (s := ⟨2, ![n0, n1]⟩) x ![o0, o1] ![m0, m1] w (ix2 a b) = x (ix2 a b) := by
  unfold VecWindow.put
  rw [dif_neg]
  intro hall
  have h0 : o0 ≤ a.val ∧ a.val < o0 + m0 := hall 0
  have h1 : o1 ≤ b.val ∧ b.val < o1 + m1 := hall 1
  omega

theorem window_ix3 {n0 n1 n2 m0 m1 m2 : ℕ} (x : (⟨3, ![n0, n1, n2]⟩ : Shape).Idx → α) (o : Fin 3 → ℕ)
    (inb : ∀ a, o a + (![m0, m1, m2] : Fin 3 → ℕ) a ≤ (⟨3, ![n0, n1, n2]⟩ : Shape).size a)
    (a : Fin m0) (b : Fin m1) (c : Fin m2) (a' : Fin n0) (b' : Fin n1) (c' : Fin n2)
    (ha : a'.val = o 0 + a.val) (hb : b'.val = o 1 + b.val) (hc : c'.val = o 2 + c.val) :
    VecWindow.window (s := ⟨3, ![n0, n1, n2]⟩) x o ![m0, m1, m2] inb (ix3 a b c) = x (ix3 a' b' c') := by
  refine congrArg x (funext fun i => ?_)
  match i with
  | ⟨0, _⟩ => exact Fin.ext (by show o 0 + 1 * a.val = a'.val; omega)
  | ⟨1, _⟩ => exact Fin.ext (by show o 1 + 1 * b.val = b'.val; omega)
  | ⟨2, _⟩ => exact Fin.ext (by show o 2 + 1 * c.val = c'.val; omega)

theorem put_ix3_in {n0 n1 n2 m0 m1 m2 : ℕ} (x : (⟨3, ![n0, n1, n2]⟩ : Shape).Idx → α) (o : Fin 3 → ℕ)
    (w : (⟨3, ![m0, m1, m2]⟩ : Shape).Idx → α) (a : Fin n0) (b : Fin n1) (c : Fin n2) (a' : Fin m0) (b' : Fin m1) (c' : Fin m2)
    (ha : a.val = o 0 + a'.val) (hb : b.val = o 1 + b'.val) (hc : c.val = o 2 + c'.val) :
    VecWindow.put (s := ⟨3, ![n0, n1, n2]⟩) x o ![m0, m1, m2] w (ix3 a b c) = w (ix3 a' b' c') := by
  have h : ∀ i, o i ≤ ((ix3 a b c : (⟨3, ![n0, n1, n2]⟩ : Shape).Idx) i).val
      ∧ ((ix3 a b c : (⟨3, ![n0, n1, n2]⟩ : Shape).Idx) i).val < o i + (![m0, m1, m2] : Fin 3 → ℕ) i := fun i => by
    have := a'.isLt
    have := b'.isLt
    have := c'.isLt
    match i with
    | ⟨0, _⟩ => exact ⟨by show o 0 ≤ a.val; omega, by show a.val < o 0 + m0; omega⟩
    | ⟨1, _⟩ => exact ⟨by show o 1 ≤ b.val; omega, by show b.val < o 1 + m1; omega⟩
    | ⟨2, _⟩ => exact ⟨by show o 2 ≤ c.val; omega, by show c.val < o 2 + m2; omega⟩
  unfold VecWindow.put
  rw [dif_pos h]
  refine congrArg w (funext fun i => ?_)
  match i with
  | ⟨0, _⟩ => exact Fin.ext (by show a.val - o 0 = a'.val; omega)
  | ⟨1, _⟩ => exact Fin.ext (by show b.val - o 1 = b'.val; omega)
  | ⟨2, _⟩ => exact Fin.ext (by show c.val - o 2 = c'.val; omega)

theorem put_ix3_out {n0 n1 n2 m0 m1 m2 : ℕ} (x : (⟨3, ![n0, n1, n2]⟩ : Shape).Idx → α) (o : Fin 3 → ℕ)
    (w : (⟨3, ![m0, m1, m2]⟩ : Shape).Idx → α) (a : Fin n0) (b : Fin n1) (c : Fin n2)
    (h : (a.val < o 0 ∨ o 0 + m0 ≤ a.val) ∨ (b.val < o 1 ∨ o 1 + m1 ≤ b.val) ∨ (c.val < o 2 ∨ o 2 + m2 ≤ c.val)) :
    VecWindow.put (s := ⟨3, ![n0, n1, n2]⟩) x o ![m0, m1, m2] w (ix3 a b c) = x (ix3 a b c) := by
  unfold VecWindow.put
  rw [dif_neg]
  intro hall
  have h0 : o 0 ≤ a.val ∧ a.val < o 0 + m0 := hall 0
  have h1 : o 1 ≤ b.val ∧ b.val < o 1 + m1 := hall 1
  have h2 : o 2 ≤ c.val ∧ c.val < o 2 + m2 := hall 2
  omega

theorem window_ix4 {n0 n1 n2 n3 m0 m1 m2 m3 : ℕ} (x : (⟨4, ![n0, n1, n2, n3]⟩ : Shape).Idx → α) (o : Fin 4 → ℕ)
    (inb : ∀ a, o a + (![m0, m1, m2, m3] : Fin 4 → ℕ) a ≤ (⟨4, ![n0, n1, n2, n3]⟩ : Shape).size a)
    (a : Fin m0) (b : Fin m1) (c : Fin m2) (d : Fin m3) (a' : Fin n0) (b' : Fin n1) (c' : Fin n2) (d' : Fin n3)
    (ha : a'.val = o 0 + a.val) (hb : b'.val = o 1 + b.val) (hc : c'.val = o 2 + c.val) (hd : d'.val = o 3 + d.val) :
    VecWindow.window (s := ⟨4, ![n0, n1, n2, n3]⟩) x o ![m0, m1, m2, m3] inb (ix4 a b c d) = x (ix4 a' b' c' d') := by
  refine congrArg x (funext fun i => ?_)
  match i with
  | ⟨0, _⟩ => exact Fin.ext (by show o 0 + 1 * a.val = a'.val; omega)
  | ⟨1, _⟩ => exact Fin.ext (by show o 1 + 1 * b.val = b'.val; omega)
  | ⟨2, _⟩ => exact Fin.ext (by show o 2 + 1 * c.val = c'.val; omega)
  | ⟨3, _⟩ => exact Fin.ext (by show o 3 + 1 * d.val = d'.val; omega)

theorem put_ix4_in {n0 n1 n2 n3 m0 m1 m2 m3 : ℕ} (x : (⟨4, ![n0, n1, n2, n3]⟩ : Shape).Idx → α) (o : Fin 4 → ℕ)
    (w : (⟨4, ![m0, m1, m2, m3]⟩ : Shape).Idx → α) (a : Fin n0) (b : Fin n1) (c : Fin n2) (d : Fin n3)
    (a' : Fin m0) (b' : Fin m1) (c' : Fin m2) (d' : Fin m3)
    (ha : a.val = o 0 + a'.val) (hb : b.val = o 1 + b'.val) (hc : c.val = o 2 + c'.val) (hd : d.val = o 3 + d'.val) :
    VecWindow.put (s := ⟨4, ![n0, n1, n2, n3]⟩) x o ![m0, m1, m2, m3] w (ix4 a b c d) = w (ix4 a' b' c' d') := by
  have h : ∀ i, o i ≤ ((ix4 a b c d : (⟨4, ![n0, n1, n2, n3]⟩ : Shape).Idx) i).val
      ∧ ((ix4 a b c d : (⟨4, ![n0, n1, n2, n3]⟩ : Shape).Idx) i).val < o i + (![m0, m1, m2, m3] : Fin 4 → ℕ) i := fun i => by
    have := a'.isLt
    have := b'.isLt
    have := c'.isLt
    have := d'.isLt
    match i with
    | ⟨0, _⟩ => exact ⟨by show o 0 ≤ a.val; omega, by show a.val < o 0 + m0; omega⟩
    | ⟨1, _⟩ => exact ⟨by show o 1 ≤ b.val; omega, by show b.val < o 1 + m1; omega⟩
    | ⟨2, _⟩ => exact ⟨by show o 2 ≤ c.val; omega, by show c.val < o 2 + m2; omega⟩
    | ⟨3, _⟩ => exact ⟨by show o 3 ≤ d.val; omega, by show d.val < o 3 + m3; omega⟩
  unfold VecWindow.put
  rw [dif_pos h]
  refine congrArg w (funext fun i => ?_)
  match i with
  | ⟨0, _⟩ => exact Fin.ext (by show a.val - o 0 = a'.val; omega)
  | ⟨1, _⟩ => exact Fin.ext (by show b.val - o 1 = b'.val; omega)
  | ⟨2, _⟩ => exact Fin.ext (by show c.val - o 2 = c'.val; omega)
  | ⟨3, _⟩ => exact Fin.ext (by show d.val - o 3 = d'.val; omega)

theorem put_ix4_out {n0 n1 n2 n3 m0 m1 m2 m3 : ℕ} (x : (⟨4, ![n0, n1, n2, n3]⟩ : Shape).Idx → α) (o : Fin 4 → ℕ)
    (w : (⟨4, ![m0, m1, m2, m3]⟩ : Shape).Idx → α) (a : Fin n0) (b : Fin n1) (c : Fin n2) (d : Fin n3)
    (h : b.val < o 1 ∨ o 1 + m1 ≤ b.val) :
    VecWindow.put (s := ⟨4, ![n0, n1, n2, n3]⟩) x o ![m0, m1, m2, m3] w (ix4 a b c d) = x (ix4 a b c d) := by
  unfold VecWindow.put
  rw [dif_neg]
  intro hall
  have h1 : o 1 ≤ b.val ∧ b.val < o 1 + m1 := hall 1
  omega

end Windows

/-! ### The loads -/

section Loads

variable {F : FTy → Type} [FloatOps F] [Named F] (X : HIn F)

theorem l63_at (n : Fin 768) (d : Fin 128) : l63 X (ix3 0 n d) = X.cb (ix3 X.j n d) :=
  window_ix3 (m0 := 1) (m1 := 768) (m2 := 128) X.cb _ _ 0 n d X.j n d (by simp) (by simp) (by simp)
theorem l101_at (t : Fin 512) (d : Fin 128) : l101 X (ix4 0 0 t d) = X.q (ix4 0 X.j t d) :=
  window_ix4 (m0 := 1) (m1 := 1) (m2 := 512) (m3 := 128) X.q _ _ 0 0 t d 0 X.j t d (by simp) (by simp) (by simp) (by simp)
theorem l338_at (n : Fin 768) (d : Fin 128) : l338 X (ix4 0 0 n d) = X.u (ix4 0 X.j n d) :=
  window_ix4 (m0 := 1) (m1 := 1) (m2 := 768) (m3 := 128) X.u _ _ 0 0 n d 0 X.j n d (by simp) (by simp) (by simp) (by simp)
theorem l347_at (s : Fin 384) (d : Fin 128) : l347 X (ix4 0 0 s d) = X.v (ix4 0 X.j (Fin.castLE (by omega) s) d) :=
  window_ix4 (m0 := 1) (m1 := 1) (m2 := 384) (m3 := 128) X.v _ _ 0 0 s d 0 X.j _ d (by simp) (by simp) (by simp) (by simp)
theorem l352_at (s : Fin 128) (d : Fin 128) : l352 X (ix4 0 0 s d) = X.v (ix4 0 X.j ⟨384 + s.val, by omega⟩ d) :=
  window_ix4 (m0 := 1) (m1 := 1) (m2 := 128) (m3 := 128) X.v _ _ 0 0 s d 0 X.j _ d (by simp) (by simp) (by simp) (by simp)

end Loads

end Cert.KernelIdeal.Hand
-- ==== Proof.HeadVal2.lean ====
/- What one head leaves, element by element: the scores, the weights, the outputs and the two updates. -/
module

public import proofs.«01_k».proof.Proof.HeadVal

@[expose] public section

set_option maxRecDepth 16384

noncomputable section

namespace Cert.KernelIdeal.Hand

open Idealize.ShloMosaic Idealize.ShloMosaic.TcCoe Idealize.SL.Sem Cert.KernelIdeal Cert.KernelIdeal.Gen
open Idealize.ShloMosaic.Pointwise

variable (X : HIn Ideal) (kc : Fin 512 → Fin 768)

/-- The unscaled score of a code for a query token. -/
def Gs (t : Fin 512) (n : Fin 768) : EReal := ∑ d : Fin 128, X.cb (ix3 X.j n d) * X.q (ix4 0 X.j t d)
/-- The count of a code. -/
def cn (n : Fin 768) : EReal := l67 X (ix3 0 0 n)
/-- The query scale of a token's block. -/
def qsT (t : Fin 512) : EReal := if t.val < 384 then l9 X else l12 X

/-- What a head needs of what it finds: positive finite query scales, key codes that name codes, counts below infinity, and
    zeros in the parts of the two scratch buffers no head writes. -/
structure Ok : Prop where
  hq : ∀ t, ∃ r : ℝ, 0 < r ∧ qsT X t = (r : EReal)
  hk : ∀ s, l20 X (ix3 0 0 s) = BitVec.ofNat 32 (kc s).val
  hc : ∀ n, cn X n < ⊤
  hlhs : ∀ (r : Fin 1280) (k : Fin 256), 768 ≤ r.val → 128 ≤ k.val → X.lhs (ix2 r k) = (0 : EReal)
  hep : ∀ (r : Fin 1280) (t : Fin 512), ((896 ≤ r.val ∧ r.val < 1024 ∧ t.val < 128) ∨ (1152 ≤ r.val ∧ 256 ≤ t.val ∧ t.val < 384)) → X.ep (ix2 r t) = (0 : EReal)

/-- The row of scores of a query token: the codes with their scaled log counts, then the key tokens. -/
def W0 (t : Fin 512) (r : Fin 1280) : EReal :=
  if h : r.val < 768 then Gs X t ⟨r.val, h⟩ + xcode (cn X ⟨r.val, h⟩) * Ideal.div 1 (qsT X t) else Gs X t (kc ⟨r.val - 768, by omega⟩)
/-- The row of scores with the key tokens after the query token masked. -/
def Wm (t : Fin 512) (r : Fin 1280) : EReal := if r.val < 768 ∨ r.val - 768 ≤ t.val then W0 X kc t r else ⊥
/-- The row of weights. -/
def Ew (t : Fin 512) (r : Fin 1280) : EReal := Ideal.exp2 ((Wm X kc t r - Finset.univ.sup (Wm X kc t)) * cfac (qsT X t))

/-! ### The two score operands -/

theorem lhs_code (r : Fin 1280) (k : Fin 256) (hr : r.val < 768) (hk : k.val < 128) :
    lhs_3 X (ix2 r k) = X.cb (ix3 X.j ⟨r.val, hr⟩ ⟨k.val, hk⟩) := by
  refine (put_ix2_out (m0 := 512) (m1 := 128) _ _ _ _ _ _ (by omega)).trans ?_
  refine (put_ix2_out (m0 := 768) (m1 := 16) _ _ _ _ _ _ (by omega)).trans ?_
  refine (put_ix2_in (m0 := 768) (m1 := 128) _ _ _ _ r k ⟨r.val, hr⟩ ⟨k.val, hk⟩ (by simp) (by simp)).trans ?_
  rw [p90_at, l63_at]
theorem lhs_limb (r : Fin 1280) (k : Fin 256) (hr : r.val < 768) (hk : 128 ≤ k.val) (hk' : k.val < 144) :
    lhs_3 X (ix2 r k) = lane (xcode (cn X ⟨r.val, hr⟩)) (k.val - 128) := by
  refine (put_ix2_out (m0 := 512) (m1 := 128) _ _ _ _ _ _ (by omega)).trans ?_
  refine (put_ix2_in (m0 := 768) (m1 := 16) _ _ _ _ r k ⟨r.val, hr⟩ ⟨k.val - 128, by omega⟩ (by simp) (by show k.val = 128 + (k.val - 128); omega)).trans ?_
  rw [p95_at]; rfl
theorem lhs_token (hX : Ok X kc) (r : Fin 1280) (k : Fin 256) (hr : 768 ≤ r.val) (hk : k.val < 128) :
    lhs_3 X (ix2 r k) = X.cb (ix3 X.j (kc ⟨r.val - 768, by omega⟩) ⟨k.val, hk⟩) := by
  refine (put_ix2_in (m0 := 512) (m1 := 128) _ _ _ _ r k ⟨r.val - 768, by omega⟩ ⟨k.val, hk⟩ (by show r.val = 768 + (r.val - 768); omega) (by simp)).trans ?_
  rw [p100_at]
  rw [Finset.sum_eq_single (kc ⟨r.val - 768, by omega⟩)]
  · rw [p62_at, if_pos (hX.hk _), one_mul, l63_at]
  · intro n _ hn
    rw [p62_at, if_neg, zero_mul]
    rw [hX.hk]
    intro h
    apply hn
    have := congrArg BitVec.toNat h
    have h1 := n.isLt
    have h2 := (kc ⟨r.val - 768, by omega⟩).isLt
    simp only [BitVec.toNat_ofNat] at this
    exact Fin.ext (by omega)
  · intro h; exact absurd (Finset.mem_univ _) h
theorem lhs_rest (r : Fin 1280) (k : Fin 256) (h : (768 ≤ r.val ∧ 128 ≤ k.val) ∨ 144 ≤ k.val) :
    lhs_3 X (ix2 r k) = X.lhs (ix2 r k) := by
  refine (put_ix2_out (m0 := 512) (m1 := 128) _ _ _ _ _ _ (by omega)).trans ?_
  refine (put_ix2_out (m0 := 768) (m1 := 16) _ _ _ _ _ _ (by omega)).trans ?_
  exact put_ix2_out (m0 := 768) (m1 := 128) _ _ _ _ _ _ (by omega)
theorem rhs_query (t : Fin 512) (k : Fin 256) (hk : k.val < 128) : rhs_3 X (ix2 t k) = X.q (ix4 0 X.j t ⟨k.val, hk⟩) := by
  refine (put_ix2_out (m0 := 128) (m1 := 128) _ _ _ _ _ _ (by omega)).trans ?_
  refine (put_ix2_out (m0 := 384) (m1 := 128) _ _ _ _ _ _ (by omega)).trans ?_
  refine (put_ix2_in (m0 := 512) (m1 := 128) _ _ _ _ t k t ⟨k.val, hk⟩ (by simp) (by simp)).trans ?_
  rw [p106_at, l101_at]
theorem rhs_lane (t : Fin 512) (k : Fin 256) (hk : 128 ≤ k.val) : rhs_3 X (ix2 t k) = qlane (Ideal.div 1 (qsT X t)) (k.val - 128) := by
  by_cases h : t.val < 384
  · refine (put_ix2_out (m0 := 128) (m1 := 128) _ _ _ _ _ _ (by omega)).trans ?_
    refine (put_ix2_in (m0 := 384) (m1 := 128) _ _ _ _ t k ⟨t.val, h⟩ ⟨k.val - 128, by omega⟩ (by simp) (by show k.val = 128 + (k.val - 128); omega)).trans ?_
    rw [p135_at, qsT, if_pos h]
  · refine (put_ix2_in (m0 := 128) (m1 := 128) _ _ _ _ t k ⟨t.val - 384, by omega⟩ ⟨k.val - 128, by omega⟩ (by show t.val = 384 + (t.val - 384); omega) (by show k.val = 128 + (k.val - 128); omega)).trans ?_
    rw [p163_at, qsT, if_neg h]

/-! ### The scores -/

theorem xcode_cases (c : EReal) (hc : c < ⊤) : xcode c = ⊥ ∨ ∃ r : ℝ, xcode c = (r : EReal) := by
  unfold xcode
  split_ifs with h
  · right
    obtain ⟨r, rfl⟩ : ∃ r : ℝ, c = (r : EReal) := ⟨c.toReal, (EReal.coe_toReal hc.ne (by rintro rfl; exact absurd h (by simp))).symm⟩
    have h0 : 0 < r := by exact_mod_cast h
    refine ⟨Real.log r * (134217728 / 11863283), ?_⟩
    have : Ideal.log (r : EReal) = ((Real.log r : ℝ) : EReal) := by
      show (if r ≤ 0 then (⊥ : EReal) else ((Real.log r : ℝ) : EReal)) = _
      rw [if_neg (not_le.2 h0)]
    rw [this, invScale, ← EReal.coe_mul]
  · exact .inl rfl

theorem limb_sum (x : EReal) (hx : x = ⊥ ∨ ∃ r : ℝ, x = (r : EReal)) (ρ : ℝ) (hρ : 0 < ρ) :
    ∑ k : Fin 6, lane x k.val * qlane (ρ : EReal) k.val = x * (ρ : EReal) := by
  have hz : (ρ : EReal) - (ρ : EReal) = 0 := by rw [← EReal.coe_sub, sub_self]; rfl
  rw [Fin.sum_univ_six]
  simp only [lane, qlane]
  norm_num
  rcases hx with rfl | ⟨r, rfl⟩
  · rw [EReal.bot_mul_coe_of_pos hρ]; simp
  · have hr : (r : EReal) - (r : EReal) = 0 := by rw [← EReal.coe_sub, sub_self]; rfl
    rw [hr]; simp

theorem div_one_coe (r : ℝ) (hr : 0 < r) : Ideal.div 1 (r : EReal) = ((r⁻¹ : ℝ) : EReal) := by
  show (if (r : EReal) = 0 then _ else (1 : EReal) * (r : EReal)⁻¹) = _
  rw [if_neg (by exact_mod_cast hr.ne'), one_mul, ← EReal.coe_inv]

theorem sum_halves (f : Fin 256 → EReal) : ∑ k, f k = (∑ k : Fin 128, f ⟨k.val, by omega⟩) + ∑ k : Fin 128, f ⟨128 + k.val, by omega⟩ :=
  Fin.sum_univ_add (a := 128) (b := 128) f

theorem score_sum (hX : Ok X kc) (t : Fin 512) (r : Fin 1280) :
    ∑ k : Fin 256, lhs_3 X (ix2 r k) * rhs_3 X (ix2 t k) = W0 X kc t r := by
  rw [sum_halves]
  unfold W0
  split_ifs with h
  · congr 1
    · exact Finset.sum_congr rfl fun k _ => by rw [lhs_code X r _ h (by exact k.isLt), rhs_query X t _ (by exact k.isLt)]
    · obtain ⟨q, hq, hq'⟩ := hX.hq t
      rw [sum_first (p := 6) (by omega)]
      · rw [hq', div_one_coe q hq, ← limb_sum _ (xcode_cases _ (hX.hc _)) _ (inv_pos.2 hq)]
        refine Finset.sum_congr rfl fun k _ => ?_
        have := k.isLt
        rw [lhs_limb X r _ h (by show 128 ≤ 128 + k.val; omega) (by show 128 + k.val < 144; omega), rhs_lane X t _ (by show 128 ≤ 128 + k.val; omega), hq', div_one_coe q hq]
        simp
      · intro k hk
        rw [rhs_lane X t _ (by show 128 ≤ 128 + k.val; omega)]
        have : qlane (Ideal.div 1 (qsT X t)) (128 + k.val - 128) = 0 := by
          unfold qlane
          rw [if_neg (by omega), if_neg (by omega), if_neg (by omega)]
        rw [this, mul_zero]
  · rw [show (∑ k : Fin 128, lhs_3 X (ix2 r ⟨128 + k.val, by omega⟩) * rhs_3 X (ix2 t ⟨128 + k.val, by omega⟩)) = 0 from
      Finset.sum_eq_zero fun k _ => by
        rw [lhs_rest X r _ (.inl ⟨by omega, by show 128 ≤ 128 + k.val; omega⟩), hX.hlhs r _ (by omega) (by show 128 ≤ 128 + k.val; omega), zero_mul], add_zero]
    exact Finset.sum_congr rfl fun k _ => by rw [lhs_token X kc hX r _ (by omega) (by exact k.isLt), rhs_query X t _ (by exact k.isLt)]

theorem gs_at (hX : Ok X kc) (r : Fin 1280) (t : Fin 512) (h : r.val < 1024 ∨ 256 ≤ t.val) : gs_2 X (ix2 r t) = W0 X kc t r := by
  rw [← score_sum X kc hX]
  by_cases ht : 256 ≤ t.val
  · refine (put_ix2_in (m0 := 1280) (m1 := 256) _ _ _ _ r t r ⟨t.val - 256, by omega⟩ (by simp) (by show t.val = 256 + (t.val - 256); omega)).trans ?_
    rw [p175_at]
    refine Finset.sum_congr rfl fun k _ => ?_
    congr 1
    · exact window_ix2 (m0 := 1280) (m1 := 256) _ _ _ _ r k r k (by simp) (by simp)
    · exact window_ix2 (m0 := 256) (m1 := 256) _ _ _ _ _ k t k (by show t.val = 256 + (t.val - 256); omega) (by simp)
  · refine (put_ix2_out (m0 := 1280) (m1 := 256) _ _ _ _ _ _ (by omega)).trans ?_
    refine (put_ix2_in (m0 := 1024) (m1 := 256) _ _ _ _ r t ⟨r.val, by omega⟩ ⟨t.val, by omega⟩ (by simp) (by simp)).trans ?_
    rw [p169_at]
    refine Finset.sum_congr rfl fun k _ => ?_
    congr 1
    · exact window_ix2 (m0 := 1024) (m1 := 256) _ _ _ _ _ k r k (by simp) (by simp)
    · exact window_ix2 (m0 := 256) (m1 := 256) _ _ _ _ _ k t k (by simp) (by simp)

theorem Wm_past (t : Fin 512) (r : Fin 1280) (p : ℕ) (hr : r.val < 768 + p) (hp : p ≤ t.val) : Wm X kc t r = W0 X kc t r := by
  unfold Wm; rw [if_pos (by omega)]
theorem Wm_after (t : Fin 512) (r : Fin 1280) (hr : 768 + t.val < r.val) : Wm X kc t r = ⊥ := by
  unfold Wm; rw [if_neg (by omega)]

/-- The score scale both programs use. -/
theorem scale_eq : Ideal.ofBits .f32 0x3DB504F3#32 = ((11863283 / 134217728 : ℝ) : EReal) := by
  simp [Ideal.ofBits, Ideal.ieee]
  rw [← EReal.coe_mul]
  norm_num

theorem cfac_eq (r : ℝ) : cfac (r : EReal) = ((r * (11863283 / 134217728) : ℝ) : EReal) * (((Real.log 2)⁻¹ : ℝ) : EReal) := by
  unfold cfac; rw [scale_eq, ← EReal.coe_mul]

theorem Ew_after (hX : Ok X kc) (t : Fin 512) (r : Fin 1280) (hr : 768 + t.val < r.val) : Ew X kc t r = 0 := by
  obtain ⟨q, hq, hq'⟩ := hX.hq t
  unfold Ew
  rw [Wm_after X kc t r hr, hq', cfac_eq, exp2_mul _ _ (by positivity), sub_eq_add_neg, EReal.bot_add, EReal.bot_mul_coe_of_pos (by positivity)]
  rfl

/-! ### Query tokens 0 to 127 -/

theorem sup_0 (hX : Ok X kc) (t : Fin 512) (ht : 0 ≤ t.val) (ht' : t.val < 128) :
    p189 (F := Ideal) (l181 X) (l184 X) (ix2 0 ⟨t.val - 0, by omega⟩) = Finset.univ.sup (Wm X kc t) := by
  rw [p189_at, sup_rows (p := 768) (by omega) (Wm X kc t) (fun r hr => Wm_after X kc t r (by omega))]
  congr 1
  · refine congrArg _ (funext fun r => ?_)
    have := r.isLt
    refine (window_ix2 (m0 := 768) (m1 := 128) _ _ _ _ r _ ⟨r.val, by omega⟩ t (by simp) (by show t.val = 0 + (t.val - 0); omega)).trans ?_
    rw [gs_at X kc hX _ t (by show r.val < 1024 ∨ _; omega), Wm_past X kc t _ 0 (by exact r.isLt) ht]
  · refine congrArg _ (funext fun r => ?_)
    have := r.isLt
    rw [p183_at]
    split_ifs with h
    · refine (window_ix2 (m0 := 128) (m1 := 128) _ _ _ _ r _ ⟨768 + r.val, by omega⟩ t rfl (by show t.val = 0 + (t.val - 0); omega)).trans ?_
      have h' : r.val ≤ t.val - 0 := h
      rw [gs_at X kc hX _ t (by show 768 + r.val < 1024 ∨ _; omega), Wm, if_pos (by show 768 + r.val < 768 ∨ 768 + r.val - 768 ≤ t.val; omega)]
    · have h' : ¬ r.val ≤ t.val - 0 := h
      rw [Wm_after X kc t _ (by show 768 + t.val < 768 + r.val; omega)]

theorem past_0 (hX : Ok X kc) (t : Fin 512) (ht : 0 ≤ t.val) (ht' : t.val < 128) (r : Fin 768) :
    p210 (F := Ideal) (l9 X) (l181 X) (l184 X) (ix2 r ⟨t.val - 0, by omega⟩) = Ew X kc t ⟨r.val, by omega⟩ := by
  have := r.isLt
  rw [p210_at, sup_0 X kc hX t ht ht', Ew]
  rw [show l184 X (ix2 r ⟨t.val - 0, by omega⟩) = Wm X kc t ⟨r.val, by omega⟩ from by
    refine (window_ix2 (m0 := 768) (m1 := 128) _ _ _ _ r _ ⟨r.val, by omega⟩ t (by simp) (by show t.val = 0 + (t.val - 0); omega)).trans ?_
    rw [gs_at X kc hX _ t (by show r.val < 1024 ∨ _; omega), Wm_past X kc t _ 0 (by exact r.isLt) ht]]
  rw [qsT, if_pos (by omega)]

theorem own_0 (hX : Ok X kc) (t : Fin 512) (ht : 0 ≤ t.val) (ht' : t.val < 128) (r : Fin 128) :
    p214 (F := Ideal) (l9 X) (l181 X) (l184 X) (ix2 r ⟨t.val - 0, by omega⟩) = Ew X kc t ⟨768 + r.val, by omega⟩ := by
  have := r.isLt
  rw [p214_at, sup_0 X kc hX t ht ht', Ew]
  rw [show p183 (F := Ideal) (l181 X) (ix2 r ⟨t.val - 0, by omega⟩) = Wm X kc t ⟨768 + r.val, by omega⟩ from by
    rw [p183_at]
    split_ifs with h
    · refine (window_ix2 (m0 := 128) (m1 := 128) _ _ _ _ r _ ⟨768 + r.val, by omega⟩ t rfl (by show t.val = 0 + (t.val - 0); omega)).trans ?_
      have h' : r.val ≤ t.val - 0 := h
      rw [gs_at X kc hX _ t (by show 768 + r.val < 1024 ∨ _; omega), Wm, if_pos (by show 768 + r.val < 768 ∨ 768 + r.val - 768 ≤ t.val; omega)]
    · have h' : ¬ r.val ≤ t.val - 0 := h
      rw [Wm_after X kc t _ (by show 768 + t.val < 768 + r.val; omega)]]
  rw [qsT, if_pos (by omega)]

theorem ep_at_0 (hX : Ok X kc) (r : Fin 1280) (t : Fin 512) (ht : 0 ≤ t.val) (ht' : t.val < 128) (hr : r.val < 1024) : ep_8 X (ix2 r t) = Ew X kc t r := by
  by_cases h1 : r.val < 768
  · rw [← show _ = _ from past_0 X kc hX t ht ht' ⟨r.val, h1⟩]
    refine (put_ix2_out (m0 := 128) (m1 := 128) _ _ _ _ _ _ (by omega)).trans ?_
    refine (put_ix2_out (m0 := 1152) (m1 := 128) _ _ _ _ _ _ (by omega)).trans ?_
    refine (put_ix2_out (m0 := 128) (m1 := 128) _ _ _ _ _ _ (by omega)).trans ?_
    refine (put_ix2_out (m0 := 1024) (m1 := 128) _ _ _ _ _ _ (by omega)).trans ?_
    refine (put_ix2_out (m0 := 128) (m1 := 128) _ _ _ _ _ _ (by omega)).trans ?_
    refine (put_ix2_out (m0 := 896) (m1 := 128) _ _ _ _ _ _ (by omega)).trans ?_
    refine (put_ix2_out (m0 := 128) (m1 := 128) _ _ _ _ _ _ (by omega)).trans ?_
    exact put_ix2_in (m0 := 768) (m1 := 128) _ _ _ _ r t ⟨r.val, h1⟩ ⟨t.val - 0, by omega⟩ (by simp) (by show t.val = 0 + (t.val - 0); omega)
  by_cases h2 : r.val < 896
  · rw [show r = ⟨768 + (⟨r.val - 768, by omega⟩ : Fin 128).val, by show 768 + (r.val - 768) < 1280; omega⟩ from Fin.ext (by show r.val = 768 + (r.val - 768); omega)]
    rw [← show _ = _ from own_0 X kc hX t ht ht' ⟨r.val - 768, by omega⟩]
    refine (put_ix2_out (m0 := 128) (m1 := 128) _ _ _ _ _ _ (by show 768 + (r.val - 768) < _ ∨ _ ≤ 768 + (r.val - 768) ∨ _; omega)).trans ?_
    refine (put_ix2_out (m0 := 1152) (m1 := 128) _ _ _ _ _ _ (by show 768 + (r.val - 768) < _ ∨ _ ≤ 768 + (r.val - 768) ∨ _; omega)).trans ?_
    refine (put_ix2_out (m0 := 128) (m1 := 128) _ _ _ _ _ _ (by show 768 + (r.val - 768) < _ ∨ _ ≤ 768 + (r.val - 768) ∨ _; omega)).trans ?_
    refine (put_ix2_out (m0 := 1024) (m1 := 128) _ _ _ _ _ _ (by show 768 + (r.val - 768) < _ ∨ _ ≤ 768 + (r.val - 768) ∨ _; omega)).trans ?_
    refine (put_ix2_out (m0 := 128) (m1 := 128) _ _ _ _ _ _ (by show 768 + (r.val - 768) < _ ∨ _ ≤ 768 + (r.val - 768) ∨ _; omega)).trans ?_
    refine (put_ix2_out (m0 := 896) (m1 := 128) _ _ _ _ _ _ (by show 768 + (r.val - 768) < _ ∨ _ ≤ 768 + (r.val - 768) ∨ _; omega)).trans ?_
    exact put_ix2_in (m0 := 128) (m1 := 128) _ _ _ _ _ t ⟨r.val - 768, by omega⟩ ⟨t.val - 0, by omega⟩ rfl (by show t.val = 0 + (t.val - 0); omega)
  rw [Ew_after X kc hX t r (by omega)]
  refine (put_ix2_out (m0 := 128) (m1 := 128) _ _ _ _ _ _ (by omega)).trans ?_
  refine (put_ix2_out (m0 := 1152) (m1 := 128) _ _ _ _ _ _ (by omega)).trans ?_
  refine (put_ix2_out (m0 := 128) (m1 := 128) _ _ _ _ _ _ (by omega)).trans ?_
  refine (put_ix2_out (m0 := 1024) (m1 := 128) _ _ _ _ _ _ (by omega)).trans ?_
  refine (put_ix2_out (m0 := 128) (m1 := 128) _ _ _ _ _ _ (by omega)).trans ?_
  refine (put_ix2_out (m0 := 896) (m1 := 128) _ _ _ _ _ _ (by omega)).trans ?_
  refine (put_ix2_out (m0 := 128) (m1 := 128) _ _ _ _ _ _ (by omega)).trans ?_
  refine (put_ix2_out (m0 := 768) (m1 := 128) _ _ _ _ _ _ (by omega)).trans ?_
  exact hX.hep r t (by omega)

theorem o_at_0 (hX : Ok X kc) (t : Fin 512) (ht : 0 ≤ t.val) (ht' : t.val < 128) (d : Fin 128) :
    o_4 X (ix3 0 t ⟨128 * X.j.val + d.val, by omega⟩) = (∑ r : Fin 1280, uv_2 X (ix2 d r) * Ew X kc t r) * Ideal.div 1 (∑ r : Fin 1280, Ew X kc t r) := by
  refine (put_ix3_out (m0 := 1) (m1 := 128) (m2 := 128) _ _ _ _ _ _ (.inr (.inl (.inl (by show t.val < 384; omega))))).trans ?_
  refine (put_ix3_out (m0 := 1) (m1 := 128) (m2 := 128) _ _ _ _ _ _ (.inr (.inl (.inl (by show t.val < 256; omega))))).trans ?_
  refine (put_ix3_out (m0 := 1) (m1 := 128) (m2 := 128) _ _ _ _ _ _ (.inr (.inl (.inl (by show t.val < 128; omega))))).trans ?_
  refine (put_ix3_in (m0 := 1) (m1 := 128) (m2 := 128) _ _ _ 0 t ⟨128 * X.j.val + d.val, by omega⟩ 0 ⟨t.val - 0, by omega⟩ d rfl (by show t.val = 0 + (t.val - 0); omega) rfl).trans ?_
  rw [p373_at, p206_at]
  congr 1
  · rw [sum_first (p := 1024) (by omega) (fun r : Fin 1280 => uv_2 X (ix2 d r) * Ew X kc t r) (fun r hr => by show _ * _ = _; rw [Ew_after X kc hX t r (by omega), mul_zero])]
    refine Finset.sum_congr rfl fun r _ => ?_
    have := r.isLt
    congr 1
    · exact window_ix2 (m0 := 128) (m1 := 1024) _ _ _ _ d r d ⟨r.val, by omega⟩ (by simp) (by simp)
    · refine (window_ix2 (m0 := 1024) (m1 := 256) _ _ _ _ r _ ⟨r.val, by omega⟩ t (by simp) (by show t.val = _ + _; simp only []; omega)).trans ?_
      exact ep_at_0 X kc hX _ t ht ht' (by exact r.isLt)
  · rw [sum_rows (p := 768) (by omega) (Ew X kc t) (fun r hr => Ew_after X kc hX t r (by omega))]
    simp only [past_0 X kc hX t ht ht', own_0 X kc hX t ht ht']

/-! ### Query tokens 128 to 255 -/

theorem sup_1 (hX : Ok X kc) (t : Fin 512) (ht : 128 ≤ t.val) (ht' : t.val < 256) :
    p228 (F := Ideal) (l220 X) (l223 X) (ix2 0 ⟨t.val - 128, by omega⟩) = Finset.univ.sup (Wm X kc t) := by
  rw [p228_at, sup_rows (p := 896) (by omega) (Wm X kc t) (fun r hr => Wm_after X kc t r (by omega))]
  congr 1
  · refine congrArg _ (funext fun r => ?_)
    have := r.isLt
    refine (window_ix2 (m0 := 896) (m1 := 128) _ _ _ _ r _ ⟨r.val, by omega⟩ t (by simp) (by show t.val = 128 + (t.val - 128); omega)).trans ?_
    rw [gs_at X kc hX _ t (by show r.val < 1024 ∨ _; omega), Wm_past X kc t _ 128 (by exact r.isLt) ht]
  · refine congrArg _ (funext fun r => ?_)
    have := r.isLt
    rw [p222_at]
    split_ifs with h
    · refine (window_ix2 (m0 := 128) (m1 := 128) _ _ _ _ r _ ⟨896 + r.val, by omega⟩ t rfl (by show t.val = 128 + (t.val - 128); omega)).trans ?_
      have h' : r.val ≤ t.val - 128 := h
      rw [gs_at X kc hX _ t (by show 896 + r.val < 1024 ∨ _; omega), Wm, if_pos (by show 896 + r.val < 768 ∨ 896 + r.val - 768 ≤ t.val; omega)]
    · have h' : ¬ r.val ≤ t.val - 128 := h
      rw [Wm_after X kc t _ (by show 768 + t.val < 896 + r.val; omega)]

theorem past_1 (hX : Ok X kc) (t : Fin 512) (ht : 128 ≤ t.val) (ht' : t.val < 256) (r : Fin 896) :
    p249 (F := Ideal) (l9 X) (l220 X) (l223 X) (ix2 r ⟨t.val - 128, by omega⟩) = Ew X kc t ⟨r.val, by omega⟩ := by
  have := r.isLt
  rw [p249_at, sup_1 X kc hX t ht ht', Ew]
  rw [show l223 X (ix2 r ⟨t.val - 128, by omega⟩) = Wm X kc t ⟨r.val, by omega⟩ from by
    refine (window_ix2 (m0 := 896) (m1 := 128) _ _ _ _ r _ ⟨r.val, by omega⟩ t (by simp) (by show t.val = 128 + (t.val - 128); omega)).trans ?_
    rw [gs_at X kc hX _ t (by show r.val < 1024 ∨ _; omega), Wm_past X kc t _ 128 (by exact r.isLt) ht]]
  rw [qsT, if_pos (by omega)]

theorem own_1 (hX : Ok X kc) (t : Fin 512) (ht : 128 ≤ t.val) (ht' : t.val < 256) (r : Fin 128) :
    p253 (F := Ideal) (l9 X) (l220 X) (l223 X) (ix2 r ⟨t.val - 128, by omega⟩) = Ew X kc t ⟨896 + r.val, by omega⟩ := by
  have := r.isLt
  rw [p253_at, sup_1 X kc hX t ht ht', Ew]
  rw [show p222 (F := Ideal) (l220 X) (ix2 r ⟨t.val - 128, by omega⟩) = Wm X kc t ⟨896 + r.val, by omega⟩ from by
    rw [p222_at]
    split_ifs with h
    · refine (window_ix2 (m0 := 128) (m1 := 128) _ _ _ _ r _ ⟨896 + r.val, by omega⟩ t rfl (by show t.val = 128 + (t.val - 128); omega)).trans ?_
      have h' : r.val ≤ t.val - 128 := h
      rw [gs_at X kc hX _ t (by show 896 + r.val < 1024 ∨ _; omega), Wm, if_pos (by show 896 + r.val < 768 ∨ 896 + r.val - 768 ≤ t.val; omega)]
    · have h' : ¬ r.val ≤ t.val - 128 := h
      rw [Wm_after X kc t _ (by show 768 + t.val < 896 + r.val; omega)]]
  rw [qsT, if_pos (by omega)]

theorem ep_at_1 (hX : Ok X kc) (r : Fin 1280) (t : Fin 512) (ht : 128 ≤ t.val) (ht' : t.val < 256) (hr : r.val < 1024) : ep_8 X (ix2 r t) = Ew X kc t r := by
  by_cases h1 : r.val < 896
  · rw [← show _ = _ from past_1 X kc hX t ht ht' ⟨r.val, h1⟩]
    refine (put_ix2_out (m0 := 128) (m1 := 128) _ _ _ _ _ _ (by omega)).trans ?_
    refine (put_ix2_out (m0 := 1152) (m1 := 128) _ _ _ _ _ _ (by omega)).trans ?_
    refine (put_ix2_out (m0 := 128) (m1 := 128) _ _ _ _ _ _ (by omega)).trans ?_
    refine (put_ix2_out (m0 := 1024) (m1 := 128) _ _ _ _ _ _ (by omega)).trans ?_
    refine (put_ix2_out (m0 := 128) (m1 := 128) _ _ _ _ _ _ (by omega)).trans ?_
    exact put_ix2_in (m0 := 896) (m1 := 128) _ _ _ _ r t ⟨r.val, h1⟩ ⟨t.val - 128, by omega⟩ (by simp) (by show t.val = 128 + (t.val - 128); omega)
  by_cases h2 : r.val < 1024
  · rw [show r = ⟨896 + (⟨r.val - 896, by omega⟩ : Fin 128).val, by show 896 + (r.val - 896) < 1280; omega⟩ from Fin.ext (by show r.val = 896 + (r.val - 896); omega)]
    rw [← show _ = _ from own_1 X kc hX t ht ht' ⟨r.val - 896, by omega⟩]
    refine (put_ix2_out (m0 := 128) (m1 := 128) _ _ _ _ _ _ (by show 896 + (r.val - 896) < _ ∨ _ ≤ 896 + (r.val - 896) ∨ _; omega)).trans ?_
    refine (put_ix2_out (m0 := 1152) (m1 := 128) _ _ _ _ _ _ (by show 896 + (r.val - 896) < _ ∨ _ ≤ 896 + (r.val - 896) ∨ _; omega)).trans ?_
    refine (put_ix2_out (m0 := 128) (m1 := 128) _ _ _ _ _ _ (by show 896 + (r.val - 896) < _ ∨ _ ≤ 896 + (r.val - 896) ∨ _; omega)).trans ?_
    refine (put_ix2_out (m0 := 1024) (m1 := 128) _ _ _ _ _ _ (by show 896 + (r.val - 896) < _ ∨ _ ≤ 896 + (r.val - 896) ∨ _; omega)).trans ?_
    exact put_ix2_in (m0 := 128) (m1 := 128) _ _ _ _ _ t ⟨r.val - 896, by omega⟩ ⟨t.val - 128, by omega⟩ rfl (by show t.val = 128 + (t.val - 128); omega)
  rw [Ew_after X kc hX t r (by omega)]
  omega

theorem o_at_1 (hX : Ok X kc) (t : Fin 512) (ht : 128 ≤ t.val) (ht' : t.val < 256) (d : Fin 128) :
    o_4 X (ix3 0 t ⟨128 * X.j.val + d.val, by omega⟩) = (∑ r : Fin 1280, uv_2 X (ix2 d r) * Ew X kc t r) * Ideal.div 1 (∑ r : Fin 1280, Ew X kc t r) := by
  refine (put_ix3_out (m0 := 1) (m1 := 128) (m2 := 128) _ _ _ _ _ _ (.inr (.inl (.inl (by show t.val < 384; omega))))).trans ?_
  refine (put_ix3_out (m0 := 1) (m1 := 128) (m2 := 128) _ _ _ _ _ _ (.inr (.inl (.inl (by show t.val < 256; omega))))).trans ?_
  refine (put_ix3_in (m0 := 1) (m1 := 128) (m2 := 128) _ _ _ 0 t ⟨128 * X.j.val + d.val, by omega⟩ 0 ⟨t.val - 128, by omega⟩ d rfl (by show t.val = 128 + (t.val - 128); omega) rfl).trans ?_
  rw [p381_at, p245_at]
  congr 1
  · rw [sum_first (p := 1024) (by omega) (fun r : Fin 1280 => uv_2 X (ix2 d r) * Ew X kc t r) (fun r hr => by show _ * _ = _; rw [Ew_after X kc hX t r (by omega), mul_zero])]
    refine Finset.sum_congr rfl fun r _ => ?_
    have := r.isLt
    congr 1
    · exact window_ix2 (m0 := 128) (m1 := 1024) _ _ _ _ d r d ⟨r.val, by omega⟩ (by simp) (by simp)
    · refine (window_ix2 (m0 := 1024) (m1 := 256) _ _ _ _ r _ ⟨r.val, by omega⟩ t (by simp) (by show t.val = _ + _; simp only []; omega)).trans ?_
      exact ep_at_1 X kc hX _ t ht ht' (by exact r.isLt)
  · rw [sum_rows (p := 896) (by omega) (Ew X kc t) (fun r hr => Ew_after X kc hX t r (by omega))]
    simp only [past_1 X kc hX t ht ht', own_1 X kc hX t ht ht']

/-! ### Query tokens 256 to 383 -/

theorem sup_2 (hX : Ok X kc) (t : Fin 512) (ht : 256 ≤ t.val) (ht' : t.val < 384) :
    p267 (F := Ideal) (l259 X) (l262 X) (ix2 0 ⟨t.val - 256, by omega⟩) = Finset.univ.sup (Wm X kc t) := by
  rw [p267_at, sup_rows (p := 1024) (by omega) (Wm X kc t) (fun r hr => Wm_after X kc t r (by omega))]
  congr 1
  · refine congrArg _ (funext fun r => ?_)
    have := r.isLt
    refine (window_ix2 (m0 := 1024) (m1 := 128) _ _ _ _ r _ ⟨r.val, by omega⟩ t (by simp) (by show t.val = 256 + (t.val - 256); omega)).trans ?_
    rw [gs_at X kc hX _ t (by show r.val < 1024 ∨ _; omega), Wm_past X kc t _ 256 (by exact r.isLt) ht]
  · refine congrArg _ (funext fun r => ?_)
    have := r.isLt
    rw [p261_at]
    split_ifs with h
    · refine (window_ix2 (m0 := 128) (m1 := 128) _ _ _ _ r _ ⟨1024 + r.val, by omega⟩ t rfl (by show t.val = 256 + (t.val - 256); omega)).trans ?_
      have h' : r.val ≤ t.val - 256 := h
      rw [gs_at X kc hX _ t (by show 1024 + r.val < 1024 ∨ _; omega), Wm, if_pos (by show 1024 + r.val < 768 ∨ 1024 + r.val - 768 ≤ t.val; omega)]
    · have h' : ¬ r.val ≤ t.val - 256 := h
      rw [Wm_after X kc t _ (by show 768 + t.val < 1024 + r.val; omega)]

theorem past_2 (hX : Ok X kc) (t : Fin 512) (ht : 256 ≤ t.val) (ht' : t.val < 384) (r : Fin 1024) :
    p288 (F := Ideal) (l9 X) (l259 X) (l262 X) (ix2 r ⟨t.val - 256, by omega⟩) = Ew X kc t ⟨r.val, by omega⟩ := by
  have := r.isLt
  rw [p288_at, sup_2 X kc hX t ht ht', Ew]
  rw [show l262 X (ix2 r ⟨t.val - 256, by omega⟩) = Wm X kc t ⟨r.val, by omega⟩ from by
    refine (window_ix2 (m0 := 1024) (m1 := 128) _ _ _ _ r _ ⟨r.val, by omega⟩ t (by simp) (by show t.val = 256 + (t.val - 256); omega)).trans ?_
    rw [gs_at X kc hX _ t (by show r.val < 1024 ∨ _; omega), Wm_past X kc t _ 256 (by exact r.isLt) ht]]
  rw [qsT, if_pos (by omega)]

theorem own_2 (hX : Ok X kc) (t : Fin 512) (ht : 256 ≤ t.val) (ht' : t.val < 384) (r : Fin 128) :
    p292 (F := Ideal) (l9 X) (l259 X) (l262 X) (ix2 r ⟨t.val - 256, by omega⟩) = Ew X kc t ⟨1024 + r.val, by omega⟩ := by
  have := r.isLt
  rw [p292_at, sup_2 X kc hX t ht ht', Ew]
  rw [show p261 (F := Ideal) (l259 X) (ix2 r ⟨t.val - 256, by omega⟩) = Wm X kc t ⟨1024 + r.val, by omega⟩ from by
    rw [p261_at]
    split_ifs with h
    · refine (window_ix2 (m0 := 128) (m1 := 128) _ _ _ _ r _ ⟨1024 + r.val, by omega⟩ t rfl (by show t.val = 256 + (t.val - 256); omega)).trans ?_
      have h' : r.val ≤ t.val - 256 := h
      rw [gs_at X kc hX _ t (by show 1024 + r.val < 1024 ∨ _; omega), Wm, if_pos (by show 1024 + r.val < 768 ∨ 1024 + r.val - 768 ≤ t.val; omega)]
    · have h' : ¬ r.val ≤ t.val - 256 := h
      rw [Wm_after X kc t _ (by show 768 + t.val < 1024 + r.val; omega)]]
  rw [qsT, if_pos (by omega)]

theorem ep_at_2 (hX : Ok X kc) (r : Fin 1280) (t : Fin 512) (ht : 256 ≤ t.val) (ht' : t.val < 384) (hr : r.val < 1280) : ep_8 X (ix2 r t) = Ew X kc t r := by
  by_cases h1 : r.val < 1024
  · rw [← show _ = _ from past_2 X kc hX t ht ht' ⟨r.val, h1⟩]
    refine (put_ix2_out (m0 := 128) (m1 := 128) _ _ _ _ _ _ (by omega)).trans ?_
    refine (put_ix2_out (m0 := 1152) (m1 := 128) _ _ _ _ _ _ (by omega)).trans ?_
    refine (put_ix2_out (m0 := 128) (m1 := 128) _ _ _ _ _ _ (by omega)).trans ?_
    exact put_ix2_in (m0 := 1024) (m1 := 128) _ _ _ _ r t ⟨r.val, h1⟩ ⟨t.val - 256, by omega⟩ (by simp) (by show t.val = 256 + (t.val - 256); omega)
  by_cases h2 : r.val < 1152
  · rw [show r = ⟨1024 + (⟨r.val - 1024, by omega⟩ : Fin 128).val, by show 1024 + (r.val - 1024) < 1280; omega⟩ from Fin.ext (by show r.val = 1024 + (r.val - 1024); omega)]
    rw [← show _ = _ from own_2 X kc hX t ht ht' ⟨r.val - 1024, by omega⟩]
    refine (put_ix2_out (m0 := 128) (m1 := 128) _ _ _ _ _ _ (by show 1024 + (r.val - 1024) < _ ∨ _ ≤ 1024 + (r.val - 1024) ∨ _; omega)).trans ?_
    refine (put_ix2_out (m0 := 1152) (m1 := 128) _ _ _ _ _ _ (by show 1024 + (r.val - 1024) < _ ∨ _ ≤ 1024 + (r.val - 1024) ∨ _; omega)).trans ?_
    exact put_ix2_in (m0 := 128) (m1 := 128) _ _ _ _ _ t ⟨r.val - 1024, by omega⟩ ⟨t.val - 256, by omega⟩ rfl (by show t.val = 256 + (t.val - 256); omega)
  rw [Ew_after X kc hX t r (by omega)]
  refine (put_ix2_out (m0 := 128) (m1 := 128) _ _ _ _ _ _ (by omega)).trans ?_
  refine (put_ix2_out (m0 := 1152) (m1 := 128) _ _ _ _ _ _ (by omega)).trans ?_
  refine (put_ix2_out (m0 := 128) (m1 := 128) _ _ _ _ _ _ (by omega)).trans ?_
  refine (put_ix2_out (m0 := 1024) (m1 := 128) _ _ _ _ _ _ (by omega)).trans ?_
  refine (put_ix2_out (m0 := 128) (m1 := 128) _ _ _ _ _ _ (by omega)).trans ?_
  refine (put_ix2_out (m0 := 896) (m1 := 128) _ _ _ _ _ _ (by omega)).trans ?_
  refine (put_ix2_out (m0 := 128) (m1 := 128) _ _ _ _ _ _ (by omega)).trans ?_
  refine (put_ix2_out (m0 := 768) (m1 := 128) _ _ _ _ _ _ (by omega)).trans ?_
  exact hX.hep r t (by omega)

theorem o_at_2 (hX : Ok X kc) (t : Fin 512) (ht : 256 ≤ t.val) (ht' : t.val < 384) (d : Fin 128) :
    o_4 X (ix3 0 t ⟨128 * X.j.val + d.val, by omega⟩) = (∑ r : Fin 1280, uv_2 X (ix2 d r) * Ew X kc t r) * Ideal.div 1 (∑ r : Fin 1280, Ew X kc t r) := by
  refine (put_ix3_out (m0 := 1) (m1 := 128) (m2 := 128) _ _ _ _ _ _ (.inr (.inl (.inl (by show t.val < 384; omega))))).trans ?_
  refine (put_ix3_in (m0 := 1) (m1 := 128) (m2 := 128) _ _ _ 0 t ⟨128 * X.j.val + d.val, by omega⟩ 0 ⟨t.val - 256, by omega⟩ d rfl (by show t.val = 256 + (t.val - 256); omega) rfl).trans ?_
  rw [p392_at, p284_at]
  congr 1
  · rw [sum_first (p := 1280) (by omega) (fun r : Fin 1280 => uv_2 X (ix2 d r) * Ew X kc t r) (fun r hr => by show _ * _ = _; rw [Ew_after X kc hX t r (by omega), mul_zero])]
    refine Finset.sum_congr rfl fun r _ => ?_
    have := r.isLt
    congr 1
    · exact window_ix2 (m0 := 128) (m1 := 1280) _ _ _ _ d r d ⟨r.val, by omega⟩ (by simp) (by simp)
    · refine (window_ix2 (m0 := 1280) (m1 := 256) _ _ _ _ r _ ⟨r.val, by omega⟩ t (by simp) (by show t.val = _ + _; simp only []; omega)).trans ?_
      exact ep_at_2 X kc hX _ t ht ht' (by exact r.isLt)
  · rw [sum_rows (p := 1024) (by omega) (Ew X kc t) (fun r hr => Ew_after X kc hX t r (by omega))]
    simp only [past_2 X kc hX t ht ht', own_2 X kc hX t ht ht']

/-! ### Query tokens 384 to 511 -/

theorem sup_3 (hX : Ok X kc) (t : Fin 512) (ht : 384 ≤ t.val) (ht' : t.val < 512) :
    p306 (F := Ideal) (l298 X) (l301 X) (ix2 0 ⟨t.val - 384, by omega⟩) = Finset.univ.sup (Wm X kc t) := by
  rw [p306_at, sup_rows (p := 1152) (by omega) (Wm X kc t) (fun r hr => Wm_after X kc t r (by omega))]
  congr 1
  · refine congrArg _ (funext fun r => ?_)
    have := r.isLt
    refine (window_ix2 (m0 := 1152) (m1 := 128) _ _ _ _ r _ ⟨r.val, by omega⟩ t (by simp) (by show t.val = 384 + (t.val - 384); omega)).trans ?_
    rw [gs_at X kc hX _ t (by show r.val < 1024 ∨ _; omega), Wm_past X kc t _ 384 (by exact r.isLt) ht]
  · refine congrArg _ (funext fun r => ?_)
    have := r.isLt
    rw [p300_at]
    split_ifs with h
    · refine (window_ix2 (m0 := 128) (m1 := 128) _ _ _ _ r _ ⟨1152 + r.val, by omega⟩ t rfl (by show t.val = 384 + (t.val - 384); omega)).trans ?_
      have h' : r.val ≤ t.val - 384 := h
      rw [gs_at X kc hX _ t (by show 1152 + r.val < 1024 ∨ _; omega), Wm, if_pos (by show 1152 + r.val < 768 ∨ 1152 + r.val - 768 ≤ t.val; omega)]
    · have h' : ¬ r.val ≤ t.val - 384 := h
      rw [Wm_after X kc t _ (by show 768 + t.val < 1152 + r.val; omega)]

theorem past_3 (hX : Ok X kc) (t : Fin 512) (ht : 384 ≤ t.val) (ht' : t.val < 512) (r : Fin 1152) :
    p327 (F := Ideal) (l12 X) (l298 X) (l301 X) (ix2 r ⟨t.val - 384, by omega⟩) = Ew X kc t ⟨r.val, by omega⟩ := by
  have := r.isLt
  rw [p327_at, sup_3 X kc hX t ht ht', Ew]
  rw [show l301 X (ix2 r ⟨t.val - 384, by omega⟩) = Wm X kc t ⟨r.val, by omega⟩ from by
    refine (window_ix2 (m0 := 1152) (m1 := 128) _ _ _ _ r _ ⟨r.val, by omega⟩ t (by simp) (by show t.val = 384 + (t.val - 384); omega)).trans ?_
    rw [gs_at X kc hX _ t (by show r.val < 1024 ∨ _; omega), Wm_past X kc t _ 384 (by exact r.isLt) ht]]
  rw [qsT, if_neg (by omega)]

theorem own_3 (hX : Ok X kc) (t : Fin 512) (ht : 384 ≤ t.val) (ht' : t.val < 512) (r : Fin 128) :
    p331 (F := Ideal) (l12 X) (l298 X) (l301 X) (ix2 r ⟨t.val - 384, by omega⟩) = Ew X kc t ⟨1152 + r.val, by omega⟩ := by
  have := r.isLt
  rw [p331_at, sup_3 X kc hX t ht ht', Ew]
  rw [show p300 (F := Ideal) (l298 X) (ix2 r ⟨t.val - 384, by omega⟩) = Wm X kc t ⟨1152 + r.val, by omega⟩ from by
    rw [p300_at]
    split_ifs with h
    · refine (window_ix2 (m0 := 128) (m1 := 128) _ _ _ _ r _ ⟨1152 + r.val, by omega⟩ t rfl (by show t.val = 384 + (t.val - 384); omega)).trans ?_
      have h' : r.val ≤ t.val - 384 := h
      rw [gs_at X kc hX _ t (by show 1152 + r.val < 1024 ∨ _; omega), Wm, if_pos (by show 1152 + r.val < 768 ∨ 1152 + r.val - 768 ≤ t.val; omega)]
    · have h' : ¬ r.val ≤ t.val - 384 := h
      rw [Wm_after X kc t _ (by show 768 + t.val < 1152 + r.val; omega)]]
  rw [qsT, if_neg (by omega)]

theorem ep_at_3 (hX : Ok X kc) (r : Fin 1280) (t : Fin 512) (ht : 384 ≤ t.val) (ht' : t.val < 512) (hr : r.val < 1280) : ep_8 X (ix2 r t) = Ew X kc t r := by
  by_cases h1 : r.val < 1152
  · rw [← show _ = _ from past_3 X kc hX t ht ht' ⟨r.val, h1⟩]
    refine (put_ix2_out (m0 := 128) (m1 := 128) _ _ _ _ _ _ (by omega)).trans ?_
    exact put_ix2_in (m0 := 1152) (m1 := 128) _ _ _ _ r t ⟨r.val, h1⟩ ⟨t.val - 384, by omega⟩ (by simp) (by show t.val = 384 + (t.val - 384); omega)
  by_cases h2 : r.val < 1280
  · rw [show r = ⟨1152 + (⟨r.val - 1152, by omega⟩ : Fin 128).val, by show 1152 + (r.val - 1152) < 1280; omega⟩ from Fin.ext (by show r.val = 1152 + (r.val - 1152); omega)]
    rw [← show _ = _ from own_3 X kc hX t ht ht' ⟨r.val - 1152, by omega⟩]
    exact put_ix2_in (m0 := 128) (m1 := 128) _ _ _ _ _ t ⟨r.val - 1152, by omega⟩ ⟨t.val - 384, by omega⟩ rfl (by show t.val = 384 + (t.val - 384); omega)
  rw [Ew_after X kc hX t r (by omega)]
  omega

theorem o_at_3 (hX : Ok X kc) (t : Fin 512) (ht : 384 ≤ t.val) (ht' : t.val < 512) (d : Fin 128) :
    o_4 X (ix3 0 t ⟨128 * X.j.val + d.val, by omega⟩) = (∑ r : Fin 1280, uv_2 X (ix2 d r) * Ew X kc t r) * Ideal.div 1 (∑ r : Fin 1280, Ew X kc t r) := by
  refine (put_ix3_in (m0 := 1) (m1 := 128) (m2 := 128) _ _ _ 0 t ⟨128 * X.j.val + d.val, by omega⟩ 0 ⟨t.val - 384, by omega⟩ d rfl (by show t.val = 384 + (t.val - 384); omega) rfl).trans ?_
  rw [p400_at, p323_at]
  congr 1
  · rw [sum_first (p := 1280) (by omega) (fun r : Fin 1280 => uv_2 X (ix2 d r) * Ew X kc t r) (fun r hr => by show _ * _ = _; rw [Ew_after X kc hX t r (by omega), mul_zero])]
    refine Finset.sum_congr rfl fun r _ => ?_
    have := r.isLt
    congr 1
    · exact window_ix2 (m0 := 128) (m1 := 1280) _ _ _ _ d r d ⟨r.val, by omega⟩ (by simp) (by simp)
    · refine (window_ix2 (m0 := 1280) (m1 := 256) _ _ _ _ r _ ⟨r.val, by omega⟩ t (by simp) (by show t.val = _ + _; simp only []; omega)).trans ?_
      exact ep_at_3 X kc hX _ t ht ht' (by exact r.isLt)
  · rw [sum_rows (p := 1152) (by omega) (Ew X kc t) (fun r hr => Ew_after X kc hX t r (by omega))]
    simp only [past_3 X kc hX t ht ht', own_3 X kc hX t ht ht']

theorem o_at (hX : Ok X kc) (t : Fin 512) (d : Fin 128) :
    o_4 X (ix3 0 t ⟨128 * X.j.val + d.val, by omega⟩) = (∑ r : Fin 1280, uv_2 X (ix2 d r) * Ew X kc t r) * Ideal.div 1 (∑ r : Fin 1280, Ew X kc t r) := by
  have := t.isLt
  by_cases h1 : t.val < 128
  · exact o_at_0 X kc hX t (by omega) h1 d
  by_cases h2 : t.val < 256
  · exact o_at_1 X kc hX t (by omega) h2 d
  by_cases h3 : t.val < 384
  · exact o_at_2 X kc hX t (by omega) h3 d
  · exact o_at_3 X kc hX t (by omega) (by omega) d

/-- A head changes only its own columns of the output block. -/
theorem o_other (t : Fin 512) (e : Fin 512) (h : e.val < 128 * X.j.val ∨ 128 * X.j.val + 128 ≤ e.val) :
    o_4 X (ix3 0 t e) = X.o (ix3 0 t e) := by
  have hh : ∀ k : ℕ, (e.val < (![0, k, 128 * X.j.val] : Fin 3 → ℕ) 2 ∨ (![0, k, 128 * X.j.val] : Fin 3 → ℕ) 2 + 128 ≤ e.val) := fun _ => h
  refine (put_ix3_out (m0 := 1) (m1 := 128) (m2 := 128) _ _ _ _ _ _ (.inr (.inr (hh _)))).trans ?_
  refine (put_ix3_out (m0 := 1) (m1 := 128) (m2 := 128) _ _ _ _ _ _ (.inr (.inr (hh _)))).trans ?_
  refine (put_ix3_out (m0 := 1) (m1 := 128) (m2 := 128) _ _ _ _ _ _ (.inr (.inr (hh _)))).trans ?_
  exact put_ix3_out (m0 := 1) (m1 := 128) (m2 := 128) _ _ _ _ _ _ (.inr (.inr (hh _)))

/-! ### The values and code sums, and the updates -/

/-- The value scale of a key token's block. -/
def vsT (s : Fin 512) : EReal := if s.val < 384 then l15 X else l18 X

theorem vals_at (d : Fin 128) (s : Fin 512) : p359 (F := Ideal) (l15 X) (l18 X) (l347 X) (l352 X) (ix2 d s) = X.v (ix4 0 X.j s d) * vsT X s := by
  rw [p359_at]
  unfold vsT
  split_ifs with h
  · rw [l347_at]; rfl
  · rw [l352_at]
    congr 3
    exact Fin.ext (by show 384 + (s.val - 384) = s.val; omega)

theorem uv_code (d : Fin 128) (r : Fin 1280) (h : r.val < 768) :
    uv_2 X (ix2 d r) = X.u (ix4 0 X.j ⟨r.val, h⟩ d) * (if 0 < cn X ⟨r.val, h⟩ then Ideal.div 1 (cn X ⟨r.val, h⟩) else 0) := by
  refine (put_ix2_out (m0 := 128) (m1 := 512) _ _ _ _ _ _ (by omega)).trans ?_
  refine (put_ix2_in (m0 := 128) (m1 := 768) _ _ _ _ d r d ⟨r.val, h⟩ (by simp) (by simp)).trans ?_
  rw [p346_at, l338_at]; rfl
theorem uv_token (d : Fin 128) (r : Fin 1280) (h : 768 ≤ r.val) :
    uv_2 X (ix2 d r) = X.v (ix4 0 X.j ⟨r.val - 768, by omega⟩ d) * vsT X ⟨r.val - 768, by omega⟩ := by
  refine (put_ix2_in (m0 := 128) (m1 := 512) _ _ _ _ d r d ⟨r.val - 768, by omega⟩ (by simp) (by show r.val = 768 + (r.val - 768); omega)).trans ?_
  rw [p362_at, vals_at]

theorem uf_at (n : Fin 768) (d : Fin 128) :
    uf_1 X (ix4 0 X.j n d) = X.u (ix4 0 X.j n d) + ∑ s : Fin 512, (X.v (ix4 0 X.j s d) * vsT X s) * (if l20 X (ix3 0 0 s) = BitVec.ofNat 32 n.val then (1 : EReal) else 0) := by
  refine (put_ix4_in (m0 := 1) (m1 := 1) (m2 := 768) (m3 := 128) _ _ _ 0 X.j n d 0 0 n d (by simp) (by simp) (by simp) (by simp)).trans ?_
  rw [p409_at, l338_at]
  simp only [vals_at, p62_at]
theorem uf_other (j : Fin 4) (hj : j ≠ X.j) (n : Fin 768) (d : Fin 128) : uf_1 X (ix4 0 j n d) = X.uf (ix4 0 j n d) := by
  have : j.val ≠ X.j.val := fun h => hj (Fin.ext h)
  exact put_ix4_out (m0 := 1) (m1 := 1) (m2 := 768) (m3 := 128) _ _ _ 0 j n d (by show j.val < X.j.val ∨ X.j.val + 1 ≤ j.val; omega)

theorem off4_eq : ∀ (i : grid0.Coords) (r : Fin 4) (a : Fin 3), k0_off4 i (BitVec.ofNat 32 r.val) a = (![(i 1).val, 4 * (i 0).val + r.val, 0] : Fin 3 → ℕ) a := by decide +kernel
theorem off3_eq : ∀ (i : grid0.Coords) (r : Fin 4) (a : Fin 3), k0_off3 i (BitVec.ofNat 32 r.val) a = (![0, 4 * (i 0).val + r.val, 0] : Fin 3 → ℕ) a := by decide +kernel
theorem off1_eq : ∀ (i : grid0.Coords) (r : Fin 4) (a : Fin 3), k0_off1 i (BitVec.ofNat 32 r.val) a = (![(i 1).val, 0, 4 * (i 0).val + r.val] : Fin 3 → ℕ) a := by decide +kernel
theorem off2_eq : ∀ (i : grid0.Coords) (r : Fin 4) (a : Fin 3), k0_off2 i (BitVec.ofNat 32 r.val) a = (![(i 1).val, 1, 4 * (i 0).val + r.val] : Fin 3 → ℕ) a := by decide +kernel

theorem cf_at (b : Fin 3) (h : Fin 20) (hb : b.val = (X.i 1).val) (hh : h.val = 4 * (X.i 0).val + X.j.val) (n : Fin 768) :
    cf_1 X (ix3 b h n) = cn X n + ∑ s : Fin 512, (if l20 X (ix3 0 0 s) = BitVec.ofNat 32 n.val then (1 : EReal) else 0) := by
  refine (put_ix3_in (m0 := 1) (m1 := 1) (m2 := 768) _ _ _ b h n 0 0 n ?_ ?_ ?_).trans ?_
  · rw [off4_eq]; simp [hb]
  · rw [off4_eq]; simp [hh]
  · rw [off4_eq]; simp
  rw [p416_at]
  simp only [p62_at]; rfl
theorem cf_other (b : Fin 3) (h : Fin 20) (hne : b.val ≠ (X.i 1).val ∨ h.val ≠ 4 * (X.i 0).val + X.j.val) (n : Fin 768) :
    cf_1 X (ix3 b h n) = X.cf (ix3 b h n) := by
  refine put_ix3_out (m0 := 1) (m1 := 1) (m2 := 768) _ _ _ b h n ?_
  rw [off4_eq, off4_eq, off4_eq]
  show (b.val < (X.i 1).val ∨ (X.i 1).val + 1 ≤ b.val) ∨ (h.val < 4 * (X.i 0).val + X.j.val ∨ 4 * (X.i 0).val + X.j.val + 1 ≤ h.val) ∨ _
  omega

theorem cn_eq (b : Fin 3) (h : Fin 20) (hb : b.val = (X.i 1).val) (hh : h.val = 4 * (X.i 0).val + X.j.val) (n : Fin 768) :
    cn X n = X.cnt (ix3 b h n) := by
  refine window_ix3 (m0 := 1) (m1 := 1) (m2 := 768) _ _ _ 0 0 n b h n ?_ ?_ ?_ <;> rw [off4_eq] <;> simp [hb, hh]
theorem l20_eq (h : Fin 20) (hh : h.val = 4 * (X.i 0).val + X.j.val) (s : Fin 512) : l20 X (ix3 0 0 s) = X.k (ix3 0 h s) := by
  refine window_ix3 (m0 := 1) (m1 := 1) (m2 := 512) _ _ _ 0 0 s 0 h s ?_ ?_ ?_ <;> rw [off3_eq] <;> simp [hh]
theorem first_ix3 (h : 0 < S1x1x1.numel) : (Shape.Idx.first h : S1x1x1.Idx) = ix3 0 0 0 := by
  funext a
  match a with
  | ⟨0, _⟩ => exact Fin.ext (Nat.lt_one_iff.1 (Fin.isLt _))
  | ⟨1, _⟩ => exact Fin.ext (Nat.lt_one_iff.1 (Fin.isLt _))
  | ⟨2, _⟩ => exact Fin.ext (Nat.lt_one_iff.1 (Fin.isLt _))
theorem l9_eq (b : Fin 3) (h : Fin 20) (hb : b.val = (X.i 1).val) (hh : h.val = 4 * (X.i 0).val + X.j.val) : l9 X = X.qs (ix3 b 0 h) := by
  unfold l9
  rw [first_ix3]
  refine window_ix3 (m0 := 1) (m1 := 1) (m2 := 1) _ _ _ 0 0 0 b 0 h ?_ ?_ ?_ <;> rw [off1_eq] <;> simp [hb, hh]
theorem l12_eq (b : Fin 3) (h : Fin 20) (hb : b.val = (X.i 1).val) (hh : h.val = 4 * (X.i 0).val + X.j.val) : l12 X = X.qs (ix3 b 1 h) := by
  unfold l12
  rw [first_ix3]
  refine window_ix3 (m0 := 1) (m1 := 1) (m2 := 1) _ _ _ 0 0 0 b 1 h ?_ ?_ ?_ <;> rw [off2_eq] <;> simp [hb, hh]
theorem l15_eq (b : Fin 3) (h : Fin 20) (hb : b.val = (X.i 1).val) (hh : h.val = 4 * (X.i 0).val + X.j.val) : l15 X = X.vs (ix3 b 0 h) := by
  unfold l15
  rw [first_ix3]
  refine window_ix3 (m0 := 1) (m1 := 1) (m2 := 1) _ _ _ 0 0 0 b 0 h ?_ ?_ ?_ <;> rw [off1_eq] <;> simp [hb, hh]
theorem l18_eq (b : Fin 3) (h : Fin 20) (hb : b.val = (X.i 1).val) (hh : h.val = 4 * (X.i 0).val + X.j.val) : l18 X = X.vs (ix3 b 1 h) := by
  unfold l18
  rw [first_ix3]
  refine window_ix3 (m0 := 1) (m1 := 1) (m2 := 1) _ _ _ 0 0 0 b 1 h ?_ ?_ ?_ <;> rw [off2_eq] <;> simp [hb, hh]

/-- The parts no head writes stay as they are. -/
theorem lhs_kept (r : Fin 1280) (k : Fin 256) (hr : 768 ≤ r.val) (hk : 128 ≤ k.val) : lhs_3 X (ix2 r k) = X.lhs (ix2 r k) := lhs_rest X r k (.inl ⟨hr, hk⟩)
theorem ep_kept (r : Fin 1280) (t : Fin 512) (h : (896 ≤ r.val ∧ r.val < 1024 ∧ t.val < 128) ∨ (1152 ≤ r.val ∧ 256 ≤ t.val ∧ t.val < 384)) :
    ep_8 X (ix2 r t) = X.ep (ix2 r t) := by
  refine (put_ix2_out (m0 := 128) (m1 := 128) _ _ _ _ _ _ (by omega)).trans ?_
  refine (put_ix2_out (m0 := 1152) (m1 := 128) _ _ _ _ _ _ (by omega)).trans ?_
  refine (put_ix2_out (m0 := 128) (m1 := 128) _ _ _ _ _ _ (by omega)).trans ?_
  refine (put_ix2_out (m0 := 1024) (m1 := 128) _ _ _ _ _ _ (by omega)).trans ?_
  refine (put_ix2_out (m0 := 128) (m1 := 128) _ _ _ _ _ _ (by omega)).trans ?_
  refine (put_ix2_out (m0 := 896) (m1 := 128) _ _ _ _ _ _ (by omega)).trans ?_
  refine (put_ix2_out (m0 := 128) (m1 := 128) _ _ _ _ _ _ (by omega)).trans ?_
  refine (put_ix2_out (m0 := 768) (m1 := 128) _ _ _ _ _ _ (by omega)).trans ?_
  rfl

end Cert.KernelIdeal.Hand
-- ==== Proof.HeadSoft.lean ====
/- A head's output is the softmax of its scores, the codes weighted by their counts. -/
module

public import proofs.«01_k».proof.Proof.HeadVal2
public import proofs.«01_k».proof.Proof.Rows

@[expose] public section

set_option maxRecDepth 16384

noncomputable section

namespace Cert.KernelIdeal.Hand

open Idealize.ShloMosaic Idealize.ShloMosaic.TcCoe Idealize.SL.Sem Cert.KernelIdeal Cert.KernelIdeal.Gen
open Idealize.ShloMosaic.Pointwise

theorem sup_mul_coe {n : ℕ} [NeZero n] (f : Fin n → EReal) (a : ℝ) (ha : 0 < a) :
    Finset.univ.sup f * (a : EReal) = Finset.univ.sup fun i => f i * (a : EReal) := by
  apply le_antisymm
  · obtain ⟨j, hj⟩ := exists_eq_sup f
    rw [hj]
    exact Finset.le_sup (f := fun i => f i * (a : EReal)) (Finset.mem_univ j)
  · refine Finset.sup_le fun i _ => ?_
    exact mul_le_mul_of_nonneg_right (Finset.le_sup (Finset.mem_univ i)) (by exact_mod_cast ha.le)

theorem add_mul_coe (x y : EReal) (a : ℝ) (ha : 0 < a) : (x + y) * (a : EReal) = x * (a : EReal) + y * (a : EReal) := by
  rw [mul_comm, EReal.left_distrib_of_nonneg_of_ne_top (by exact_mod_cast ha.le) (EReal.coe_ne_top a), mul_comm, mul_comm (a : EReal) y]

variable (X : HIn Ideal) (kc : Fin 512 → Fin 768)

theorem scaled_row (hX : Ok X kc) (t : Fin 512) (q : ℝ) (hq : 0 < q) (hq' : qsT X t = (q : EReal)) (r : Fin 1280) :
    Wm X kc t r * ((q * (11863283 / 134217728) : ℝ) : EReal)
      = withLog (scoreRow (Gs X t) (cn X) kc (qsT X t * Ideal.ofBits .f32 0x3DB504F3#32) t) (countRow (cn X)) r := by
  have ha : 0 < q * (11863283 / 134217728) := by positivity
  have he : qsT X t * Ideal.ofBits .f32 0x3DB504F3#32 = ((q * (11863283 / 134217728) : ℝ) : EReal) := by
    rw [hq', scale_eq, EReal.coe_mul]
  rw [he]
  unfold Wm W0 withLog scoreRow countRow
  by_cases h : r.val < 768
  · rw [if_pos (.inl h), dif_pos h, dif_pos h, dif_pos h, hq', div_one_coe q hq]
    unfold xcode
    split_ifs with hc
    · rw [add_mul_coe _ _ _ ha, mul_assoc, mul_assoc, invScale, ← EReal.coe_mul, ← EReal.coe_mul]
      rw [show (134217728 / 11863283 * (q⁻¹ * (q * (11863283 / 134217728))) : ℝ) = 1 from by field_simp]
      rw [EReal.coe_one, mul_one]
    · rw [EReal.bot_mul_coe_of_pos (inv_pos.2 hq), EReal.add_bot, EReal.bot_mul_coe_of_pos ha]
  · rw [dif_neg h, dif_neg h, dif_neg h, if_pos zero_lt_one]
    have h1 : Ideal.log 1 = 0 := by
      show (if (1 : ℝ) ≤ 0 then (⊥ : EReal) else ((Real.log 1 : ℝ) : EReal)) = _
      rw [if_neg (by norm_num), Real.log_one]; rfl
    rw [h1, add_zero]
    by_cases h2 : r.val - 768 ≤ t.val
    · rw [if_pos (.inr h2), if_pos h2]
    · rw [if_neg (by omega), if_neg h2, EReal.bot_mul_coe_of_pos ha]

/-- A head's output. -/
theorem o_attn (hX : Ok X kc) (t : Fin 512) (d : Fin 128) :
    o_4 X (ix3 0 t ⟨128 * X.j.val + d.val, by omega⟩)
      = attn (scoreRow (Gs X t) (cn X) kc (qsT X t * Ideal.ofBits .f32 0x3DB504F3#32) t) (countRow (cn X))
          (valueRow (fun n => X.u (ix4 0 X.j n d)) (fun s => X.v (ix4 0 X.j s d) * vsT X s)) := by
  obtain ⟨q, hq, hq'⟩ := hX.hq t
  have ha : 0 < q * (11863283 / 134217728) := by positivity
  have hE : ∀ r, Ew X kc t r = Ideal.exp (withLog (scoreRow (Gs X t) (cn X) kc (qsT X t * Ideal.ofBits .f32 0x3DB504F3#32) t) (countRow (cn X)) r
      - Finset.univ.sup (withLog (scoreRow (Gs X t) (cn X) kc (qsT X t * Ideal.ofBits .f32 0x3DB504F3#32) t) (countRow (cn X)))) := fun r => by
    unfold Ew
    rw [show cfac (qsT X t) = ((q * (11863283 / 134217728) : ℝ) : EReal) * (((Real.log 2)⁻¹ : ℝ) : EReal) from by rw [hq', cfac_eq],
      exp2_mul _ _ ha, sub_mul_coe _ _ _ ha, sup_mul_coe _ _ ha]
    simp only [scaled_row X kc hX t q hq hq']
  rw [o_at X kc hX]
  simp only [hE]
  refine attn_log _ _ _ _ (fun j => ?_) (fun j hj => ?_) (fun j => ?_)
  · unfold countRow
    split_ifs
    · exact hX.hc _
    · exact EReal.coe_lt_top 1
  · unfold countRow at hj
    unfold scoreRow
    split_ifs at hj with h
    · rw [dif_pos h, if_neg hj]
    · exact absurd zero_lt_one hj
  · unfold countRow valueRow
    by_cases h : j.val < 768
    · rw [uv_code X d j h, dif_pos h, dif_pos h]
    · rw [uv_token X d j (by omega), dif_neg h, dif_neg h, if_pos zero_lt_one, show Ideal.div 1 1 = 1 from by
        rw [show (1 : EReal) = ((1 : ℝ) : EReal) from rfl, show Ideal.div ((1 : ℝ) : EReal) ((1 : ℝ) : EReal) = ((1⁻¹ : ℝ) : EReal) from div_one_coe 1 one_pos, inv_one], mul_one]

end Cert.KernelIdeal.Hand
-- ==== Proof.Four.lean ====
/- The four heads of a grid point one after the other: what each of them leaves is kept by the later ones. -/
module

public import proofs.«01_k».proof.Proof.HeadSoft

@[expose] public section

set_option maxRecDepth 16384

noncomputable section

namespace Cert.KernelIdeal.Hand

open Idealize.ShloMosaic Idealize.ShloMosaic.TcCoe Idealize.SL.Sem Cert.KernelIdeal Cert.KernelIdeal.Gen
open Idealize.ShloMosaic.Pointwise

section Gen
variable {F : FTy → Type} [FloatOps F] [Named F]
/-- The same buffers, seen by head `h`. -/
def HIn.at (X : HIn F) (h : Fin 4) : HIn F := { X with j := h }
/-- What head `h` finds after head `X.j`. -/
def HIn.next (X : HIn F) (h : Fin 4) : HIn F := { X.out with j := h }
/-- What head 1 finds. -/
def HIn.x1 (X : HIn F) : HIn F := (X.at 0).next 1
/-- What head 2 finds. -/
def HIn.x2 (X : HIn F) : HIn F := X.x1.next 2
/-- What head 3 finds. -/
def HIn.x3 (X : HIn F) : HIn F := X.x2.next 3
/-- What the four heads leave. -/
def HIn.last (X : HIn F) : HIn F := X.x3.out
end Gen

variable (X : HIn Ideal) (kc : Fin 4 → Fin 512 → Fin 768)

/-- What the four heads need of what they find (`Ok` for each). -/
structure Ok4 : Prop where
  hq : ∀ h t, ∃ r : ℝ, 0 < r ∧ qsT (X.at h) t = (r : EReal)
  hk : ∀ h s, l20 (X.at h) (ix3 0 0 s) = BitVec.ofNat 32 (kc h s).val
  hc : ∀ h n, cn (X.at h) n < ⊤
  hlhs : ∀ (r : Fin 1280) (k : Fin 256), 768 ≤ r.val → 128 ≤ k.val → X.lhs (ix2 r k) = (0 : EReal)
  hep : ∀ (r : Fin 1280) (t : Fin 512), ((896 ≤ r.val ∧ r.val < 1024 ∧ t.val < 128) ∨ (1152 ≤ r.val ∧ 256 ≤ t.val ∧ t.val < 384)) → X.ep (ix2 r t) = (0 : EReal)

variable {X kc}
/-- A head leaves what the next needs. -/
theorem Ok4.next (hX : Ok4 X kc) (h : Fin 4) : Ok4 (X.next h) kc where
  hq := hX.hq
  hk := hX.hk
  hc := hX.hc
  hlhs r k hr hk := (lhs_kept X r k hr hk).trans (hX.hlhs r k hr hk)
  hep r t h := (ep_kept X r t h).trans (hX.hep r t h)
theorem Ok4.at (hX : Ok4 X kc) (h : Fin 4) : Ok4 (X.at h) kc := ⟨hX.hq, hX.hk, hX.hc, hX.hlhs, hX.hep⟩
theorem Ok4.ok (hX : Ok4 X kc) : Ok X (kc X.j) := ⟨hX.hq X.j, hX.hk X.j, hX.hc X.j, hX.hlhs, hX.hep⟩

variable (X kc)
/-- The attention output of head `h`. -/
def oSpec (h : Fin 4) (t : Fin 512) (d : Fin 128) : EReal :=
  attn (scoreRow (Gs (X.at h) t) (cn (X.at h)) (kc h) (qsT (X.at h) t * Ideal.ofBits .f32 0x3DB504F3#32) t) (countRow (cn (X.at h)))
    (valueRow (fun n => X.u (ix4 0 h n d)) (fun s => X.v (ix4 0 h s d) * vsT (X.at h) s))
/-- The value sum of head `h` after this point. -/
def uSpec (h : Fin 4) (n : Fin 768) (d : Fin 128) : EReal :=
  X.u (ix4 0 h n d) + ∑ s : Fin 512, (X.v (ix4 0 h s d) * vsT (X.at h) s) * (if l20 (X.at h) (ix3 0 0 s) = BitVec.ofNat 32 n.val then (1 : EReal) else 0)
/-- The counts of head `h` after this point. -/
def cSpec (h : Fin 4) (n : Fin 768) : EReal :=
  cn (X.at h) n + ∑ s : Fin 512, (if l20 (X.at h) (ix3 0 0 s) = BitVec.ofNat 32 n.val then (1 : EReal) else 0)

theorem last_o (hX : Ok4 X kc) (h : Fin 4) (t : Fin 512) (d : Fin 128) :
    X.last.o (ix3 0 t ⟨128 * h.val + d.val, by omega⟩) = oSpec X kc h t d := by
  have h0 := o_attn (X.at 0) (kc 0) ((hX.at 0).ok) t d
  have h1 := o_attn X.x1 (kc 1) (((hX.at 0).next 1).ok) t d
  have h2 := o_attn X.x2 (kc 2) ((((hX.at 0).next 1).next 2).ok) t d
  have h3 := o_attn X.x3 (kc 3) (((((hX.at 0).next 1).next 2).next 3).ok) t d
  have k1 := fun e => o_other X.x1 t e
  have k2 := fun e => o_other X.x2 t e
  have k3 := fun e => o_other X.x3 t e
  match h with
  | 0 =>
    refine (k3 _ (.inl ?_)).trans ((k2 _ (.inl ?_)).trans ((k1 _ (.inl ?_)).trans h0))
    · show 128 * 0 + d.val < 128 * 3; omega
    · show 128 * 0 + d.val < 128 * 2; omega
    · show 128 * 0 + d.val < 128 * 1; omega
  | 1 =>
    refine (k3 _ (.inl ?_)).trans ((k2 _ (.inl ?_)).trans h1)
    · show 128 * 1 + d.val < 128 * 3; omega
    · show 128 * 1 + d.val < 128 * 2; omega
  | 2 =>
    refine (k3 _ (.inl ?_)).trans h2
    show 128 * 2 + d.val < 128 * 3; omega
  | 3 => exact h3

theorem last_uf (h : Fin 4) (n : Fin 768) (d : Fin 128) : X.last.uf (ix4 0 h n d) = uSpec X h n d := by
  have h0 := uf_at (X.at 0) n d
  have h1 := uf_at X.x1 n d
  have h2 := uf_at X.x2 n d
  have h3 := uf_at X.x3 n d
  have k1 := fun j hj => uf_other X.x1 j hj n d
  have k2 := fun j hj => uf_other X.x2 j hj n d
  have k3 := fun j hj => uf_other X.x3 j hj n d
  match h with
  | 0 => exact (k3 0 (show (0 : Fin 4) ≠ 3 by decide)).trans ((k2 0 (show (0 : Fin 4) ≠ 2 by decide)).trans ((k1 0 (show (0 : Fin 4) ≠ 1 by decide)).trans h0))
  | 1 => exact (k3 1 (show (1 : Fin 4) ≠ 3 by decide)).trans ((k2 1 (show (1 : Fin 4) ≠ 2 by decide)).trans h1)
  | 2 => exact (k3 2 (show (2 : Fin 4) ≠ 3 by decide)).trans h2
  | 3 => exact h3

theorem last_cf (h : Fin 4) (b : Fin 3) (g : Fin 20) (hb : b.val = (X.i 1).val) (hg : g.val = 4 * (X.i 0).val + h.val) (n : Fin 768) :
    X.last.cf (ix3 b g n) = cSpec X h n := by
  have h0 := fun hg => cf_at (X.at 0) b g hb hg n
  have h1 := fun hg => cf_at X.x1 b g hb hg n
  have h2 := fun hg => cf_at X.x2 b g hb hg n
  have h3 := fun hg => cf_at X.x3 b g hb hg n
  have k1 := fun hg => cf_other X.x1 b g (.inr hg) n
  have k2 := fun hg => cf_other X.x2 b g (.inr hg) n
  have k3 := fun hg => cf_other X.x3 b g (.inr hg) n
  match h with
  | 0 =>
    have hg : g.val = 4 * (X.i 0).val + 0 := hg
    refine (k3 ?_).trans ((k2 ?_).trans ((k1 ?_).trans (h0 hg)))
    · show g.val ≠ 4 * (X.i 0).val + 3; omega
    · show g.val ≠ 4 * (X.i 0).val + 2; omega
    · show g.val ≠ 4 * (X.i 0).val + 1; omega
  | 1 =>
    have hg : g.val = 4 * (X.i 0).val + 1 := hg
    refine (k3 ?_).trans ((k2 ?_).trans (h1 hg))
    · show g.val ≠ 4 * (X.i 0).val + 3; omega
    · show g.val ≠ 4 * (X.i 0).val + 2; omega
  | 2 =>
    have hg : g.val = 4 * (X.i 0).val + 2 := hg
    refine (k3 ?_).trans (h2 hg)
    show g.val ≠ 4 * (X.i 0).val + 3; omega
  | 3 => exact h3 hg

theorem last_cf_other (b : Fin 3) (g : Fin 20) (hne : ∀ h : Fin 4, b.val ≠ (X.i 1).val ∨ g.val ≠ 4 * (X.i 0).val + h.val) (n : Fin 768) :
    X.last.cf (ix3 b g n) = X.cf (ix3 b g n) :=
  (cf_other X.x3 b g (hne 3) n).trans ((cf_other X.x2 b g (hne 2) n).trans ((cf_other X.x1 b g (hne 1) n).trans (cf_other (X.at 0) b g (hne 0) n)))

theorem last_ok (hX : Ok4 X kc) : Ok4 X.last kc := ((((hX.at 0).next 1).next 2).next 3).next 3

end Cert.KernelIdeal.Hand

end
-- ==== Proof.Body.lean ====
/- One grid point of the kernel: the zero fills of the first point, then the four heads. -/
module

public import proofs.«01_k».proof.Proof.Four
public import proofs.«01_k».proof.Proof.KernelIdealFrame.Runs

@[expose] public section

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

/-- The buffers after the zero fills. -/
def HIn.zeroed (X : HIn F) : HIn F :=
  { X with
    lhs := VecWindow.put (s := S1280x256) X.lhs ![0, 0] S1280x256.size (shapeCast S1280x256 (broadcast S1280x256 (Scalar.ofBits .bf16 0x0000#16)) shapeCasts_S1280x256_S1280x256)
    rhs := VecWindow.put (s := S512x256) X.rhs ![0, 0] S512x256.size (shapeCast S512x256 (broadcast S512x256 (Scalar.ofBits .bf16 0x0000#16)) shapeCasts_S512x256_S512x256)
    ep := VecWindow.put (s := S1280x512) X.ep ![0, 0] S1280x512.size (shapeCast S1280x512 (broadcast S1280x512 (Scalar.ofBits .bf16 0x0000#16)) shapeCasts_S1280x512_S1280x512) }

/-- The buffers as the first head finds them: zeroed at the first grid point. -/
def HIn.start (X : HIn F) : HIn F := open Classical in if FrameRun.cond0_0 X.i then X.zeroed else X

theorem start_i (X : HIn F) : X.start.i = X.i := by unfold HIn.start; split_ifs <;> rfl

/-- The zero fills. -/
theorem init_run (c : Dev nD) (E : Set ℕ) (K : PUnit → sProp 𝕄) (X : HIn F) (arg2 : Memref sig .tc .smem S3x2x20 .f32) (harg2 : arg2.IsWhole) (arg3 : Memref sig .tc .smem S3x2x20 .f32) (harg3 : arg3.IsWhole) (arg4 : Memref sig .tc .vmem S1x4x512x128 .fp8e4m3) (harg4 : arg4.IsWhole) (arg5 : Memref sig .tc .vmem S1x20x512 .i32) (harg5 : arg5.IsWhole) (arg6 : Memref sig .tc .vmem S4x768x128 .bf16) (harg6 : arg6.IsWhole) (arg7 : Memref sig .tc .vmem S1x4x512x128 .fp8e4m3) (harg7 : arg7.IsWhole) (arg8 : Memref sig .tc .vmem S1x4x768x128 .f32) (harg8 : arg8.IsWhole) (arg9 : Memref sig .tc .vmem S3x20x768 .f32) (harg9 : arg9.IsWhole) (arg10 : Memref sig .tc .vmem S1x512x512 .bf16) (harg10 : arg10.IsWhole) (arg11 : Memref sig .tc .vmem S1x4x768x128 .f32) (harg11 : arg11.IsWhole) (arg12 : Memref sig .tc .vmem S3x20x768 .f32) (harg12 : arg12.IsWhole) (arg13 : Memref sig .tc .vmem S1280x256 .bf16) (harg13 : arg13.IsWhole) (arg14 : Memref sig .tc .vmem S512x256 .bf16) (harg14 : arg14.IsWhole) (arg15 : Memref sig .tc .vmem S1280x512 .f32) (harg15 : arg15.IsWhole) (arg16 : Memref sig .tc .vmem S1280x512 .bf16) (harg16 : arg16.IsWhole) (arg17 : Memref sig .tc .vmem S128x1280 .bf16) (harg17 : arg17.IsWhole) :
    iprop(HIn.own c arg2 arg3 arg4 arg5 arg6 arg7 arg8 arg9 arg10 arg11 arg12 arg13 arg14 arg15 arg16 arg17 X ∗ (HIn.own c arg2 arg3 arg4 arg5 arg6 arg7 arg8 arg9 arg10 arg11 arg12 arg13 arg14 arg15 arg16 arg17 X.start -∗ K ⟨⟩))
      ⊢ wp frame (wpE (defs₀ (F := F)) Variants.none c none) E (initProg X.i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  unfold initProg HIn.start
  extract_lets
  split
  · rename_i h
    unfold HIn.own
    iintro ⟨⟨H2, H3, H4, H5, H6, H7, H8, H9, H10, H11, H12, H13, H14, H15, H16, H17⟩, Hk⟩
    iapply (ld_step c E K (m := arg13) _ rfl) $$ H13; iintro H13
    iapply (st_step c E K (m := arg13) X.zeroed.lhs rfl) $$ H13; iintro H13
    iapply (ld_step c E K (m := arg14) _ rfl) $$ H14; iintro H14
    iapply (st_step c E K (m := arg14) X.zeroed.rhs rfl) $$ H14; iintro H14
    iapply (ld_step c E K (m := arg16) _ rfl) $$ H16; iintro H16
    iapply (st_step c E K (m := arg16) X.zeroed.ep rfl) $$ H16; iintro H16
    iapply (le_wp_ret _ _ _ PUnit.unit K)
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17
  · rename_i h
    iintro ⟨H, Hk⟩
    iapply (le_wp_ret _ _ _ PUnit.unit K)
    iapply Hk
    iexact H

/-- The four heads. -/
theorem heads_run (c : Dev nD) (E : Set ℕ) (K : PUnit → sProp 𝕄) (X : HIn F) (arg2 : Memref sig .tc .smem S3x2x20 .f32) (harg2 : arg2.IsWhole) (arg3 : Memref sig .tc .smem S3x2x20 .f32) (harg3 : arg3.IsWhole) (arg4 : Memref sig .tc .vmem S1x4x512x128 .fp8e4m3) (harg4 : arg4.IsWhole) (arg5 : Memref sig .tc .vmem S1x20x512 .i32) (harg5 : arg5.IsWhole) (arg6 : Memref sig .tc .vmem S4x768x128 .bf16) (harg6 : arg6.IsWhole) (arg7 : Memref sig .tc .vmem S1x4x512x128 .fp8e4m3) (harg7 : arg7.IsWhole) (arg8 : Memref sig .tc .vmem S1x4x768x128 .f32) (harg8 : arg8.IsWhole) (arg9 : Memref sig .tc .vmem S3x20x768 .f32) (harg9 : arg9.IsWhole) (arg10 : Memref sig .tc .vmem S1x512x512 .bf16) (harg10 : arg10.IsWhole) (arg11 : Memref sig .tc .vmem S1x4x768x128 .f32) (harg11 : arg11.IsWhole) (arg12 : Memref sig .tc .vmem S3x20x768 .f32) (harg12 : arg12.IsWhole) (arg13 : Memref sig .tc .vmem S1280x256 .bf16) (harg13 : arg13.IsWhole) (arg14 : Memref sig .tc .vmem S512x256 .bf16) (harg14 : arg14.IsWhole) (arg15 : Memref sig .tc .vmem S1280x512 .f32) (harg15 : arg15.IsWhole) (arg16 : Memref sig .tc .vmem S1280x512 .bf16) (harg16 : arg16.IsWhole) (arg17 : Memref sig .tc .vmem S128x1280 .bf16) (harg17 : arg17.IsWhole) :
    iprop(HIn.own c arg2 arg3 arg4 arg5 arg6 arg7 arg8 arg9 arg10 arg11 arg12 arg13 arg14 arg15 arg16 arg17 X ∗ (HIn.own c arg2 arg3 arg4 arg5 arg6 arg7 arg8 arg9 arg10 arg11 arg12 arg13 arg14 arg15 arg16 arg17 X.last -∗ K ⟨⟩))
      ⊢ wp frame (wpE (defs₀ (F := F)) Variants.none c none) E (headProg X.i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 0) (fun _ => wp frame (wpE (defs₀ (F := F)) Variants.none c none) E (headProg X.i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 1) (fun _ => wp frame (wpE (defs₀ (F := F)) Variants.none c none) E (headProg X.i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 2) (fun _ => wp frame (wpE (defs₀ (F := F)) Variants.none c none) E (headProg X.i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 3) K))) := by
  iintro ⟨H, Hk⟩
  iapply (head_run c E _ (X.at 0) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17)
  isplitl [H]; · iexact H
  iintro H
  iapply (head_run c E _ X.x1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17)
  isplitl [H]; · iexact H
  iintro H
  iapply (head_run c E _ X.x2 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17)
  isplitl [H]; · iexact H
  iintro H
  iapply (head_run c E K X.x3 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17)
  isplitl [H]; · iexact H
  iexact Hk

/-- The body of the kernel at a grid point. -/
theorem body_run (c : Dev nD) (E : Set ℕ) (K : PUnit → sProp 𝕄) (X : HIn F) (arg2 : Memref sig .tc .smem S3x2x20 .f32) (harg2 : arg2.IsWhole) (arg3 : Memref sig .tc .smem S3x2x20 .f32) (harg3 : arg3.IsWhole) (arg4 : Memref sig .tc .vmem S1x4x512x128 .fp8e4m3) (harg4 : arg4.IsWhole) (arg5 : Memref sig .tc .vmem S1x20x512 .i32) (harg5 : arg5.IsWhole) (arg6 : Memref sig .tc .vmem S4x768x128 .bf16) (harg6 : arg6.IsWhole) (arg7 : Memref sig .tc .vmem S1x4x512x128 .fp8e4m3) (harg7 : arg7.IsWhole) (arg8 : Memref sig .tc .vmem S1x4x768x128 .f32) (harg8 : arg8.IsWhole) (arg9 : Memref sig .tc .vmem S3x20x768 .f32) (harg9 : arg9.IsWhole) (arg10 : Memref sig .tc .vmem S1x512x512 .bf16) (harg10 : arg10.IsWhole) (arg11 : Memref sig .tc .vmem S1x4x768x128 .f32) (harg11 : arg11.IsWhole) (arg12 : Memref sig .tc .vmem S3x20x768 .f32) (harg12 : arg12.IsWhole) (arg13 : Memref sig .tc .vmem S1280x256 .bf16) (harg13 : arg13.IsWhole) (arg14 : Memref sig .tc .vmem S512x256 .bf16) (harg14 : arg14.IsWhole) (arg15 : Memref sig .tc .vmem S1280x512 .f32) (harg15 : arg15.IsWhole) (arg16 : Memref sig .tc .vmem S1280x512 .bf16) (harg16 : arg16.IsWhole) (arg17 : Memref sig .tc .vmem S128x1280 .bf16) (harg17 : arg17.IsWhole) :
    iprop(HIn.own c arg2 arg3 arg4 arg5 arg6 arg7 arg8 arg9 arg10 arg11 arg12 arg13 arg14 arg15 arg16 arg17 X ∗ (HIn.own c arg2 arg3 arg4 arg5 arg6 arg7 arg8 arg9 arg10 arg11 arg12 arg13 arg14 arg15 arg16 arg17 X.start.last -∗ K ⟨⟩))
      ⊢ wp frame (wpE (defs₀ (F := F)) Variants.none c none) E (cc0_vq_attention (F := F) X.i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  have hr := heads_run c E K X.start arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17
  rw [start_i X] at hr
  rw [body_eq, wp_bind, wp_bind, wp_bind, wp_bind]
  iintro ⟨H, Hk⟩
  iapply (init_run c E _ X arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17)
  isplitl [H]; · iexact H
  iintro H
  iapply hr
  isplitl [H]; · iexact H
  iexact Hk

end Cert.KernelIdeal.Hand

end
-- ==== Proof.ValRun.lean ====
/- The run of the kernel with what it leaves in its outputs named. -/
module

public import proofs.«01_k».proof.Proof.Body
public import proofs.«01_k».proof.Proof.Gen.KernelIdeal.Launch
public import Idealize.ShloMosaic.Lib.Claim
public import Idealize.ShloMosaic.Lib.Pipeline.ArrRel

@[expose] public section

set_option maxRecDepth 16384

noncomputable section

namespace Cert.KernelIdeal.ValRun

open Cert.KernelIdeal.FrameRun Cert.KernelIdeal.Hand
open Cert.KernelIdeal.Gen hiding iblk V hmain
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation)
open Idealize.ShloMosaic.Pointwise

local notation "𝕄" => MT nD τ sig Unit (Elt Ideal) ℕ (UR sig nD τ) ℕ

variable (m : (ℓ : Loc nD τ sig) → Buf (Elt Ideal) ℓ) (ρ : Dev nD → PrngReg)

/-- What the body is handed at a grid point, the outputs and the scratch buffers at nothing in particular. -/
def inp (c : Dev nD) (t : Fin cfg0.N) : HIn Ideal where
  i := grid0.coords t
  j := 0
  qs := iblk m c 0 t
  vs := iblk m c 1 t
  q := iblk m c 2 t
  k := iblk m c 3 t
  cb := iblk m c 4 t
  v := iblk m c 5 t
  u := iblk m c 6 t
  cnt := iblk m c 7 t
  o := fun _ => (0 : EReal)
  uf := fun _ => (0 : EReal)
  cf := fun _ => (0 : EReal)
  lhs := fun _ => (0 : EReal)
  rhs := fun _ => (0 : EReal)
  gs := fun _ => (0 : EReal)
  ep := fun _ => (0 : EReal)
  uv := fun _ => (0 : EReal)

/-- The code a key token of a head names. -/
def kcOf (X : HIn Ideal) (h : Fin 4) (s : Fin 512) : Fin 768 := ⟨(l20 (X.at h) (ix3 0 0 s)).toNat % 768, Nat.mod_lt _ (by norm_num)⟩

/-- Where a scratch buffer no head fills is zero: the score operand. -/
def ZL (lhs : Vec Ideal S1280x256 .bf16) : Prop := ∀ (r : Fin 1280) (k : Fin 256), 768 ≤ r.val → 128 ≤ k.val → lhs (ix2 r k) = (0 : EReal)
/-- Where a scratch buffer no head fills is zero: the weights. -/
def ZE (ep : Vec Ideal S1280x512 .bf16) : Prop := ∀ (r : Fin 1280) (t : Fin 512), ((896 ≤ r.val ∧ r.val < 1024 ∧ t.val < 128) ∨ (1152 ≤ r.val ∧ 256 ≤ t.val ∧ t.val < 384)) → ep (ix2 r t) = (0 : EReal)

/-- What a point leaves of the attention output. -/
def R8 (c : Dev nD) (t : Fin cfg0.N) (X : Vec Ideal S1x512x512 .bf16) : Prop :=
  ∀ (h : Fin 4) (s : Fin 512) (d : Fin 128), X (ix3 0 s ⟨128 * h.val + d.val, by omega⟩) = oSpec (inp m c t) (kcOf (inp m c t)) h s d
/-- What a point leaves of the value sums. -/
def R9 (c : Dev nD) (t : Fin cfg0.N) (X : Vec Ideal S1x4x768x128 .f32) : Prop :=
  ∀ (h : Fin 4) (n : Fin 768) (d : Fin 128), X (ix4 0 h n d) = uSpec (inp m c t) h n d
/-- What a point leaves of the counts: its own four rows, the others as found. -/
def R10 (c : Dev nD) (t : Fin cfg0.N) (Y X : Vec Ideal S3x20x768 .f32) : Prop :=
  (∀ (h : Fin 4) (b : Fin 3) (g : Fin 20) (n : Fin 768), b.val = (grid0.coords t 1).val → g.val = 4 * (grid0.coords t 0).val + h.val → X (ix3 b g n) = cSpec (inp m c t) h n)
  ∧ ∀ (b : Fin 3) (g : Fin 20) (n : Fin 768), (∀ h : Fin 4, b.val ≠ (grid0.coords t 1).val ∨ g.val ≠ 4 * (grid0.coords t 0).val + h.val) → X (ix3 b g n) = Y (ix3 b g n)

/-- The region invariant before position `n`: the class's before the first point, then the two zero parts. -/
def PhiV (c : Dev nD) : ℕ → sProp 𝕄
  | 0 => Pipeline.ΦA spec0 c
  | _ + 1 => iprop(iprop((∃ d, ⌜ZL d⌝ ∗ owns (c : Thread nD τ) scM0_0 fullShare d) ∗ (∃ d, owns (c : Thread nD τ) scM0_1 fullShare d) ∗ (∃ d, owns (c : Thread nD τ) scM0_2 fullShare d) ∗ (∃ d, ⌜ZE d⌝ ∗ owns (c : Thread nD τ) scM0_3 fullShare d) ∗ (∃ d, owns (c : Thread nD τ) scM0_4 fullShare d)) ∗ (∃ r, prngReg c r))

theorem PhiV_succ (c : Dev nD) (n : ℕ) :
    PhiV c (n + 1) = iprop(iprop((∃ d, ⌜ZL d⌝ ∗ owns (c : Thread nD τ) scM0_0 fullShare d) ∗ (∃ d, owns (c : Thread nD τ) scM0_1 fullShare d) ∗ (∃ d, owns (c : Thread nD τ) scM0_2 fullShare d) ∗ (∃ d, ⌜ZE d⌝ ∗ owns (c : Thread nD τ) scM0_3 fullShare d) ∗ (∃ d, owns (c : Thread nD τ) scM0_4 fullShare d)) ∗ (∃ r, prngReg c r)) := rfl

/-- The proof data of the inputs. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
  Φ t := PhiV c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem before0_0 (c : Dev nD) (t : Fin cfg0.N) (d) : (dats m 0 c).before 0 t d = iblk m c 0 t :=
  FrameRun.before0_0_of m (dats m 0 c) (A_eq m c 0) (after0_0 m c) t d
theorem before0_1 (c : Dev nD) (t : Fin cfg0.N) (d) : (dats m 0 c).before 1 t d = iblk m c 1 t :=
  FrameRun.before0_1_of m (dats m 0 c) (A_eq m c 1) (after0_1 m c) t d
theorem before0_2 (c : Dev nD) (t : Fin cfg0.N) (d) : (dats m 0 c).before 2 t d = iblk m c 2 t :=
  FrameRun.before0_2_of m (dats m 0 c) (A_eq m c 2) (after0_2 m c) t d
theorem before0_3 (c : Dev nD) (t : Fin cfg0.N) (d) : (dats m 0 c).before 3 t d = iblk m c 3 t :=
  FrameRun.before0_3_of m (dats m 0 c) (A_eq m c 3) (after0_3 m c) t d
theorem before0_4 (c : Dev nD) (t : Fin cfg0.N) (d) : (dats m 0 c).before 4 t d = iblk m c 4 t :=
  FrameRun.before0_4_of m (dats m 0 c) (A_eq m c 4) (after0_4 m c) t d
theorem before0_5 (c : Dev nD) (t : Fin cfg0.N) (d) : (dats m 0 c).before 5 t d = iblk m c 5 t :=
  FrameRun.before0_5_of m (dats m 0 c) (A_eq m c 5) (after0_5 m c) t d
theorem before0_6 (c : Dev nD) (t : Fin cfg0.N) (d) : (dats m 0 c).before 6 t d = iblk m c 6 t :=
  FrameRun.before0_6_of m (dats m 0 c) (A_eq m c 6) (after0_6 m c) t d
theorem before0_7 (c : Dev nD) (t : Fin cfg0.N) (d) : (dats m 0 c).before 7 t d = iblk m c 7 t :=
  FrameRun.before0_7_of m (dats m 0 c) (A_eq m c 7) (after0_7 m c) t d

/-- The relations of the outputs. -/
def ovr (c : Dev nD) : (w : Fin cfg0.W) → Option (Fin cfg0.N → (Y X : (cfg0.win w).block.Idx → Elt Ideal (cfg0.win w).elt) → Prop)
  | ⟨8, _⟩ => some fun t _ X => R8 m c t X
  | ⟨9, _⟩ => some fun t _ X => R9 m c t X
  | ⟨10, _⟩ => some fun t Y X => R10 m c t Y X
  | _ => none

/-- The proof data of the value run. -/
def rdats (c : Dev nD) : RDat τ (Elt Ideal) Unit ℕ (UR sig nD τ) ℕ cfg0 c := (dats m 0 c).toR.override (ovr m c)

theorem rafter_8 (c : Dev nD) : (rdats m c).after 8 = fun t _ X => R8 m c t X := rfl
theorem rafter_9 (c : Dev nD) : (rdats m c).after 9 = fun t _ X => R9 m c t X := rfl
theorem rafter_10 (c : Dev nD) : (rdats m c).after 10 = fun t Y X => R10 m c t Y X := rfl
theorem rafter_0 (c : Dev nD) (t : Fin cfg0.N) (Y) : (rdats m c).after 0 t Y (iblk m c 0 t) := by
  unfold rdats
  rw [RDat.override_after_of_eq_none _ (show ovr m c 0 = none from rfl)]
  exact (Dat.Leaves.live_iff (dats m 0 c) (.inl rfl)).mpr (after0_0 m c t).symm
theorem finds_0 (c : Dev nD) (t : Fin cfg0.N) (Y) (h : (rdats m c).Finds 0 t Y) : Y = iblk m c 0 t := by
  obtain ⟨d, hd⟩ := (dats m 0 c).toR_finds 0 t Y (((dats m 0 c).toR.override_finds (show ovr m c 0 = none from rfl) t Y).mp h)
  rw [hd, before0_0]
theorem rafter_1 (c : Dev nD) (t : Fin cfg0.N) (Y) : (rdats m c).after 1 t Y (iblk m c 1 t) := by
  unfold rdats
  rw [RDat.override_after_of_eq_none _ (show ovr m c 1 = none from rfl)]
  exact (Dat.Leaves.live_iff (dats m 0 c) (.inl rfl)).mpr (after0_1 m c t).symm
theorem finds_1 (c : Dev nD) (t : Fin cfg0.N) (Y) (h : (rdats m c).Finds 1 t Y) : Y = iblk m c 1 t := by
  obtain ⟨d, hd⟩ := (dats m 0 c).toR_finds 1 t Y (((dats m 0 c).toR.override_finds (show ovr m c 1 = none from rfl) t Y).mp h)
  rw [hd, before0_1]
theorem rafter_2 (c : Dev nD) (t : Fin cfg0.N) (Y) : (rdats m c).after 2 t Y (iblk m c 2 t) := by
  unfold rdats
  rw [RDat.override_after_of_eq_none _ (show ovr m c 2 = none from rfl)]
  exact (Dat.Leaves.live_iff (dats m 0 c) (.inl rfl)).mpr (after0_2 m c t).symm
theorem finds_2 (c : Dev nD) (t : Fin cfg0.N) (Y) (h : (rdats m c).Finds 2 t Y) : Y = iblk m c 2 t := by
  obtain ⟨d, hd⟩ := (dats m 0 c).toR_finds 2 t Y (((dats m 0 c).toR.override_finds (show ovr m c 2 = none from rfl) t Y).mp h)
  rw [hd, before0_2]
theorem rafter_3 (c : Dev nD) (t : Fin cfg0.N) (Y) : (rdats m c).after 3 t Y (iblk m c 3 t) := by
  unfold rdats
  rw [RDat.override_after_of_eq_none _ (show ovr m c 3 = none from rfl)]
  exact (Dat.Leaves.live_iff (dats m 0 c) (.inl rfl)).mpr (after0_3 m c t).symm
theorem finds_3 (c : Dev nD) (t : Fin cfg0.N) (Y) (h : (rdats m c).Finds 3 t Y) : Y = iblk m c 3 t := by
  obtain ⟨d, hd⟩ := (dats m 0 c).toR_finds 3 t Y (((dats m 0 c).toR.override_finds (show ovr m c 3 = none from rfl) t Y).mp h)
  rw [hd, before0_3]
theorem rafter_4 (c : Dev nD) (t : Fin cfg0.N) (Y) : (rdats m c).after 4 t Y (iblk m c 4 t) := by
  unfold rdats
  rw [RDat.override_after_of_eq_none _ (show ovr m c 4 = none from rfl)]
  exact (Dat.Leaves.live_iff (dats m 0 c) (.inl rfl)).mpr (after0_4 m c t).symm
theorem finds_4 (c : Dev nD) (t : Fin cfg0.N) (Y) (h : (rdats m c).Finds 4 t Y) : Y = iblk m c 4 t := by
  obtain ⟨d, hd⟩ := (dats m 0 c).toR_finds 4 t Y (((dats m 0 c).toR.override_finds (show ovr m c 4 = none from rfl) t Y).mp h)
  rw [hd, before0_4]
theorem rafter_5 (c : Dev nD) (t : Fin cfg0.N) (Y) : (rdats m c).after 5 t Y (iblk m c 5 t) := by
  unfold rdats
  rw [RDat.override_after_of_eq_none _ (show ovr m c 5 = none from rfl)]
  exact (Dat.Leaves.live_iff (dats m 0 c) (.inl rfl)).mpr (after0_5 m c t).symm
theorem finds_5 (c : Dev nD) (t : Fin cfg0.N) (Y) (h : (rdats m c).Finds 5 t Y) : Y = iblk m c 5 t := by
  obtain ⟨d, hd⟩ := (dats m 0 c).toR_finds 5 t Y (((dats m 0 c).toR.override_finds (show ovr m c 5 = none from rfl) t Y).mp h)
  rw [hd, before0_5]
theorem rafter_6 (c : Dev nD) (t : Fin cfg0.N) (Y) : (rdats m c).after 6 t Y (iblk m c 6 t) := by
  unfold rdats
  rw [RDat.override_after_of_eq_none _ (show ovr m c 6 = none from rfl)]
  exact (Dat.Leaves.live_iff (dats m 0 c) (.inl rfl)).mpr (after0_6 m c t).symm
theorem finds_6 (c : Dev nD) (t : Fin cfg0.N) (Y) (h : (rdats m c).Finds 6 t Y) : Y = iblk m c 6 t := by
  obtain ⟨d, hd⟩ := (dats m 0 c).toR_finds 6 t Y (((dats m 0 c).toR.override_finds (show ovr m c 6 = none from rfl) t Y).mp h)
  rw [hd, before0_6]
theorem rafter_7 (c : Dev nD) (t : Fin cfg0.N) (Y) : (rdats m c).after 7 t Y (iblk m c 7 t) := by
  unfold rdats
  rw [RDat.override_after_of_eq_none _ (show ovr m c 7 = none from rfl)]
  exact (Dat.Leaves.live_iff (dats m 0 c) (.inl rfl)).mpr (after0_7 m c t).symm
theorem finds_7 (c : Dev nD) (t : Fin cfg0.N) (Y) (h : (rdats m c).Finds 7 t Y) : Y = iblk m c 7 t := by
  obtain ⟨d, hd⟩ := (dats m 0 c).toR_finds 7 t Y (((dats m 0 c).toR.override_finds (show ovr m c 7 = none from rfl) t Y).mp h)
  rw [hd, before0_7]

theorem zl_zeroed (X : HIn Ideal) : ZL X.zeroed.lhs := fun r k _ _ => by
  refine (put_ix2_in (m0 := 1280) (m1 := 256) _ _ _ _ r k r k (by simp) (by simp)).trans ?_
  rw [shapeCast_self]
  exact Ideal.ofBits_zero_bf16
theorem ze_zeroed (X : HIn Ideal) : ZE X.zeroed.ep := fun r k _ => by
  refine (put_ix2_in (m0 := 1280) (m1 := 512) _ _ _ _ r k r k (by simp) (by simp)).trans ?_
  rw [shapeCast_self]
  exact Ideal.ofBits_zero_bf16

/-- What the heads find at a point, over the inputs' blocks. -/
def found (c : Dev nD) (t : Fin cfg0.N) (o : Vec Ideal S1x512x512 .bf16) (uf : Vec Ideal S1x4x768x128 .f32) (cf : Vec Ideal S3x20x768 .f32)
    (lhs : Vec Ideal S1280x256 .bf16) (rhs : Vec Ideal S512x256 .bf16) (gs : Vec Ideal S1280x512 .f32) (ep : Vec Ideal S1280x512 .bf16) (uv : Vec Ideal S128x1280 .bf16) : HIn Ideal :=
  { inp m c t with o := o, uf := uf, cf := cf, lhs := lhs, rhs := rhs, gs := gs, ep := ep, uv := uv }

/-- Two heads find the same inputs. -/
structure SameIn (X Y : HIn Ideal) : Prop where
  hi : X.i = Y.i
  hqs : X.qs = Y.qs
  hvs : X.vs = Y.vs
  hq : X.q = Y.q
  hk : X.k = Y.k
  hcb : X.cb = Y.cb
  hv : X.v = Y.v
  hu : X.u = Y.u
  hcnt : X.cnt = Y.cnt

section Same
variable {X Y : HIn Ideal} (hS : SameIn X Y) (kc : Fin 4 → Fin 512 → Fin 768)
include hS
theorem SameIn.qsT (h : Fin 4) (t : Fin 512) : qsT (X.at h) t = Hand.qsT (Y.at h) t := by
  obtain ⟨h1, h2, h3, h4, h5, h6, h7, h8, h9⟩ := hS
  cases X; cases Y; dsimp only at h1 h2 h3 h4 h5 h6 h7 h8 h9; subst h1 h2 h3 h4 h5 h6 h7 h8 h9; rfl
theorem SameIn.l20 (h : Fin 4) (s : Fin 512) : l20 (X.at h) (ix3 0 0 s) = Hand.l20 (Y.at h) (ix3 0 0 s) := by
  obtain ⟨h1, h2, h3, h4, h5, h6, h7, h8, h9⟩ := hS
  cases X; cases Y; dsimp only at h1 h2 h3 h4 h5 h6 h7 h8 h9; subst h1 h2 h3 h4 h5 h6 h7 h8 h9; rfl
theorem SameIn.cn (h : Fin 4) (n : Fin 768) : cn (X.at h) n = Hand.cn (Y.at h) n := by
  obtain ⟨h1, h2, h3, h4, h5, h6, h7, h8, h9⟩ := hS
  cases X; cases Y; dsimp only at h1 h2 h3 h4 h5 h6 h7 h8 h9; subst h1 h2 h3 h4 h5 h6 h7 h8 h9; rfl
theorem SameIn.oSpec (h : Fin 4) (s : Fin 512) (d : Fin 128) : oSpec X kc h s d = Hand.oSpec Y kc h s d := by
  obtain ⟨h1, h2, h3, h4, h5, h6, h7, h8, h9⟩ := hS
  cases X; cases Y; dsimp only at h1 h2 h3 h4 h5 h6 h7 h8 h9; subst h1 h2 h3 h4 h5 h6 h7 h8 h9; rfl
theorem SameIn.uSpec (h : Fin 4) (n : Fin 768) (d : Fin 128) : uSpec X h n d = Hand.uSpec Y h n d := by
  obtain ⟨h1, h2, h3, h4, h5, h6, h7, h8, h9⟩ := hS
  cases X; cases Y; dsimp only at h1 h2 h3 h4 h5 h6 h7 h8 h9; subst h1 h2 h3 h4 h5 h6 h7 h8 h9; rfl
theorem SameIn.cSpec (h : Fin 4) (n : Fin 768) : cSpec X h n = Hand.cSpec Y h n := by
  obtain ⟨h1, h2, h3, h4, h5, h6, h7, h8, h9⟩ := hS
  cases X; cases Y; dsimp only at h1 h2 h3 h4 h5 h6 h7 h8 h9; subst h1 h2 h3 h4 h5 h6 h7 h8 h9; rfl
theorem SameIn.ok (hY : Ok4 Y kc) (hl : ZL X.lhs) (he : ZE X.ep) : Ok4 X kc :=
  ⟨fun h t => by rw [hS.qsT]; exact hY.hq h t, fun h s => (hS.l20 h s).trans (hY.hk h s), fun h n => by rw [hS.cn]; exact hY.hc h n, hl, he⟩
theorem SameIn.trans {Z : HIn Ideal} (hT : SameIn Y Z) : SameIn X Z :=
  ⟨hS.1.trans hT.1, hS.2.trans hT.2, hS.3.trans hT.3, hS.4.trans hT.4, hS.5.trans hT.5, hS.6.trans hT.6, hS.7.trans hT.7, hS.8.trans hT.8, hS.9.trans hT.9⟩
end Same

theorem same_start (X : HIn Ideal) : SameIn X.start X := by
  unfold HIn.start; split_ifs
  · exact ⟨rfl, rfl, rfl, rfl, rfl, rfl, rfl, rfl, rfl⟩
  · exact ⟨rfl, rfl, rfl, rfl, rfl, rfl, rfl, rfl, rfl⟩
theorem same_out (X : HIn Ideal) : SameIn X.out X := ⟨rfl, rfl, rfl, rfl, rfl, rfl, rfl, rfl, rfl⟩
theorem same_at (X : HIn Ideal) (h : Fin 4) : SameIn (X.at h) X := ⟨rfl, rfl, rfl, rfl, rfl, rfl, rfl, rfl, rfl⟩
theorem same_next (X : HIn Ideal) (h : Fin 4) : SameIn (X.next h) X := ⟨rfl, rfl, rfl, rfl, rfl, rfl, rfl, rfl, rfl⟩
theorem same_last (X : HIn Ideal) : SameIn X.last X :=
  (same_out X.x3).trans ((same_next X.x2 3).trans ((same_next X.x1 2).trans ((same_next (X.at 0) 1).trans (same_at X 0))))
theorem same_found (c : Dev nD) (t : Fin cfg0.N) (o uf cf lhs rhs gs ep uv) : SameIn (found m c t o uf cf lhs rhs gs ep uv) (inp m c t) :=
  ⟨rfl, rfl, rfl, rfl, rfl, rfl, rfl, rfl, rfl⟩
theorem start_cf (X : HIn Ideal) : X.start.cf = X.cf := by unfold HIn.start; split_ifs <;> rfl

/-- From zeros where the scratch buffers must be zero, the heads find what they need. -/
theorem start_ok (X : HIn Ideal) (kc) (c : Dev nD) (t : Fin cfg0.N) (hS : SameIn X (inp m c t)) (hpre : Ok4 (inp m c t) kc)
    (hz : t.val % 15 = 0 ∨ (ZL X.lhs ∧ ZE X.ep)) : Ok4 X.start kc := by
  refine ((same_start X).trans hS).ok kc hpre ?_ ?_
  · unfold HIn.start
    split_ifs with h
    · exact zl_zeroed _
    · exact (hz.resolve_left fun h0 => h (by rw [hS.hi]; exact (hcond0_0 t).mpr h0)).1
  · unfold HIn.start
    split_ifs with h
    · exact ze_zeroed _
    · exact (hz.resolve_left fun h0 => h (by rw [hS.hi]; exact (hcond0_0 t).mpr h0)).2

/-- What the heads leave at a point, from zeros where the scratch buffers must be zero. -/
theorem start_leaves (hpre : ∀ c t, Ok4 (inp m c t) (kcOf (inp m c t))) (c : Dev nD) (t : Fin cfg0.N) (X : HIn Ideal) (hS : SameIn X (inp m c t))
    (hz : t.val % 15 = 0 ∨ (ZL X.lhs ∧ ZE X.ep)) :
    R8 m c t X.start.last.o ∧ R9 m c t X.start.last.uf ∧ R10 m c t X.cf X.start.last.cf ∧ ZL X.start.last.lhs ∧ ZE X.start.last.ep := by
  have hok := start_ok m X _ c t hS (hpre c t) hz
  have hS' := (same_start X).trans hS
  refine ⟨fun h s d => ?_, fun h n d => ?_, ⟨fun h b g n hb hg => ?_, fun b g n hne => ?_⟩, (last_ok _ _ hok).hlhs, (last_ok _ _ hok).hep⟩
  · rw [last_o _ _ hok h s d, hS'.oSpec]
  · rw [last_uf _ h n d, hS'.uSpec]
  · rw [last_cf _ h b g (by rw [hS'.hi]; exact hb) (by rw [hS'.hi]; exact hg) n, hS'.cSpec]
  · rw [last_cf_other _ b g (by rw [hS'.hi]; exact hne) n, start_cf]

/-- Before a point the scratch buffers are at something, zero where they must be unless the point is the first. -/
theorem PhiV_open (c : Dev nD) (t : Fin cfg0.N) :
    (PhiV c t.val : sProp 𝕄) ⊢ iprop(∃ lhs rhs gs ep uv, ⌜t.val % 15 = 0 ∨ (ZL lhs ∧ ZE ep)⌝ ∗ owns (c : Thread nD τ) scM0_0 fullShare lhs ∗ owns (c : Thread nD τ) scM0_1 fullShare rhs ∗ owns (c : Thread nD τ) scM0_2 fullShare gs
      ∗ owns (c : Thread nD τ) scM0_3 fullShare ep ∗ owns (c : Thread nD τ) scM0_4 fullShare uv ∗ (∃ r, prngReg c r)) := by
  obtain ⟨n, hn⟩ := t
  cases n with
  | zero =>
    show Pipeline.ΦA spec0 c ⊢ _
    rw [PhiA0_eq]
    iintro ⟨⟨⟨%a, H0⟩, ⟨%b, H1⟩, ⟨%d, H2⟩, ⟨%e, H3⟩, ⟨%f, H4⟩⟩, Hg⟩
    iexists a; iexists b; iexists d; iexists e; iexists f
    isplitr
    · ipureintro; exact .inl rfl
    isplitl [H0]; · iexact H0
    isplitl [H1]; · iexact H1
    isplitl [H2]; · iexact H2
    isplitl [H3]; · iexact H3
    isplitl [H4]; · iexact H4
    iexact Hg
  | succ n =>
    rw [PhiV_succ]
    iintro ⟨⟨⟨%a, %ha, H0⟩, ⟨%b, H1⟩, ⟨%d, H2⟩, ⟨%e, %he, H3⟩, ⟨%f, H4⟩⟩, Hg⟩
    iexists a; iexists b; iexists d; iexists e; iexists f
    isplitr
    · ipureintro; exact .inr ⟨ha, he⟩
    isplitl [H0]; · iexact H0
    isplitl [H1]; · iexact H1
    isplitl [H2]; · iexact H2
    isplitl [H3]; · iexact H3
    isplitl [H4]; · iexact H4
    iexact Hg

set_option maxHeartbeats 4000000 in
/-- A point of the run. -/
theorem body_obligation (hpre : ∀ c t, Ok4 (inp m c t) (kcOf (inp m c t))) (c : Dev nD) :
    (rdats m c).BodyObligation (defs₀ (F := Ideal)) Variants.none () Set.univ := fun t Y hY => by
  rw [bigSep_W0, bigSep_W0, show defs₀ (F := Ideal) .tc cfg0.body (cfg0.bodyArgs t (cfg0.slots t)) = bodyAt0 t from by unfold defs₀; rw [Defs.onTc_tc]]
  rw [finds_0 m c t (Y 0) (hY 0)]
  rw [finds_1 m c t (Y 1) (hY 1)]
  rw [finds_2 m c t (Y 2) (hY 2)]
  rw [finds_3 m c t (Y 3) (hY 3)]
  rw [finds_4 m c t (Y 4) (hY 4)]
  rw [finds_5 m c t (Y 5) (hY 5)]
  rw [finds_6 m c t (Y 6) (hY 6)]
  rw [finds_7 m c t (Y 7) (hY 7)]
  rw [show (rdats m c).Φ t.castSucc = PhiV c t.val from rfl, show (rdats m c).Φ t.succ = PhiV c (t.val + 1) from rfl, PhiV_succ,
    show (rdats m c).owesAt () t.succ = (rdats m c).owesAt () t.castSucc from rfl]
  iintro ⟨HP, Ho, H0, H1, H2, H3, H4, H5, H6, H7, H8, H9, H10⟩
  ihave HP := (PhiV_open c t) $$ HP
  icases HP with ⟨%lhs, %rhs, %gs, %ep, %uv, %hz, S0, S1, S2, S3, S4, Hg⟩
  have hL := start_leaves m hpre c t (found m c t (Y 8) (Y 9) (Y 10) lhs rhs gs ep uv) (same_found m c t _ _ _ _ _ _ _ _) hz
  have hT := (same_last _).trans ((same_start _).trans (same_found m c t (Y 8) (Y 9) (Y 10) lhs rhs gs ep uv))
  unfold bodyAt0
  iapply (body_run c Set.univ _ (found m c t (Y 8) (Y 9) (Y 10) lhs rhs gs ep uv) _ _ _ _ _ _ _ _ _ _ _ _ _ _ _ _ _ _ _ _ _ _ _ _ _ _ _ _ _ _ _ _)
  unfold HIn.own
  isplitl [H0 H1 H2 H3 H4 H5 H6 H7 H8 H9 H10 S0 S1 S2 S3 S4]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [S0]; · iexact S0
    isplitl [S1]; · iexact S1
    isplitl [S2]; · iexact S2
    isplitl [S3]; · iexact S3
    iexact S4
  rw [hT.hqs, hT.hvs, hT.hq, hT.hk, hT.hcb, hT.hv, hT.hu, hT.hcnt]
  iintro ⟨H0, H1, H2, H3, H4, H5, H6, H7, H8, H9, H10, S0, S1, S2, S3, S4⟩
  isplitl [S0 S1 S2 S3 S4 Hg]
  · isplitl [S0 S1 S2 S3 S4]
    · isplitl [S0]
      · iexists _; isplitr
        swap; · iexact S0
        ipureintro; exact hL.2.2.2.1
      isplitl [S1]; · iexists _; iexact S1
      isplitl [S2]; · iexists _; iexact S2
      isplitl [S3]
      · iexists _; isplitr
        swap; · iexact S3
        ipureintro; exact hL.2.2.2.2
      iexists _; iexact S4
    iexact Hg
  isplitl [Ho]; · iexact Ho
  isplitl [H0]
  · iexists (iblk m c 0 t); isplitr
    swap; · iexact H0
    ipureintro; exact rafter_0 m c t _
  isplitl [H1]
  · iexists (iblk m c 1 t); isplitr
    swap; · iexact H1
    ipureintro; exact rafter_1 m c t _
  isplitl [H2]
  · iexists (iblk m c 2 t); isplitr
    swap; · iexact H2
    ipureintro; exact rafter_2 m c t _
  isplitl [H3]
  · iexists (iblk m c 3 t); isplitr
    swap; · iexact H3
    ipureintro; exact rafter_3 m c t _
  isplitl [H4]
  · iexists (iblk m c 4 t); isplitr
    swap; · iexact H4
    ipureintro; exact rafter_4 m c t _
  isplitl [H5]
  · iexists (iblk m c 5 t); isplitr
    swap; · iexact H5
    ipureintro; exact rafter_5 m c t _
  isplitl [H6]
  · iexists (iblk m c 6 t); isplitr
    swap; · iexact H6
    ipureintro; exact rafter_6 m c t _
  isplitl [H7]
  · iexists (iblk m c 7 t); isplitr
    swap; · iexact H7
    ipureintro; exact rafter_7 m c t _
  isplitl [H8]
  · iexists _; isplitr
    swap; · iexact H8
    ipureintro; rw [rafter_8]; exact hL.1
  isplitl [H9]
  · iexists _; isplitr
    swap; · iexact H9
    ipureintro; rw [rafter_9]; exact hL.2.1
  iexists _; isplitr
  swap; · iexact H10
  ipureintro; rw [rafter_10]; exact hL.2.2.1

theorem hin (c : Dev nD) : Pipeline.ΦA spec0 c ⊢ (rdats m c).Φ 0 := Idealize.SL.BI.Entails.refl _

theorem hout (c : Dev nD) : (rdats m c).Φ (Fin.last cfg0.N) ⊢ Pipeline.ΦA spec0 c := by
  rw [show (rdats m c).Φ (Fin.last cfg0.N) = PhiV c (14 + 1) from rfl, PhiV_succ, PhiA0_eq]
  iintro ⟨⟨⟨%a, %ha, H0⟩, H1, H2, ⟨%e, %he, H3⟩, H4⟩, Hg⟩
  isplitl [H0 H1 H2 H3 H4]
  · isplitl [H0]; · iexists _; iexact H0
    isplitl [H1]; · iexact H1
    isplitl [H2]; · iexact H2
    isplitl [H3]; · iexists _; iexact H3
    iexact H4
  iexact Hg

set_option backward.isDefEq.respectTransparency.types false in
/-- The run, with the outputs related to what each point leaves. -/
theorem run_main (hpre : ∀ c t, Ok4 (inp m c t) (kcOf (inp m c t))) :
    θ_run defs (onTc (τ := τ) (main (F := Ideal))) (s₀ m ρ) (fun r => RDat.FramePost (cfgs 0) (rdats m) (V m) r) :=
  RDat.θ_run_frame_track cfgs (0 : Fin 1) launch0 defs₀ Variants.none (rdats m) m ρ main
    (body_obligation m hpre) (fun c => (dats m 0 c).share_full fun _ => rfl)
    (fun _ _ => rfl) (V m) (hmain m Variants.none) (A_eq m) (hin m) (hout m) _ (fun _ h => h.1)

end Cert.KernelIdeal.ValRun

end
-- ==== Proof.ArrVal.lean ====
/- What the kernel's windows hold, over the arguments. -/
module

public import proofs.«01_k».proof.Proof.Spec
public import proofs.«01_k».proof.Proof.ValRun
public import Idealize.ShloMosaic.Lib.Pipeline.ValueKit

@[expose] public section

set_option maxRecDepth 16384

noncomputable section

namespace Cert.KernelIdeal.ValRun

open Cert.KernelIdeal.FrameRun Cert.KernelIdeal.Hand Cert.Spec
open Cert.KernelIdeal.Gen hiding iblk V hmain
open Idealize.ShloMosaic Idealize.ShloMosaic.TcCoe Idealize.ShloMosaic.Tactic
open Idealize.SL Idealize.SL.RA Idealize.SL.BI Idealize.SL.Sem
open Idealize.ShloMosaic.Pipeline (Dat RDat Cfg Window)
open Idealize.ShloMosaic.Pointwise

variable (m : (ℓ : Loc nD τ sig) → Buf (Elt Ideal) ℓ)

/-- The kernel's arguments. -/
def kin (c : Dev nD) : In where
  q b s H d := m ((c : Thread nD τ).loc main_arg0) (ix4 b s H d)
  qs b j H := m ((c : Thread nD τ).loc main_arg1) (ix3 b j H)
  k b s H := m ((c : Thread nD τ).loc main_arg2) (ix3 b s H)
  cb H n d := m ((c : Thread nD τ).loc main_arg3) (ix3 H n d)
  v b s H d := m ((c : Thread nD τ).loc main_arg4) (ix4 b s H d)
  vs b j H := m ((c : Thread nD τ).loc main_arg5) (ix3 b j H)
  u b H n d := m ((c : Thread nD τ).loc main_arg6) (ix4 b H n d)
  cnt b H n := m ((c : Thread nD τ).loc main_arg7) (ix3 b H n)

/-- The batch of a grid point. -/
def bt (t : Fin cfg0.N) : Fin 3 := ⟨t.val % 3, Nat.mod_lt _ (by norm_num)⟩
/-- The head at place `h` of a grid point. -/
def hd (t : Fin cfg0.N) (h : Fin 4) : Fin 20 := ⟨4 * (t.val / 3) + h.val, by have := t.isLt; have : cfg0.N = 15 := N_0; omega⟩

theorem co0 : ∀ t : Fin cfg0.N, (grid0.coords t 0).val = t.val / 3 := by decide +kernel
theorem co1 : ∀ t : Fin cfg0.N, (grid0.coords t 1).val = t.val % 3 := by decide +kernel
theorem wi0 : ∀ t : Fin cfg0.N, win0_0.index t = ![0, 0, 0] := by decide +kernel
theorem wi1 : ∀ t : Fin cfg0.N, win0_1.index t = ![0, 0, 0] := by decide +kernel
theorem wi7 : ∀ t : Fin cfg0.N, win0_7.index t = ![0, 0, 0] := by decide +kernel
theorem wi2 : ∀ t : Fin cfg0.N, win0_2.index t = ![t.val % 3, t.val / 3, 0, 0] := by decide +kernel
theorem wi3 : ∀ t : Fin cfg0.N, win0_3.index t = ![t.val % 3, 0, 0] := by decide +kernel
theorem wi4 : ∀ t : Fin cfg0.N, win0_4.index t = ![t.val / 3, 0, 0] := by decide +kernel
theorem wi5 : ∀ t : Fin cfg0.N, win0_5.index t = ![t.val % 3, t.val / 3, 0, 0] := by decide +kernel
theorem wi6 : ∀ t : Fin cfg0.N, win0_6.index t = ![t.val % 3, t.val / 3, 0, 0] := by decide +kernel
theorem wi8 : ∀ t : Fin cfg0.N, win0_8.index t = ![t.val % 3, 0, t.val / 3] := by decide +kernel
theorem wi9 : ∀ t : Fin cfg0.N, win0_9.index t = ![t.val % 3, t.val / 3, 0, 0] := by decide +kernel

theorem V_v0 (c : Dev nD) : V m c main_v0 = transpose S3x20x512x128 [0, 2, 1, 3] (m ((c : Thread nD τ).loc main_arg0)) transposes_S3x512x20x128_S3x20x512x128_0_2_1_3 := rfl
theorem V_v1 (c : Dev nD) : V m c main_v1 = transpose S3x20x512x128 [0, 2, 1, 3] (m ((c : Thread nD τ).loc main_arg4)) transposes_S3x512x20x128_S3x20x512x128_0_2_1_3 := rfl
theorem V_v2 (c : Dev nD) : V m c main_v2 = transpose S3x20x512 [0, 2, 1] (m ((c : Thread nD τ).loc main_arg2)) transposes_S3x512x20_S3x20x512_0_2_1 := rfl

theorem iblk_0 (c : Dev nD) (t : Fin cfg0.N) (b : Fin 3) (j : Fin 2) (H : Fin 20) : iblk m c 0 t (ix3 b j H) = (kin m c).qs b j H := by
  rw [show (kin m c).qs b j H = V m c main_arg1 (ix3 b j H) from (congrFun (FrameRun.V_main_arg1 m c) _).symm]
  blk_ext [iblk, wi0]
theorem iblk_1 (c : Dev nD) (t : Fin cfg0.N) (b : Fin 3) (j : Fin 2) (H : Fin 20) : iblk m c 1 t (ix3 b j H) = (kin m c).vs b j H := by
  rw [show (kin m c).vs b j H = V m c main_arg5 (ix3 b j H) from (congrFun (FrameRun.V_main_arg5 m c) _).symm]
  blk_ext [iblk, wi1]
theorem iblk_2 (c : Dev nD) (t : Fin cfg0.N) (h : Fin 4) (s : Fin 512) (d : Fin 128) :
    iblk m c 2 t (ix4 0 h s d) = (kin m c).q (bt t) s (hd t h) d := by
  refine Eq.trans (b := V m c main_v0 (ix4 (bt t) (hd t h) s d)) ?_ ?_
  · blk_ext [iblk, wi2, bt, hd]
  · rw [V_v0]; unfold kin; pointwise
theorem iblk_3 (c : Dev nD) (t : Fin cfg0.N) (H : Fin 20) (s : Fin 512) :
    iblk m c 3 t (ix3 0 H s) = (kin m c).k (bt t) s H := by
  refine Eq.trans (b := V m c main_v2 (ix3 (bt t) H s)) ?_ ?_
  · blk_ext [iblk, wi3, bt]
  · rw [V_v2]; unfold kin; pointwise
theorem iblk_4 (c : Dev nD) (t : Fin cfg0.N) (h : Fin 4) (n : Fin 768) (d : Fin 128) :
    iblk m c 4 t (ix3 h n d) = (kin m c).cb (hd t h) n d := by
  rw [show (kin m c).cb (hd t h) n d = V m c main_arg3 (ix3 (hd t h) n d) from (congrFun (FrameRun.V_main_arg3 m c) _).symm]
  blk_ext [iblk, wi4, hd]
theorem iblk_5 (c : Dev nD) (t : Fin cfg0.N) (h : Fin 4) (s : Fin 512) (d : Fin 128) :
    iblk m c 5 t (ix4 0 h s d) = (kin m c).v (bt t) s (hd t h) d := by
  refine Eq.trans (b := V m c main_v1 (ix4 (bt t) (hd t h) s d)) ?_ ?_
  · blk_ext [iblk, wi5, bt, hd]
  · rw [V_v1]; unfold kin; pointwise
theorem iblk_6 (c : Dev nD) (t : Fin cfg0.N) (h : Fin 4) (n : Fin 768) (d : Fin 128) :
    iblk m c 6 t (ix4 0 h n d) = (kin m c).u (bt t) (hd t h) n d := by
  rw [show (kin m c).u (bt t) (hd t h) n d = V m c main_arg6 (ix4 (bt t) (hd t h) n d) from (congrFun (FrameRun.V_main_arg6 m c) _).symm]
  blk_ext [iblk, wi6, bt, hd]
theorem iblk_7 (c : Dev nD) (t : Fin cfg0.N) (b : Fin 3) (H : Fin 20) (n : Fin 768) : iblk m c 7 t (ix3 b H n) = (kin m c).cnt b H n := by
  rw [show (kin m c).cnt b H n = V m c main_arg7 (ix3 b H n) from (congrFun (FrameRun.V_main_arg7 m c) _).symm]
  blk_ext [iblk, wi7]

section Point
variable (c : Dev nD) (t : Fin cfg0.N) (h : Fin 4)
theorem hb : (bt t).val = ((inp m c t).i 1).val := (co1 t).symm
theorem hh : (hd t h).val = 4 * (((inp m c t).at h).i 0).val + ((inp m c t).at h).j.val := by
  show 4 * (t.val / 3) + h.val = 4 * (grid0.coords t 0).val + h.val
  rw [co0]

theorem qsT_eq (s : Fin 512) : qsT ((inp m c t).at h) s = (kin m c).qs (bt t) (blkOf s) (hd t h) := by
  unfold qsT blkOf
  split_ifs
  · rw [l9_eq ((inp m c t).at h) (bt t) (hd t h) (hb m c t) (hh m c t h)]; exact iblk_0 m c t _ _ _
  · rw [l12_eq ((inp m c t).at h) (bt t) (hd t h) (hb m c t) (hh m c t h)]; exact iblk_0 m c t _ _ _
theorem vsT_eq (s : Fin 512) : vsT ((inp m c t).at h) s = (kin m c).vs (bt t) (blkOf s) (hd t h) := by
  unfold vsT blkOf
  split_ifs
  · rw [l15_eq ((inp m c t).at h) (bt t) (hd t h) (hb m c t) (hh m c t h)]; exact iblk_1 m c t _ _ _
  · rw [l18_eq ((inp m c t).at h) (bt t) (hd t h) (hb m c t) (hh m c t h)]; exact iblk_1 m c t _ _ _
theorem k_eq (s : Fin 512) : l20 ((inp m c t).at h) (ix3 0 0 s) = (kin m c).k (bt t) s (hd t h) := by
  rw [l20_eq ((inp m c t).at h) (hd t h) (hh m c t h)]; exact iblk_3 m c t _ _
theorem cnt_eq : cn ((inp m c t).at h) = (kin m c).cnt (bt t) (hd t h) := by
  funext n
  rw [cn_eq ((inp m c t).at h) (bt t) (hd t h) (hb m c t) (hh m c t h)]; exact iblk_7 m c t _ _ _
theorem Gs_eq (s : Fin 512) : Gs ((inp m c t).at h) s = (kin m c).g (bt t) (hd t h) s := by
  funext n
  exact Finset.sum_congr rfl fun d _ => congrArg₂ (· * ·) (iblk_4 m c t h n d) (iblk_2 m c t h s d)
theorem kc_eq : kcOf (inp m c t) h = (kin m c).kc (bt t) (hd t h) := by
  funext s; unfold kcOf In.kc; exact Fin.ext (congrArg (·.toNat % 768) (k_eq m c t h s))
theorem vv_eq (s : Fin 512) (d : Fin 128) : (inp m c t).v (ix4 0 h s d) * vsT ((inp m c t).at h) s = (kin m c).vv (bt t) (hd t h) s d :=
  congrArg₂ (· * ·) (iblk_5 m c t h s d) (vsT_eq m c t h s)
theorem u_eq (n : Fin 768) (d : Fin 128) : (inp m c t).u (ix4 0 h n d) = (kin m c).u (bt t) (hd t h) n d := iblk_6 m c t h n d

theorem oSpec_eq (s : Fin 512) (d : Fin 128) : oSpec (inp m c t) (kcOf (inp m c t)) h s d = (kin m c).O (bt t) (hd t h) s d := by
  unfold oSpec In.O In.sc
  rw [qsT_eq, cnt_eq, Gs_eq, kc_eq]
  exact congrArg (attn _ _) (congrArg₂ valueRow (funext fun n => u_eq m c t h n d) (funext fun s => vv_eq m c t h s d))
theorem uSpec_eq (n : Fin 768) (d : Fin 128) : uSpec (inp m c t) h n d = (kin m c).U (bt t) (hd t h) n d := by
  unfold uSpec In.U In.hot
  refine congrArg₂ (· + ·) (u_eq m c t h n d) (Finset.sum_congr rfl fun s _ => congrArg₂ (· * ·) (vv_eq m c t h s d) ?_)
  rw [k_eq]
theorem cSpec_eq (n : Fin 768) : cSpec (inp m c t) h n = (kin m c).C (bt t) (hd t h) n := by
  unfold cSpec In.C In.hot
  simp only [k_eq, cnt_eq]
end Point

theorem ok4 (c : Dev nD) (t : Fin cfg0.N) (hA : (kin m c).Ok) : Ok4 (inp m c t) (kcOf (inp m c t)) where
  hq h s := by rw [qsT_eq]; exact hA.hqs _ _ _
  hk h s := by rw [k_eq, kc_eq]; exact hA.hk _ _ _
  hc h n := by rw [cnt_eq]; exact hA.hc _ _ _
  hlhs _ _ _ _ := rfl
  hep _ _ _ := rfl

end Cert.KernelIdeal.ValRun

end
-- ==== Proof.ArrPost.lean ====
/- What the kernel's three result arrays hold when it has run. -/
module

public import proofs.«01_k».proof.Proof.ArrVal

@[expose] public section

set_option maxRecDepth 16384

noncomputable section

namespace Cert.KernelIdeal.ValRun

open Cert.KernelIdeal.FrameRun Cert.KernelIdeal.Hand Cert.Spec
open Cert.KernelIdeal.Gen hiding iblk V hmain
open Idealize.ShloMosaic Idealize.ShloMosaic.TcCoe Idealize.ShloMosaic.Tactic
open Idealize.SL Idealize.SL.RA Idealize.SL.BI Idealize.SL.Sem
open Idealize.ShloMosaic.Pipeline (Dat RDat Cfg Window)
open Idealize.ShloMosaic.Pointwise

variable (m : (ℓ : Loc nD τ sig) → Buf (Elt Ideal) ℓ)

theorem leaves_8 (c : Dev nD) (t : Fin cfg0.N) (X) (h : (rdats m c).Leaves 8 t X) : R8 m c t X := by
  obtain ⟨Y, _, hX⟩ := h
  rw [rafter_8] at hX; exact hX
theorem leaves_9 (c : Dev nD) (t : Fin cfg0.N) (X) (h : (rdats m c).Leaves 9 t X) : R9 m c t X := by
  obtain ⟨Y, _, hX⟩ := h
  rw [rafter_9] at hX; exact hX

theorem cover_8 : (cfg0.win 8).Covers := by decide +kernel
theorem cover_9 : (cfg0.win 9).Covers := by decide +kernel

theorem bt_hd (t : Fin cfg0.N) (b : Fin 3) (H : Fin 20) (h : Fin 4) (e0 : t.val % 3 = b.val) (e1 : 4 * (t.val / 3) + h.val = H.val) : bt t = b ∧ hd t h = H :=
  ⟨Fin.ext e0, Fin.ext e1⟩

/-- The attention output. -/
theorem res_0 (r) (h : RDat.FramePost (cfgs 0) (rdats m) (V m) r) (c : Dev nD) (b : Fin 3) (H : Fin 20) (s : Fin 512) (d : Fin 128) :
    r.2.mem ((c : Thread nD τ).loc main_v3_0) (ix3 b s ⟨128 * H.val + d.val, by omega⟩) = (kin m c).O b H s d := by
  obtain ⟨after, hL, hA⟩ := h.exists_exact c
  refine (congrFun (hA 8) _).trans ?_
  refine ((rdats m c).withAfter after).arrAt_forall_of_covers 8
    (fun i v => ∀ (b : Fin 3) (H : Fin 20) (s : Fin 512) (d : Fin 128), i = ix3 b s ⟨128 * H.val + d.val, by omega⟩ → v = (kin m c).O b H s d) cover_8 ?_ (ix3 b s ⟨128 * H.val + d.val, by omega⟩) (Memref.isWhole_whole _) b H s d rfl
  intro t hf y b H s d hi
  have hX := leaves_8 m c t _ (hL 8 t hf)
  have e0 := congrArg Fin.val (congrFun hi 0)
  have e1 := congrArg Fin.val (congrFun hi 1)
  have e2 := congrArg Fin.val (congrFun hi 2)
  blk_simp [wi8] at e0 e1 e2
  blk_simp
  rw [RDat.withAfter_after]
  dsimp only at e2
  obtain ⟨hb, hh⟩ := bt_hd t b H ⟨H.val % 4, Nat.mod_lt _ (by norm_num)⟩ e0 (by show 4 * (t.val / 3) + H.val % 4 = H.val; have : (y 2).val < 512 := (y 2).isLt; omega)
  refine Eq.trans (congrArg (after 8 t) (funext fun a => Fin.ext ?_)) ((hX ⟨H.val % 4, Nat.mod_lt _ (by norm_num)⟩ s d).trans ((oSpec_eq m c t _ s d).trans (by rw [hb, hh])))
  match a with
  | 0 => have : (y 0).val < 1 := (y 0).isLt; show (y 0).val = 0; omega
  | 1 => exact e1
  | 2 => have : (y 2).val < 512 := (y 2).isLt; show (y 2).val = 128 * (H.val % 4) + d.val; omega

/-- The value sums. -/
theorem res_1 (r) (h : RDat.FramePost (cfgs 0) (rdats m) (V m) r) (c : Dev nD) (b : Fin 3) (H : Fin 20) (n : Fin 768) (d : Fin 128) :
    r.2.mem ((c : Thread nD τ).loc main_v3_1) (ix4 b H n d) = (kin m c).U b H n d := by
  obtain ⟨after, hL, hA⟩ := h.exists_exact c
  refine (congrFun (hA 9) _).trans ?_
  refine ((rdats m c).withAfter after).arrAt_forall_of_covers 9
    (fun i v => ∀ (b : Fin 3) (H : Fin 20) (n : Fin 768) (d : Fin 128), i = ix4 b H n d → v = (kin m c).U b H n d) cover_9 ?_ (ix4 b H n d) (Memref.isWhole_whole _) b H n d rfl
  intro t hf y b H n d hi
  have hX := leaves_9 m c t _ (hL 9 t hf)
  have e0 := congrArg Fin.val (congrFun hi 0)
  have e1 := congrArg Fin.val (congrFun hi 1)
  have e2 := congrArg Fin.val (congrFun hi 2)
  have e3 := congrArg Fin.val (congrFun hi 3)
  blk_simp [wi9] at e0 e1 e2 e3
  blk_simp
  rw [RDat.withAfter_after]
  obtain ⟨hb, hh⟩ := bt_hd t b H ⟨H.val % 4, Nat.mod_lt _ (by norm_num)⟩ e0 (by show 4 * (t.val / 3) + H.val % 4 = H.val; have : (y 1).val < 4 := (y 1).isLt; omega)
  refine Eq.trans (congrArg (after 9 t) (funext fun a => Fin.ext ?_)) ((hX ⟨H.val % 4, Nat.mod_lt _ (by norm_num)⟩ n d).trans ((uSpec_eq m c t _ n d).trans (by rw [hb, hh])))
  match a with
  | 0 => have : (y 0).val < 1 := (y 0).isLt; show (y 0).val = 0; omega
  | 1 => have : (y 1).val < 4 := (y 1).isLt; show (y 1).val = H.val % 4; omega
  | 2 => exact e2
  | 3 => exact e3

/-- The counts the points up to `t` own. -/
def Cnt (c : Dev nD) (t : ℕ) (X : Vec Ideal S3x20x768 .f32) : Prop :=
  ∀ (b : Fin 3) (H : Fin 20) (n : Fin 768), 3 * (H.val / 4) + b.val ≤ t → X (ix3 b H n) = (kin m c).C b H n

theorem cnt_step (c : Dev nD) (t : Fin cfg0.N) (Y X) (hY : ∀ b : Fin 3, ∀ H : Fin 20, ∀ n : Fin 768, 3 * (H.val / 4) + b.val < t.val → Y (ix3 b H n) = (kin m c).C b H n)
    (h : R10 m c t Y X) : Cnt m c t.val X := by
  intro b H n ht
  by_cases he : 3 * (H.val / 4) + b.val = t.val
  · refine (h.1 ⟨H.val % 4, Nat.mod_lt _ (by norm_num)⟩ b H n ?_ ?_).trans ((cSpec_eq m c t _ n).trans ?_)
    · rw [co1]; omega
    · rw [co0]; show H.val = 4 * (t.val / 3) + H.val % 4; omega
    · obtain ⟨hb, hh⟩ := bt_hd t b H ⟨H.val % 4, Nat.mod_lt _ (by norm_num)⟩ (by omega) (by show 4 * (t.val / 3) + H.val % 4 = H.val; omega)
      rw [hb, hh]
  · refine (h.2 b H n fun h => ?_).trans (hY b H n (by omega))
    rw [co0, co1]; omega

theorem cnt_leaves (c : Dev nD) : ∀ (k : ℕ) (hk : k < cfg0.N) (X), (rdats m c).Leaves 10 ⟨k, hk⟩ X → Cnt m c k X
  | 0, hk, X, ⟨Y, _, hX⟩ => by
    rw [rafter_10] at hX
    exact cnt_step m c ⟨0, hk⟩ Y X (fun b H n h => absurd h (Nat.not_lt_zero _)) hX
  | k + 1, hk, X, ⟨Y, hY, hX⟩ => by
    rw [rafter_10] at hX
    rw [RDat.finds_of_pos _ (by rfl) (Nat.succ_ne_zero k)] at hY
    rcases hY with hY | hY
    · have hN : cfg0.N = 15 := N_0
      have := (flush0_10 _).mp hY
      simp only [Nat.add_sub_cancel] at this
      omega
    · exact cnt_step m c ⟨k + 1, hk⟩ Y X (fun b H n h => cnt_leaves c k (by omega) Y hY b H n (Nat.lt_succ_iff.mp h)) hX

/-- The counts. -/
theorem res_2 (r) (h : RDat.FramePost (cfgs 0) (rdats m) (V m) r) (c : Dev nD) (b : Fin 3) (H : Fin 20) (n : Fin 768) :
    r.2.mem ((c : Thread nD τ).loc main_v3_2) (ix3 b H n) = (kin m c).C b H n := by
  obtain ⟨X, hX, e⟩ := ((h c).1 10).emb_eq_of_wholeAt (t₀ := ⟨14, by decide⟩) (by decide +kernel)
  exact (e (ix3 b H n)).trans (cnt_leaves m c 14 (by decide) X hX b H n (by omega))

end Cert.KernelIdeal.ValRun

end
-- ==== Proof.PreOk.lean ====
/- What the precondition says about the kernel's arguments. -/
module

public import proofs.«01_k».proof.Defs
public import proofs.«01_k».proof.Proof.ArrVal
public import Idealize.ShloMosaic.Lib.Pointwise
public import Idealize.ShloMosaic.Lib.WordCmp

@[expose] public section

set_option maxRecDepth 16384

noncomputable section

namespace Cert.Pre_scales_codes_counts

open Idealize.ShloMosaic Idealize.ShloMosaic.TcCoe Idealize.SL.Sem Idealize.ShloMosaic.Pointwise

/-- The shapes the precondition spreads its bounds over. -/
theorem facts : Facts where
  bcast_S_S3x2x20 := by decide
  bcast_S_S3x512x20 := by decide
  bcast_S_S3x20x768 := by decide

theorem posInf : Ideal.ofBits .f32 0x7F800000#32 = ⊤ := by simp [Ideal.ofBits, Ideal.ieee]

section
variable [Facts]

theorem part1_eq (a b c d e f g h) (j : S3x2x20.Idx) : (fn (F := Ideal) a b c d e f g h).1 j
    = IntOp.andi (IntOp.andi (IntOp.andi (FloatOps.cmpf .ogt (b j) (Ideal.ofBits .f32 0#32)) (FloatOps.cmpf .olt (b j) (Ideal.ofBits .f32 0x7F800000#32))) (FloatOps.cmpf .oge (f j) (Ideal.ofBits .f32 0#32))) (FloatOps.cmpf .olt (f j) (Ideal.ofBits .f32 0x7F800000#32)) := rfl
theorem part2_eq (a b c d e f g h) (j : S3x512x20.Idx) : (fn (F := Ideal) a b c d e f g h).2.1 j
    = IntOp.andi (IntOp.cmpi .sge (c j) 0#32) (IntOp.cmpi .slt (c j) 768#32) := rfl
theorem part3_eq (a b c d e f g h) (j : S3x20x768.Idx) : (fn (F := Ideal) a b c d e f g h).2.2 j
    = FloatOps.cmpf .olt (h j) (Ideal.ofBits .f32 0x7F800000#32) := rfl
end

theorem and_one (x y : BitVec 1) : IntOp.andi x y = 1#1 ↔ x = 1#1 ∧ y = 1#1 := by
  revert x y; decide
theorem olt_one (x y : EReal) : FloatOps.cmpf (F := Ideal) (φ := .f32) .olt x y = 1#1 ↔ x < y := by
  show BitVec.ofBool (decide (x < y)) = 1#1 ↔ _
  by_cases h : x < y <;> simp [h]
theorem ogt_one (x y : EReal) : FloatOps.cmpf (F := Ideal) (φ := .f32) .ogt x y = 1#1 ↔ y < x := by
  show BitVec.ofBool (decide (x > y)) = 1#1 ↔ _
  by_cases h : y < x <;> simp [h]
theorem oge_one (x y : EReal) : FloatOps.cmpf (F := Ideal) (φ := .f32) .oge x y = 1#1 ↔ y ≤ x := by
  show BitVec.ofBool (decide (x ≥ y)) = 1#1 ↔ _
  by_cases h : y ≤ x <;> simp [h]
theorem code_lt (x : BitVec 32) (h0 : IntOp.cmpi .sge x 0#32 = 1#1) (h1 : IntOp.cmpi .slt x 768#32 = 1#1) : x.toNat < 768 := by
  have a : (0#32).sle x = true := by
    by_contra h
    have h' : (0#32).sle x = false := by simpa using h
    have e : BitVec.ofBool ((0#32).sle x) = 1#1 := h0
    rw [h'] at e; exact absurd e (by decide)
  have b : x.slt 768#32 = true := by
    by_contra h
    have h' : x.slt 768#32 = false := by simpa using h
    have e : BitVec.ofBool (x.slt 768#32) = 1#1 := h1
    rw [h'] at e; exact absurd e (by decide)
  have a' : 0 ≤ x.toInt := by simpa [BitVec.sle_iff_toInt_le] using a
  have b' : x.toInt < 768 := by simpa [BitVec.slt_iff_toInt_lt] using b
  rw [BitVec.toInt_eq_toNat_cond] at a' b'
  split_ifs at a' b' <;> omega

variable (m : (ℓ : Loc Cert.KernelIdeal.nD Cert.KernelIdeal.τ Cert.KernelIdeal.sig) → Buf (Elt Ideal) ℓ)

theorem ok (hP : Cert.Pre_KernelIdeal_scales_codes_counts (hPre_scales_codes_counts := facts) m) (c : Dev Cert.KernelIdeal.nD) : (Cert.KernelIdeal.ValRun.kin m c).Ok := by
  letI := facts
  obtain ⟨p1, p2, p3⟩ := hP c
  have q1 : ∀ j : S3x2x20.Idx, _ := fun j => (part1_eq _ _ _ _ _ _ _ _ j).symm.trans (congrFun p1 j)
  have q2 : ∀ j : S3x512x20.Idx, _ := fun j => (part2_eq _ _ _ _ _ _ _ _ j).symm.trans (congrFun p2 j)
  have q3 : ∀ j : S3x20x768.Idx, _ := fun j => (part3_eq _ _ _ _ _ _ _ _ j).symm.trans (congrFun p3 j)
  simp only [and_one, olt_one, ogt_one, oge_one, posInf, Ideal.ofBits_zero_f32] at q1 q2 q3
  refine ⟨fun b j H => ?_, fun b j H => ?_, fun b H s => ?_, fun b H n => q3 (ix3 b H n)⟩
  · obtain ⟨⟨⟨h0, h1⟩, h2⟩, h3⟩ := q1 (ix3 b j H)
    obtain ⟨r, hr⟩ : ∃ r : ℝ, (Cert.KernelIdeal.ValRun.kin m c).qs b j H = (r : EReal) :=
      ⟨_, (EReal.coe_toReal (ne_of_lt h1) (ne_of_gt (lt_trans EReal.bot_lt_zero h0))).symm⟩
    refine ⟨r, ?_, hr⟩
    have h0' : (0 : EReal) < (Cert.KernelIdeal.ValRun.kin m c).qs b j H := h0
    rw [hr] at h0'; exact_mod_cast h0'
  · obtain ⟨⟨⟨h0, h1⟩, h2⟩, h3⟩ := q1 (ix3 b j H)
    obtain ⟨r, hr⟩ : ∃ r : ℝ, (Cert.KernelIdeal.ValRun.kin m c).vs b j H = (r : EReal) :=
      ⟨_, (EReal.coe_toReal (ne_of_lt h3) (ne_of_gt (lt_of_lt_of_le EReal.bot_lt_zero h2))).symm⟩
    refine ⟨r, ?_, hr⟩
    have h0' : (0 : EReal) ≤ (Cert.KernelIdeal.ValRun.kin m c).vs b j H := h2
    rw [hr] at h0'; exact_mod_cast h0'
  · have hk : ((Cert.KernelIdeal.ValRun.kin m c).k b s H).toNat < 768 := code_lt _ (q2 (ix3 b s H)).1 (q2 (ix3 b s H)).2
    unfold Cert.Spec.In.kc
    apply BitVec.eq_of_toNat_eq
    rw [BitVec.toNat_ofNat]
    show _ = (((Cert.KernelIdeal.ValRun.kin m c).k b s H).toNat % 768) % 2 ^ 32
    omega

end Cert.Pre_scales_codes_counts

end
-- ==== Proof.RefMath.lean ====
/- The attention of one query, its rows split into the codes, the tokens of the first block and those of the second. -/
module

public import proofs.«01_k».proof.Proof.Spec

@[expose] public section

noncomputable section

namespace Cert.Spec

open Idealize.ShloMosaic Cert.KernelIdeal.Hand

/-- A token of the first block. -/
def lo (t : Fin 384) : Fin 512 := ⟨t.val, by omega⟩
/-- A token of the second block. -/
def hi (t : Fin 128) : Fin 512 := ⟨384 + t.val, by omega⟩
theorem blk_lo (t : Fin 384) : blkOf (lo t) = 0 := if_pos t.isLt
theorem blk_hi (t : Fin 128) : blkOf (hi t) = 1 := if_neg (by show ¬ 384 + t.val < 384; omega)

/-! ### Sums and suprema split -/

theorem sum_rows_split (f : Fin 1280 → EReal) :
    ∑ j, f j = (∑ n : Fin 768, f ⟨n.val, by omega⟩) + ∑ s : Fin 512, f ⟨768 + s.val, by omega⟩ :=
  Fin.sum_univ_add (a := 768) (b := 512) f
theorem sum_toks_split (f : Fin 512 → EReal) :
    ∑ s, f s = (∑ s : Fin 384, f (lo s)) + ∑ s : Fin 128, f (hi s) :=
  Fin.sum_univ_add (a := 384) (b := 128) f
theorem sup_rows_split (f : Fin 1280 → EReal) :
    Finset.univ.sup f = max (Finset.univ.sup fun n : Fin 768 => f ⟨n.val, by omega⟩) (Finset.univ.sup fun s : Fin 512 => f ⟨768 + s.val, by omega⟩) := by
  apply le_antisymm
  · refine Finset.sup_le fun r _ => ?_
    by_cases h : r.val < 768
    · exact le_max_of_le_left (Finset.le_sup (f := fun n : Fin 768 => f ⟨n.val, by omega⟩) (Finset.mem_univ ⟨r.val, h⟩))
    · have := Finset.le_sup (f := fun s : Fin 512 => f ⟨768 + s.val, by omega⟩) (Finset.mem_univ ⟨r.val - 768, by omega⟩)
      refine le_max_of_le_right (le_trans (le_of_eq ?_) this)
      exact congrArg f (Fin.ext (by show r.val = 768 + (r.val - 768); omega))
  · exact max_le (Finset.sup_le fun n _ => Finset.le_sup (Finset.mem_univ _)) (Finset.sup_le fun n _ => Finset.le_sup (Finset.mem_univ _))
theorem sup_toks_split (f : Fin 512 → EReal) :
    Finset.univ.sup f = max (Finset.univ.sup fun s : Fin 384 => f (lo s)) (Finset.univ.sup fun s : Fin 128 => f (hi s)) := by
  apply le_antisymm
  · refine Finset.sup_le fun r _ => ?_
    by_cases h : r.val < 384
    · exact le_max_of_le_left (Finset.le_sup (f := fun n : Fin 384 => f (lo n)) (Finset.mem_univ (⟨r.val, h⟩ : Fin 384)))
    · have := Finset.le_sup (f := fun s : Fin 128 => f (hi s)) (Finset.mem_univ ⟨r.val - 384, by omega⟩)
      refine le_max_of_le_right (le_trans (le_of_eq ?_) this)
      exact congrArg f (Fin.ext (by show r.val = 384 + (r.val - 384); omega))
  · exact max_le (Finset.sup_le fun n _ => Finset.le_sup (Finset.mem_univ _)) (Finset.sup_le fun n _ => Finset.le_sup (Finset.mem_univ _))

/-! ### One query -/

variable (A : In) (b : Fin 3) (H : Fin 20) (t : Fin 512)

/-- The score of a token. -/
def In.sTok (s : Fin 512) : EReal := if s.val ≤ t.val then A.g b H t (A.kc b H s) * A.sc b H t else ⊥
/-- The score of a code. -/
def In.sCode (n : Fin 768) : EReal := if 0 < A.cnt b H n then A.g b H t n * A.sc b H t else ⊥
/-- The largest score. -/
def In.M : EReal := max (Finset.univ.sup (A.sCode b H t)) (Finset.univ.sup (A.sTok b H t))
/-- The exponential of a token's score. -/
def In.eTok (s : Fin 512) : EReal := Ideal.exp (A.sTok b H t s - A.M b H t)
/-- The exponential of a code's score. -/
def In.eCode (n : Fin 768) : EReal := Ideal.exp (A.sCode b H t n - A.M b H t)
/-- The sum of the weights. -/
def In.den : EReal := (∑ s, A.eTok b H t s) + ∑ n, A.eCode b H t n * A.cnt b H n
/-- What the weights are divided by. -/
def In.D : EReal := if 0 < A.den b H t then A.den b H t else 1

theorem row_code (n : Fin 768) : scoreRow (A.g b H t) (A.cnt b H) (A.kc b H) (A.sc b H t) t ⟨n.val, by omega⟩ = A.sCode b H t n := by
  unfold scoreRow In.sCode
  rw [dif_pos n.isLt]
theorem row_tok (s : Fin 512) : scoreRow (A.g b H t) (A.cnt b H) (A.kc b H) (A.sc b H t) t ⟨768 + s.val, by omega⟩ = A.sTok b H t s := by
  unfold scoreRow In.sTok
  rw [dif_neg (by show ¬ 768 + s.val < 768; omega)]
  have : ∀ h, (⟨768 + s.val - 768, h⟩ : Fin 512) = s := fun h => Fin.ext (by show 768 + s.val - 768 = s.val; omega)
  simp only [this]
  rw [show 768 + s.val - 768 = s.val by omega]
theorem cnt_tok (s : Fin 512) : countRow (A.cnt b H) ⟨768 + s.val, by omega⟩ = 1 := dif_neg (by show ¬ 768 + s.val < 768; omega)
theorem cnt_code (n : Fin 768) : countRow (A.cnt b H) ⟨n.val, by omega⟩ = A.cnt b H n := dif_pos n.isLt
theorem val_code (u : Fin 768 → EReal) (v : Fin 512 → EReal) (n : Fin 768) : valueRow u v ⟨n.val, by omega⟩ = u n := dif_pos n.isLt
theorem val_tok (u : Fin 768 → EReal) (v : Fin 512 → EReal) (s : Fin 512) : valueRow u v ⟨768 + s.val, by omega⟩ = v s := by
  unfold valueRow
  rw [dif_neg (by show ¬ 768 + s.val < 768; omega)]
  exact congrArg v (Fin.ext (by show 768 + s.val - 768 = s.val; omega))

theorem sup_row : Finset.univ.sup (scoreRow (A.g b H t) (A.cnt b H) (A.kc b H) (A.sc b H t) t) = A.M b H t := by
  rw [sup_rows_split]
  simp only [row_code, row_tok]
  rfl

/-- The attention output, its rows split. -/
theorem O_eq (d : Fin 128) : A.O b H t d
    = (∑ n, Ideal.div (A.eCode b H t n) (A.D b H t) * A.u b H n d) + ∑ s, Ideal.div (A.eTok b H t s) (A.D b H t) * A.vv b H s d := by
  unfold In.O attn
  dsimp only
  simp only [sup_row, sum_rows_split, row_code, row_tok, cnt_tok, cnt_code, val_code, val_tok, mul_one]
  rw [add_comm (∑ n : Fin 768, Ideal.exp (A.sCode b H t n - A.M b H t) * A.cnt b H n)]
  rfl

theorem sTok_late (s : Fin 512) (h : t.val < s.val) : A.sTok b H t s = ⊥ := if_neg (by omega)
theorem eTok_late (s : Fin 512) (h : t.val < s.val) : A.eTok b H t s = 0 := by
  unfold In.eTok
  rw [sTok_late A b H t s h, sub_eq_add_neg, EReal.bot_add]; rfl

theorem D_pos : A.D b H t ≠ 0 := by
  unfold In.D
  split_ifs with h
  · exact h.ne'
  · exact one_ne_zero
theorem div_zero_left (x : EReal) (h : x ≠ 0) : Ideal.div 0 x = 0 := by
  unfold Ideal.div
  rw [if_neg h, zero_mul]

/-! ### A query of the first block -/

section Lo
variable (t : Fin 384)
theorem late (s : Fin 128) : (lo t).val < (hi s).val := by show t.val < 384 + s.val; omega
theorem M_lo : max (Finset.univ.sup fun s : Fin 384 => A.sTok b H (lo t) (lo s)) (Finset.univ.sup fun n => A.sCode b H (lo t) n) = A.M b H (lo t) := by
  unfold In.M
  rw [sup_toks_split, show (Finset.univ.sup fun s : Fin 128 => A.sTok b H (lo t) (hi s)) = ⊥ from by
    simp only [sTok_late A b H (lo t) _ (late t _)]; exact Finset.sup_bot _, max_bot_right, max_comm]
theorem den_lo : (∑ s : Fin 384, A.eTok b H (lo t) (lo s)) + ∑ n, A.eCode b H (lo t) n * A.cnt b H n = A.den b H (lo t) := by
  unfold In.den
  rw [sum_toks_split, show (∑ s : Fin 128, A.eTok b H (lo t) (hi s)) = 0 from
    Finset.sum_eq_zero fun s _ => eTok_late A b H (lo t) _ (late t s), add_zero]
end Lo

/-! ### A query of the second block -/

theorem M_hi : max (max (Finset.univ.sup fun s : Fin 128 => A.sTok b H t (hi s)) (Finset.univ.sup fun n => A.sCode b H t n))
    (Finset.univ.sup fun s : Fin 384 => A.sTok b H t (lo s)) = A.M b H t := by
  unfold In.M
  rw [sup_toks_split, max_comm, ← max_assoc, max_comm]
theorem den_hi : ((∑ s : Fin 128, A.eTok b H t (hi s)) + ∑ n, A.eCode b H t n * A.cnt b H n) + ∑ s : Fin 384, A.eTok b H t (lo s) = A.den b H t := by
  unfold In.den
  rw [sum_toks_split, add_comm, ← add_assoc]

/-! ### The values' scale comes out of the sums -/

variable {A} (hA : A.Ok)
include hA

theorem tok_lo (p : Fin 384 → EReal) (d : Fin 128) : (∑ s, A.v b (lo s) H d * p s) * A.vs b 0 H = ∑ s, p s * A.vv b H (lo s) d := by
  obtain ⟨r, h0, hr⟩ := hA.hvs b 0 H
  rw [hr, sum_mul_coe _ _ _ h0]
  refine Finset.sum_congr rfl fun s _ => ?_
  unfold In.vv
  rw [blk_lo, hr, mul_comm (A.v b (lo s) H d), mul_assoc]
theorem tok_hi (p : Fin 128 → EReal) (d : Fin 128) : (∑ s, A.v b (hi s) H d * p s) * A.vs b 1 H = ∑ s, p s * A.vv b H (hi s) d := by
  obtain ⟨r, h0, hr⟩ := hA.hvs b 1 H
  rw [hr, sum_mul_coe _ _ _ h0]
  refine Finset.sum_congr rfl fun s _ => ?_
  unfold In.vv
  rw [blk_hi, hr, mul_comm (A.v b (hi s) H d), mul_assoc]

theorem O_lo (t : Fin 384) (d : Fin 128) :
    (∑ s : Fin 384, A.v b (lo s) H d * Ideal.div (A.eTok b H (lo t) (lo s)) (A.D b H (lo t))) * A.vs b 0 H
      + ∑ n, A.u b H n d * Ideal.div (A.eCode b H (lo t) n) (A.D b H (lo t)) = A.O b H (lo t) d := by
  rw [tok_lo b H hA, O_eq, sum_toks_split, show (∑ s : Fin 128, Ideal.div (A.eTok b H (lo t) (hi s)) (A.D b H (lo t)) * A.vv b H (hi s) d) = 0 from
    Finset.sum_eq_zero fun s _ => by rw [eTok_late A b H (lo t) _ (late t s), div_zero_left _ (D_pos A b H (lo t)), zero_mul], add_zero, add_comm]
  exact congrArg (· + _) (Finset.sum_congr rfl fun n _ => mul_comm _ _)
theorem O_hi (t : Fin 512) (d : Fin 128) :
    ((∑ s : Fin 128, A.v b (hi s) H d * Ideal.div (A.eTok b H t (hi s)) (A.D b H t)) * A.vs b 1 H
      + ∑ n, A.u b H n d * Ideal.div (A.eCode b H t n) (A.D b H t))
      + (∑ s : Fin 384, A.v b (lo s) H d * Ideal.div (A.eTok b H t (lo s)) (A.D b H t)) * A.vs b 0 H = A.O b H t d := by
  rw [tok_lo b H hA, tok_hi b H hA, O_eq, sum_toks_split]
  rw [show (∑ n, A.u b H n d * Ideal.div (A.eCode b H t n) (A.D b H t)) = ∑ n, Ideal.div (A.eCode b H t n) (A.D b H t) * A.u b H n d from
    Finset.sum_congr rfl fun n _ => mul_comm _ _]
  abel

/-- The value sums, block by block. -/
theorem U_eq (n : Fin 768) (d : Fin 128) :
    (A.u b H n d + (∑ s : Fin 384, A.v b (lo s) H d * A.hot b H (lo s) n) * A.vs b 0 H)
      + (∑ s : Fin 128, A.v b (hi s) H d * A.hot b H (hi s) n) * A.vs b 1 H = A.U b H n d := by
  unfold In.U
  rw [tok_lo b H hA, tok_hi b H hA, sum_toks_split, add_assoc]
  simp only [mul_comm]
omit hA in
/-- The counts, block by block. -/
theorem C_eq (n : Fin 768) :
    (A.cnt b H n + ∑ s : Fin 384, A.hot b H (lo s) n) + ∑ s : Fin 128, A.hot b H (hi s) n = A.C b H n := by
  unfold In.C
  rw [sum_toks_split, add_assoc]

end Cert.Spec

end
-- ==== Proof.RefTake.lean ====
/- Taking the scores at the tokens' codes: what `take_along_axis` reads, for a code that names a row of the codebook. -/
module

public import proofs.«01_k».proof.Proof.Math

@[expose] public section

noncomputable section

namespace Cert.RefTake

open Idealize.ShloMosaic Idealize.ShloMosaic.Pointwise

theorem mem0 : (0 : Fin 4) ∈ [(0 : Fin 4), 1, 2] := by decide
theorem mem1 : (1 : Fin 4) ∈ [(0 : Fin 4), 1, 2] := by decide
theorem mem2 : (2 : Fin 4) ∈ [(0 : Fin 4), 1, 2] := by decide

section Along
variable {α : Type}

/-- The dimension numbers of a gather along the last of four axes, the other three batching. -/
abbrev alongDims (A B T N S : ℕ)
    (wf : GatherDims.WF ⟨4, ![A, B, T, N]⟩ ⟨5, ![A, B, T, S, 1]⟩ ⟨4, ![A, B, T, S]⟩ [] [3] [0, 1, 2] [3] [0, 1, 2] 4 ![1, 1, 1, 1]) :
    GatherDims ⟨4, ![A, B, T, N]⟩ ⟨5, ![A, B, T, S, 1]⟩ ⟨4, ![A, B, T, S]⟩ where
  offsetDims := []
  collapsedSliceDims := [3]
  operandBatchingDims := [0, 1, 2]
  startIndicesBatchingDims := [0, 1, 2]
  startIndexMap := [3]
  indexVectorDim := 4
  sliceSizes := ![1, 1, 1, 1]
  wf := wf

/-- That gather at an index: the operand at the start index, clamped. -/
theorem gather_along {A B T N S w : ℕ} (hN : 0 < N)
    (wf : GatherDims.WF ⟨4, ![A, B, T, N]⟩ ⟨5, ![A, B, T, S, 1]⟩ ⟨4, ![A, B, T, S]⟩ [] [3] [0, 1, 2] [3] [0, 1, 2] 4 ![1, 1, 1, 1])
    (x : (⟨4, ![A, B, T, N]⟩ : Shape).Idx → α) (idx : IVec ⟨5, ![A, B, T, S, 1]⟩ w) (a : Fin A) (b : Fin B) (t : Fin T) (s : Fin S) :
    Host.gather (alongDims A B T N S wf) x idx (ix4 a b t s)
      = x (ix4 a b t ⟨min (idx (ix5 a b t s 0)).toInt.toNat (N - 1), by omega⟩) := by
  unfold Host.gather
  congr 1
  funext i
  refine Fin.ext ?_
  show (alongDims A B T N S wf).start (ix4 a b t s) idx i + (alongDims A B T N S wf).batchCoord (ix4 a b t s) i
      + (alongDims A B T N S wf).offCoord (ix4 a b t s) i = _
  have hi : i = 3 ∨ i = 0 ∨ i = 1 ∨ i = 2 := by
    match i with
    | ⟨0, _⟩ => exact Or.inr (Or.inl rfl)
    | ⟨1, _⟩ => exact Or.inr (Or.inr (Or.inl rfl))
    | ⟨2, _⟩ => exact Or.inr (Or.inr (Or.inr rfl))
    | ⟨3, _⟩ => exact Or.inl rfl
  rcases hi with rfl | rfl | rfl | rfl
  ·
    rw [GatherDims.batchCoord_eq_zero _ _ _ (show (3 : Fin 4) ∉ [0, 1, 2] by decide),
      GatherDims.offCoord_eq_zero _ _ _ (fun h => ((GatherDims.mem_sKept _ _).mp h).1 (List.mem_singleton.mpr rfl))]
    simp only [Nat.add_zero]
    unfold GatherDims.start
    rw [dif_pos (show (3 : Fin 4) ∈ (alongDims A B T N S wf).startIndexMap from List.mem_singleton.mpr rfl)]
    have hsi : (alongDims A B T N S wf).siIdx (ix4 a b t s) ⟨List.idxOf (3 : Fin 4) (alongDims A B T N S wf).startIndexMap,
        List.idxOf_lt_length_iff.2 (List.mem_singleton.mpr rfl)⟩ = ix5 a b t s 0 := by
      funext c; refine Fin.ext ?_
      match c with
      | ⟨0, _⟩ => rfl
      | ⟨1, _⟩ => rfl
      | ⟨2, _⟩ => rfl
      | ⟨3, _⟩ => rfl
      | ⟨4, _⟩ => rfl
    exact congrArg (fun z => min (idx z).toInt.toNat (N - 1)) hsi
  · rw [GatherDims.start_batching _ _ _ _ mem0,
      GatherDims.offCoord_eq_zero _ _ _ (fun h => ((GatherDims.mem_sKept _ _).mp h).2 mem0)]
    simp only [Nat.zero_add, Nat.add_zero]
    unfold GatherDims.batchCoord
    rw [dif_pos (show (0 : Fin 4) ∈ (alongDims A B T N S wf).operandBatchingDims from mem0)]
    rfl
  · rw [GatherDims.start_batching _ _ _ _ mem1,
      GatherDims.offCoord_eq_zero _ _ _ (fun h => ((GatherDims.mem_sKept _ _).mp h).2 mem1)]
    simp only [Nat.zero_add, Nat.add_zero]
    unfold GatherDims.batchCoord
    rw [dif_pos (show (1 : Fin 4) ∈ (alongDims A B T N S wf).operandBatchingDims from mem1)]
    rfl
  · rw [GatherDims.start_batching _ _ _ _ mem2,
      GatherDims.offCoord_eq_zero _ _ _ (fun h => ((GatherDims.mem_sKept _ _).mp h).2 mem2)]
    simp only [Nat.zero_add, Nat.add_zero]
    unfold GatherDims.batchCoord
    rw [dif_pos (show (2 : Fin 4) ∈ (alongDims A B T N S wf).operandBatchingDims from mem2)]
    rfl
end Along

/-- A code is not negative, so it stays as it is. -/
theorem wrap : ∀ n : Fin 768, (if (IntOp.cmpi .slt (BitVec.ofNat 32 n.val) 0#32) = 1#1 then IntOp.addi (BitVec.ofNat 32 n.val) 768#32 else BitVec.ofNat 32 n.val) = BitVec.ofNat 32 n.val := by
  decide +kernel
/-- A code lies in range. -/
theorem inRange : ∀ n : Fin 768, IntOp.andi (IntOp.andi (IntOp.cmpi .sge (BitVec.ofNat 32 n.val) 0#32) (IntOp.cmpi .sle (BitVec.ofNat 32 n.val) 767#32)) 1#1 = 1#1 := by
  decide +kernel
/-- A code as a number. -/
theorem toNat_code : ∀ n : Fin 768, min (BitVec.ofNat 32 n.val).toInt.toNat (768 - 1) = n.val := by
  decide +kernel

theorem negInf : Ideal.ofBits .f32 0xFF800000#32 = ⊥ := by simp [Ideal.ofBits, Ideal.ieee]

/-- A fold of `max` from minus infinity is the supremum. -/
theorem fold_sup {n : ℕ} (f : Fin n → EReal) : Finset.univ.fold max ⊥ f = Finset.univ.sup f := rfl

end Cert.RefTake

end
-- ==== Proof.RefRead.lean ====
/- The reference's intermediate values at an index, over the arguments. -/
module

public import proofs.«01_k».proof.Proof.RefMath
public import proofs.«01_k».proof.Proof.RefTake
public import proofs.«01_k».proof.Proof.Gen.ReferenceIdeal.Run
public import Idealize.ShloMosaic.Lib.Pointwise

@[expose] public section

set_option maxRecDepth 16384

noncomputable section

namespace Cert.ReferenceIdeal.Hand

open Cert.ReferenceIdeal Cert.ReferenceIdeal.Gen Cert.ReferenceIdeal.Value Cert.Spec Cert.RefTake
open Idealize.ShloMosaic Idealize.ShloMosaic.TcCoe Idealize.SL.Sem Idealize.ShloMosaic.StableHlo
open Idealize.ShloMosaic.Pointwise

/-- The buffers the reference computes from hold the arguments. -/
structure Reads (V0 : Valuation τ sig (Elt Ideal)) (A : In) : Prop where
  hq : ∀ b s H d, V0 (Proc.devRef .tc main_v0_0) (ix4 b s H d) = A.q b s H d
  hqs : ∀ b j H, V0 (Proc.devRef .tc main_arg1) (ix3 b j H) = A.qs b j H
  hk : ∀ b s H, V0 (Proc.devRef .tc main_arg2) (ix3 b s H) = A.k b s H
  hcb : ∀ H n d, V0 (Proc.devRef .tc main_arg3) (ix3 H n d) = A.cb H n d
  hv : ∀ b s H d, V0 (Proc.devRef .tc main_v0_1) (ix4 b s H d) = A.v b s H d
  hvs : ∀ b j H, V0 (Proc.devRef .tc main_arg5) (ix3 b j H) = A.vs b j H
  hu : ∀ b H n d, V0 (Proc.devRef .tc main_arg6) (ix4 b H n d) = A.u b H n d
  hcnt : ∀ b H n, V0 (Proc.devRef .tc main_arg7) (ix3 b H n) = A.cnt b H n

variable {V0 : Valuation τ sig (Elt Ideal)} {A : In} (R : Reads V0 A)
include R

theorem v2_at (b : Fin 3) (s : Fin 384) (H : Fin 20) : res_main_v2 V0 (ix3 b s H) = A.k b (lo s) H := by
  rw [← R.hk]; unfold res_main_v2 lo
  pointwise
theorem v3_at (b : Fin 3) (s : Fin 384) (H : Fin 20) (d : Fin 128) : res_main_v3 V0 (ix4 b s H d) = A.v b (lo s) H d := by
  rw [← R.hv]; unfold res_main_v3 lo
  pointwise
theorem v70_at (b : Fin 3) (s : Fin 128) (H : Fin 20) (d : Fin 128) : res_main_v70 V0 (ix4 b s H d) = A.v b (hi s) H d := by
  rw [← R.hv]; unfold res_main_v70 hi
  pointwise
theorem v7_at (b : Fin 3) (H : Fin 20) : res_main_v7 V0 (ix2 b H) = A.vs b 0 H := by
  rw [← R.hvs]; unfold res_main_v7
  pointwise
theorem v14_at (b : Fin 3) (H : Fin 20) (t : Fin 384) (n : Fin 768) : res_main_v14 V0 (ix4 b H t n) = A.g b H (lo t) n * A.sc b H (lo t) := by
  unfold In.g In.sc
  rw [blk_lo, ← R.hqs]
  simp only [← R.hq, ← R.hcb]
  unfold res_main_v14 lo
  pointwise

theorem v69_at (b : Fin 3) (s : Fin 128) (H : Fin 20) : res_main_v69 V0 (ix3 b s H) = A.k b (hi s) H := by
  rw [← R.hk]; unfold res_main_v69 hi
  pointwise
theorem v74_at (b : Fin 3) (H : Fin 20) : res_main_v74 V0 (ix2 b H) = A.vs b 1 H := by
  rw [← R.hvs]; unfold res_main_v74
  pointwise
theorem v81_at (b : Fin 3) (H : Fin 20) (t : Fin 128) (n : Fin 768) : res_main_v81 V0 (ix4 b H t n) = A.g b H (hi t) n * A.sc b H (hi t) := by
  unfold In.g In.sc
  rw [blk_hi, ← R.hqs]
  simp only [← R.hq, ← R.hcb]
  unfold res_main_v81 hi
  pointwise

omit R in
/-- What a one-hot entry is. -/
theorem hot_word (x y : BitVec 32) : FloatOps.uitofp (F := Ideal) FTy.bf16 (IntOp.cmpi CmpIPredicate.eq x y) = if x = y then (1 : EReal) else 0 := by
  by_cases h : x = y
  · subst h; rw [if_pos rfl]
    show (((IntOp.cmpi .eq x x).toNat : ℝ) : EReal) = 1
    simp [IntOp.cmpi]
  · rw [if_neg h]
    show (((IntOp.cmpi .eq x y).toNat : ℝ) : EReal) = 0
    simp [IntOp.cmpi, h]

omit R in
/-- A score: what the mask keeps of a product. -/
theorem hk_code (hA : A.Ok) (b : Fin 3) (H : Fin 20) (s : Fin 512) : A.k b s H = BitVec.ofNat 32 (A.kc b H s).val := hA.hk b H s

end Cert.ReferenceIdeal.Hand

end
-- ==== Proof.RefExit.lean ====
/- What the reference computes from, after its first step has widened the queries and the values. -/
module

public import proofs.«01_k».proof.Proof.RefRead
public import proofs.«01_k».proof.Proof.Gen.ReferenceIdeal.Frame
public import Idealize.ShloMosaic.Lib.Pipeline.ValueKit

@[expose] public section

set_option maxRecDepth 16384

noncomputable section

namespace Cert.ReferenceIdeal.Hand

open Cert.ReferenceIdeal Cert.ReferenceIdeal.Gen Cert.ReferenceIdeal.Value Cert.Spec
open Idealize.ShloMosaic Idealize.ShloMosaic.TcCoe Idealize.ShloMosaic.Tactic Idealize.SL.Sem Idealize.ShloMosaic.StableHlo
open Idealize.ShloMosaic.Pointwise

variable (m : (ℓ : Loc nD τ sig) → Buf (Elt Ideal) ℓ)

theorem reg_0 (c : Dev nD) (b : Fin 3) (s : Fin 512) (H : Fin 20) (d : Fin 128) :
    reg_main_v0_0 m c (ix4 b s H d) = m ((c.tc : Thread nD τ).loc main_arg0) (ix4 b s H d) := by
  unfold reg_main_v0_0
  refine (dats m 0 c).arrAt_forall_of_covers 2 (fun i v => v = m ((c.tc : Thread nD τ).loc main_arg0) i) (by decide +kernel) (fun t hf y => ?_) _
  rw [after0_2]
  blk_simp
  unfold out0_2
  frame_out
  show V m c (Pipeline.arrRef spec0 0) _ = _
  rw [show V m c (Pipeline.arrRef spec0 0) = m ((c.tc : Thread nD τ).loc main_arg0) from V_main_arg0 m c]
  refine congrArg _ ?_
  funext a
  refine Fin.ext ?_
  match a with
  | ⟨0, _⟩ => rfl
  | ⟨1, _⟩ => rfl
  | ⟨2, _⟩ => rfl
  | ⟨3, _⟩ => rfl
theorem reg_4 (c : Dev nD) (b : Fin 3) (s : Fin 512) (H : Fin 20) (d : Fin 128) :
    reg_main_v0_1 m c (ix4 b s H d) = m ((c.tc : Thread nD τ).loc main_arg4) (ix4 b s H d) := by
  unfold reg_main_v0_1
  refine (dats m 0 c).arrAt_forall_of_covers 3 (fun i v => v = m ((c.tc : Thread nD τ).loc main_arg4) i) (by decide +kernel) (fun t hf y => ?_) _
  rw [after0_3]
  blk_simp
  unfold out0_3
  frame_out
  show V m c (Pipeline.arrRef spec0 1) _ = _
  rw [show V m c (Pipeline.arrRef spec0 1) = m ((c.tc : Thread nD τ).loc main_arg4) from V_main_arg4 m c]
  refine congrArg _ ?_
  funext a
  refine Fin.ext ?_
  match a with
  | ⟨0, _⟩ => rfl
  | ⟨1, _⟩ => rfl
  | ⟨2, _⟩ => rfl
  | ⟨3, _⟩ => rfl

/-- What the reference computes from is its arguments. -/
theorem reads (c : Dev nD) (A : In)
    (h0 : ∀ b s H d, m ((c.tc : Thread nD τ).loc main_arg0) (ix4 b s H d) = A.q b s H d)
    (h1 : ∀ b j H, m ((c.tc : Thread nD τ).loc main_arg1) (ix3 b j H) = A.qs b j H)
    (h2 : ∀ b s H, m ((c.tc : Thread nD τ).loc main_arg2) (ix3 b s H) = A.k b s H)
    (h3 : ∀ H n d, m ((c.tc : Thread nD τ).loc main_arg3) (ix3 H n d) = A.cb H n d)
    (h4 : ∀ b s H d, m ((c.tc : Thread nD τ).loc main_arg4) (ix4 b s H d) = A.v b s H d)
    (h5 : ∀ b j H, m ((c.tc : Thread nD τ).loc main_arg5) (ix3 b j H) = A.vs b j H)
    (h6 : ∀ b H n d, m ((c.tc : Thread nD τ).loc main_arg6) (ix4 b H n d) = A.u b H n d)
    (h7 : ∀ b H n, m ((c.tc : Thread nD τ).loc main_arg7) (ix3 b H n) = A.cnt b H n) : Reads (exitV m c) A where
  hq b s H d := (congrFun (exit_main_v0_0 m c) _).trans ((reg_0 m c b s H d).trans (h0 b s H d))
  hqs b j H := (congrFun (exit_main_arg1 m c) _).trans (h1 b j H)
  hk b s H := (congrFun (exit_main_arg2 m c) _).trans (h2 b s H)
  hcb H n d := (congrFun (exit_main_arg3 m c) _).trans (h3 H n d)
  hv b s H d := (congrFun (exit_main_v0_1 m c) _).trans ((reg_4 m c b s H d).trans (h4 b s H d))
  hvs b j H := (congrFun (exit_main_arg5 m c) _).trans (h5 b j H)
  hu b H n d := (congrFun (exit_main_arg6 m c) _).trans (h6 b H n d)
  hcnt b H n := (congrFun (exit_main_arg7 m c) _).trans (h7 b H n)

end Cert.ReferenceIdeal.Hand

end
-- ==== Proof.RefGen.lean ====
/- The reference's reductions and lookups at an index, over variables. -/
module

public import proofs.«01_k».proof.Proof.RefTake
public import proofs.«01_k».proof.Proof.Gen.ReferenceIdeal
public import Idealize.ShloMosaic.Lib.Pointwise

@[expose] public section

set_option maxRecDepth 16384

noncomputable section

namespace Cert.ReferenceIdeal.Hand

open Cert.ReferenceIdeal Cert.ReferenceIdeal.Gen Cert.RefTake
open Idealize.ShloMosaic Idealize.ShloMosaic.TcCoe Idealize.SL.Sem Idealize.ShloMosaic.StableHlo
open Idealize.ShloMosaic.Pointwise

/-- The entries a reduction of the last of four axes reads for one result. -/
theorem fiber4 {A B T S : ℕ} (h : (⟨4, ![A, B, T, S]⟩ : Shape).ReducesTo [3] ⟨3, ![A, B, T]⟩) (a : Fin A) (b : Fin B) (t : Fin T) [DecidablePred fun i => h.drop i = ix3 a b t] :
    (Finset.univ.filter fun i => h.drop i = ix3 a b t) = Finset.univ.map ⟨fun s : Fin S => (ix4 a b t s : (⟨4, ![A, B, T, S]⟩ : Shape).Idx), fun s s' e => congrFun e 3⟩ := by
  ext i
  simp only [Finset.mem_filter, Finset.mem_univ, true_and, Finset.mem_map, Function.Embedding.coeFn_mk]
  constructor
  · intro e
    refine ⟨i 3, ?_⟩
    subst_vars
    funext c
    refine Fin.ext ?_
    have e0 := congrArg Fin.val (congrFun e 0)
    have e1 := congrArg Fin.val (congrFun e 1)
    have e2 := congrArg Fin.val (congrFun e 2)
    match c with
    | ⟨0, _⟩ => exact e0.symm
    | ⟨1, _⟩ => exact e1.symm
    | ⟨2, _⟩ => exact e2.symm
    | ⟨3, _⟩ => rfl
  · rintro ⟨s, rfl⟩
    funext c
    refine Fin.ext ?_
    match c with
    | ⟨0, _⟩ => rfl
    | ⟨1, _⟩ => rfl
    | ⟨2, _⟩ => rfl

theorem sup4 {A B T S : ℕ} (h : (⟨4, ![A, B, T, S]⟩ : Shape).ReducesTo [3] ⟨3, ![A, B, T]⟩) (x : (⟨4, ![A, B, T, S]⟩ : Shape).Idx → EReal) (a : Fin A) (b : Fin B) (t : Fin T) [DecidablePred fun i => h.drop i = ix3 a b t] :
    (Finset.univ.filter fun i => h.drop i = ix3 a b t).fold max ⊥ x = Finset.univ.sup fun s : Fin S => x (ix4 a b t s) := by
  rw [fiber4, Finset.fold_map]; rfl

/-- The largest entry along the last of four axes. -/
theorem red4 {A B T S : ℕ} (h : (⟨4, ![A, B, T, S]⟩ : Shape).ReducesTo [3] ⟨3, ![A, B, T]⟩) (hu : 0 < S_.numel) (x : FVec Ideal ⟨4, ![A, B, T, S]⟩ .f32) (a : Fin A) (b : Fin B) (t : Fin T) :
    Host.reduce FloatOps.maximumf x (constant (F := Ideal) S_ .f32 0xFF800000#32) h hu (ix3 a b t) = Finset.univ.sup fun s : Fin S => (x (ix4 a b t s) : EReal) := by
  refine (Host.reduce_eq_fold _ _ _ _ _ _).trans ?_
  refine Eq.trans ?_ (sup4 h x a b t)
  show Finset.fold max (Ideal.ofBits .f32 0xFF800000#32) x _ = _
  rw [negInf]

theorem bmax_lo (r1 r2 : FVec Ideal S3x20x384 .f32) (b : Fin 3) (H : Fin 20) (t : Fin 384) :
    (maximumf (broadcastInDim S3x20x384x1 ![0, 1, 2] bcast_S3x20x384_S3x20x384x1_0_1_2 r1) (broadcastInDim S3x20x384x1 ![0, 1, 2] bcast_S3x20x384_S3x20x384x1_0_1_2 r2) : FVec Ideal S3x20x384x1 .f32) (ix4 b H t 0) = max (r1 (ix3 b H t)) (r2 (ix3 b H t)) := by
  pointwise
theorem bmax_hi (r1 r2 r3 : FVec Ideal S3x20x128 .f32) (b : Fin 3) (H : Fin 20) (t : Fin 128) :
    (maximumf (maximumf (broadcastInDim S3x20x128x1 ![0, 1, 2] bcast_S3x20x128_S3x20x128x1_0_1_2 r1) (broadcastInDim S3x20x128x1 ![0, 1, 2] bcast_S3x20x128_S3x20x128x1_0_1_2 r2)) (broadcastInDim S3x20x128x1 ![0, 1, 2] bcast_S3x20x128_S3x20x128x1_0_1_2 r3) : FVec Ideal S3x20x128x1 .f32) (ix4 b H t 0) = max (max (r1 (ix3 b H t)) (r2 (ix3 b H t))) (r3 (ix3 b H t)) := by
  pointwise
theorem max_lo (x : FVec Ideal S3x20x384x384 .f32) (y : FVec Ideal S3x20x384x768 .f32) (b : Fin 3) (H : Fin 20) (t : Fin 384) :
    (maximumf (broadcastInDim S3x20x384x1 ![0, 1, 2] bcast_S3x20x384_S3x20x384x1_0_1_2 (Host.reduce FloatOps.maximumf x (constant S_ .f32 0xFF800000#32) reducesTo_S3x20x384x384_S3x20x384_d3 h_S_)) (broadcastInDim S3x20x384x1 ![0, 1, 2] bcast_S3x20x384_S3x20x384x1_0_1_2 (Host.reduce FloatOps.maximumf y (constant S_ .f32 0xFF800000#32) reducesTo_S3x20x384x768_S3x20x384_d3 h_S_)) : FVec Ideal S3x20x384x1 .f32) (ix4 b H t 0)
      = max (Finset.univ.sup fun s : Fin 384 => (x (ix4 b H t s) : EReal)) (Finset.univ.sup fun s : Fin 768 => (y (ix4 b H t s) : EReal)) := by
  refine (bmax_lo _ _ b H t).trans ?_
  exact congrArg₂ max (red4 (A := 3) (B := 20) (T := 384) (S := 384) _ _ x b H t) (red4 (A := 3) (B := 20) (T := 384) (S := 768) _ _ y b H t)
theorem max_hi (x : FVec Ideal S3x20x128x128 .f32) (y : FVec Ideal S3x20x128x768 .f32) (z : FVec Ideal S3x20x128x384 .f32) (b : Fin 3) (H : Fin 20) (t : Fin 128) :
    (maximumf (maximumf (broadcastInDim S3x20x128x1 ![0, 1, 2] bcast_S3x20x128_S3x20x128x1_0_1_2 (Host.reduce FloatOps.maximumf x (constant S_ .f32 0xFF800000#32) reducesTo_S3x20x128x128_S3x20x128_d3 h_S_)) (broadcastInDim S3x20x128x1 ![0, 1, 2] bcast_S3x20x128_S3x20x128x1_0_1_2 (Host.reduce FloatOps.maximumf y (constant S_ .f32 0xFF800000#32) reducesTo_S3x20x128x768_S3x20x128_d3 h_S_))) (broadcastInDim S3x20x128x1 ![0, 1, 2] bcast_S3x20x128_S3x20x128x1_0_1_2 (Host.reduce FloatOps.maximumf z (constant S_ .f32 0xFF800000#32) reducesTo_S3x20x128x384_S3x20x128_d3 h_S_)) : FVec Ideal S3x20x128x1 .f32) (ix4 b H t 0)
      = max (max (Finset.univ.sup fun s : Fin 128 => (x (ix4 b H t s) : EReal)) (Finset.univ.sup fun s : Fin 768 => (y (ix4 b H t s) : EReal))) (Finset.univ.sup fun s : Fin 384 => (z (ix4 b H t s) : EReal)) := by
  refine (bmax_hi _ _ _ b H t).trans ?_
  exact congrArg₂ max (congrArg₂ max (red4 (A := 3) (B := 20) (T := 128) (S := 128) _ _ x b H t) (red4 (A := 3) (B := 20) (T := 128) (S := 768) _ _ y b H t)) (red4 (A := 3) (B := 20) (T := 128) (S := 384) _ _ z b H t)

/-- The lookup at a code. -/
theorem gather_code {A B T S : ℕ} (wf : _) (x : (⟨4, ![A, B, T, 768]⟩ : Shape).Idx → EReal) (idx : (⟨5, ![A, B, T, S, 1]⟩ : Shape).Idx → BitVec 32) (a : Fin A) (b : Fin B) (t : Fin T) (s : Fin S)
    (n : Fin 768) (h : idx (ix5 a b t s 0) = BitVec.ofNat 32 n.val) : Host.gather (alongDims A B T 768 S wf) x idx (ix4 a b t s) = x (ix4 a b t n) := by
  refine (gather_along (by norm_num) wf x idx a b t s).trans (congrArg (fun z => x (ix4 a b t z)) (Fin.ext ?_))
  show min (idx (ix5 a b t s 0)).toInt.toNat (768 - 1) = n.val
  rw [h]; exact toNat_code n

theorem take_lo (x : FVec Ideal S3x20x384x768 .f32) (idx : IVec S3x20x384x384x1 32) (b : Fin 3) (H : Fin 20) (t s : Fin 384) (n : Fin 768) (h : idx (ix5 b H t s 0) = BitVec.ofNat 32 n.val) :
    (select (Host.reduce IntOp.andi (andi (cmpi .sge idx (broadcastInDim S3x20x384x384x1 ![] bcast_S_S3x20x384x384x1 (constantI S_ 32 0#32))) (cmpi .sle idx (broadcastInDim S3x20x384x384x1 ![0, 1, 2, 3, 4] bcast_S1x1x1x1x1_S3x20x384x384x1_0_1_2_3_4 (broadcastInDim S1x1x1x1x1 ![4] bcast_S1_S1x1x1x1x1_4 (constantI S1 32 767#32))))) (constantI S_ 1 1#1) reducesTo_S3x20x384x384x1_S3x20x384x384_d4 h_S_) (Host.gather gather_S3x20x384x768_S3x20x384x384x1_S3x20x384x384_n_3_012_012_3_4_1111 x idx) (broadcastInDim S3x20x384x384 ![] bcast_S_S3x20x384x384 (constant S_ .f32 0x7FC00000#32)) : FVec Ideal S3x20x384x384 .f32) (ix4 b H t s)
      = x (ix4 b H t n) := by
  have hg := gather_code gather_S3x20x384x768_S3x20x384x384x1_S3x20x384x384_n_3_012_012_3_4_1111_wf x idx b H t s n h
  pointwise
  simp only [Finset.univ_unique, Finset.fold_singleton, Fin.default_eq_zero, h, inRange]
  exact hg
theorem take_hi (x : FVec Ideal S3x20x128x768 .f32) (idx : IVec S3x20x128x128x1 32) (b : Fin 3) (H : Fin 20) (t s : Fin 128) (n : Fin 768) (h : idx (ix5 b H t s 0) = BitVec.ofNat 32 n.val) :
    (select (Host.reduce IntOp.andi (andi (cmpi .sge idx (broadcastInDim S3x20x128x128x1 ![] bcast_S_S3x20x128x128x1 (constantI S_ 32 0#32))) (cmpi .sle idx (broadcastInDim S3x20x128x128x1 ![0, 1, 2, 3, 4] bcast_S1x1x1x1x1_S3x20x128x128x1_0_1_2_3_4 (broadcastInDim S1x1x1x1x1 ![4] bcast_S1_S1x1x1x1x1_4 (constantI S1 32 767#32))))) (constantI S_ 1 1#1) reducesTo_S3x20x128x128x1_S3x20x128x128_d4 h_S_) (Host.gather gather_S3x20x128x768_S3x20x128x128x1_S3x20x128x128_n_3_012_012_3_4_1111 x idx) (broadcastInDim S3x20x128x128 ![] bcast_S_S3x20x128x128 (constant S_ .f32 0x7FC00000#32)) : FVec Ideal S3x20x128x128 .f32) (ix4 b H t s)
      = x (ix4 b H t n) := by
  have hg := gather_code gather_S3x20x128x768_S3x20x128x128x1_S3x20x128x128_n_3_012_012_3_4_1111_wf x idx b H t s n h
  pointwise
  simp only [Finset.univ_unique, Finset.fold_singleton, Fin.default_eq_zero, h, inRange]
  exact hg
theorem take_pv (x : FVec Ideal S3x20x128x768 .f32) (idx : IVec S3x20x128x384x1 32) (b : Fin 3) (H : Fin 20) (t : Fin 128) (s : Fin 384) (n : Fin 768) (h : idx (ix5 b H t s 0) = BitVec.ofNat 32 n.val) :
    (select (Host.reduce IntOp.andi (andi (cmpi .sge idx (broadcastInDim S3x20x128x384x1 ![] bcast_S_S3x20x128x384x1 (constantI S_ 32 0#32))) (cmpi .sle idx (broadcastInDim S3x20x128x384x1 ![0, 1, 2, 3, 4] bcast_S1x1x1x1x1_S3x20x128x384x1_0_1_2_3_4 (broadcastInDim S1x1x1x1x1 ![4] bcast_S1_S1x1x1x1x1_4 (constantI S1 32 767#32))))) (constantI S_ 1 1#1) reducesTo_S3x20x128x384x1_S3x20x128x384_d4 h_S_) (Host.gather gather_S3x20x128x768_S3x20x128x384x1_S3x20x128x384_n_3_012_012_3_4_1111 x idx) (broadcastInDim S3x20x128x384 ![] bcast_S_S3x20x128x384 (constant S_ .f32 0x7FC00000#32)) : FVec Ideal S3x20x128x384 .f32) (ix4 b H t s)
      = x (ix4 b H t n) := by
  have hg := gather_code gather_S3x20x128x768_S3x20x128x384x1_S3x20x128x384_n_3_012_012_3_4_1111_wf x idx b H t s n h
  pointwise
  simp only [Finset.univ_unique, Finset.fold_singleton, Fin.default_eq_zero, h, inRange]
  exact hg

end Cert.ReferenceIdeal.Hand

end
-- ==== Proof.RefMask.lean ====
/- The reference's first block at an index. -/
module

public import proofs.«01_k».proof.Proof.RefRead
public import proofs.«01_k».proof.Proof.RefGen

@[expose] public section

set_option maxRecDepth 16384

noncomputable section

namespace Cert.ReferenceIdeal.Hand

open Cert.ReferenceIdeal Cert.ReferenceIdeal.Gen Cert.ReferenceIdeal.Value Cert.Spec Cert.RefTake
open Idealize.ShloMosaic Idealize.ShloMosaic.TcCoe Idealize.SL.Sem Idealize.ShloMosaic.StableHlo
open Idealize.ShloMosaic.Pointwise

/-- The comparison of two small numbers. -/
theorem sle_nat (k t : ℕ) (hk : k < 512) (ht : t < 512) : IntOp.cmpi CmpIPredicate.sle (BitVec.ofNat 32 k) (BitVec.ofNat 32 t) = BitVec.ofBool (k ≤ t) := by
  word_cmp
theorem select_prop (p : Prop) [Decidable p] (x y : EReal) : Scalar.select (BitVec.ofBool (decide p)) x y = if p then x else y := by
  by_cases h : p <;> simp [h, Scalar.select]

/-- The causal mask at an index. -/
theorem causal_lo (p : IVec S384 32) (x : FVec Ideal S3x20x384x384 .f32) (hp : ∀ i : Fin 384, p (ix1 i) = BitVec.ofNat 32 i.val) (b : Fin 3) (H : Fin 20) (t s : Fin 384) :
    (select (broadcastInDim S3x20x384x384 ![2, 3] bcast_S384x384_S3x20x384x384_2_3 (cmpi .sle (broadcastInDim S384x384 ![0, 1] bcast_S1x384_S384x384_0_1 (broadcastInDim S1x384 ![1] bcast_S384_S1x384_1 p)) (broadcastInDim S384x384 ![0, 1] bcast_S384x1_S384x384_0_1 (broadcastInDim S384x1 ![0] bcast_S384_S384x1_0 p)))) x (broadcastInDim S3x20x384x384 ![] bcast_S_S3x20x384x384 (id (constant S_ .f32 0xFF800000#32))) : FVec Ideal S3x20x384x384 .f32) (ix4 b H t s)
      = if (lo s).val ≤ (lo t).val then x (ix4 b H t s) else ⊥ := by
  pointwise
  rw [hp, hp]
  simp only [id_eq]
  rw [sle_nat _ _ (by omega) (by omega), select_prop]
  show (if _ then _ else Ideal.ofBits .f32 0xFF800000#32) = _
  rw [negInf]
  exact if_congr Iff.rfl rfl rfl
/-- The causal mask at an index. -/
theorem causal_hi (p : IVec S128 32) (x : FVec Ideal S3x20x128x128 .f32) (hp : ∀ i : Fin 128, p (ix1 i) = BitVec.ofNat 32 i.val) (b : Fin 3) (H : Fin 20) (t s : Fin 128) :
    (select (broadcastInDim S3x20x128x128 ![2, 3] bcast_S128x128_S3x20x128x128_2_3 (cmpi .sle (broadcastInDim S128x128 ![0, 1] bcast_S1x128_S128x128_0_1 (broadcastInDim S1x128 ![1] bcast_S128_S1x128_1 p)) (broadcastInDim S128x128 ![0, 1] bcast_S128x1_S128x128_0_1 (broadcastInDim S128x1 ![0] bcast_S128_S128x1_0 p)))) x (broadcastInDim S3x20x128x128 ![] bcast_S_S3x20x128x128 (id (constant S_ .f32 0xFF800000#32))) : FVec Ideal S3x20x128x128 .f32) (ix4 b H t s)
      = if (hi s).val ≤ (hi t).val then x (ix4 b H t s) else ⊥ := by
  pointwise
  rw [hp, hp]
  simp only [id_eq]
  rw [sle_nat _ _ (by omega) (by omega), select_prop]
  show (if _ then _ else Ideal.ofBits .f32 0xFF800000#32) = _
  rw [negInf]
  exact if_congr (by show _ ↔ 384 + s.val ≤ 384 + t.val; omega) rfl rfl

end Cert.ReferenceIdeal.Hand

end
-- ==== Proof.RefHi.lean ====
/- The reference's second block at an index. -/
module

public import proofs.«01_k».proof.Proof.RefRead
public import proofs.«01_k».proof.Proof.RefMask

@[expose] public section

set_option maxRecDepth 16384

noncomputable section

namespace Cert.ReferenceIdeal.Hand

open Cert.ReferenceIdeal Cert.ReferenceIdeal.Gen Cert.ReferenceIdeal.Value Cert.Spec Cert.RefTake
open Idealize.ShloMosaic Idealize.ShloMosaic.TcCoe Idealize.SL.Sem Idealize.ShloMosaic.StableHlo
open Idealize.ShloMosaic.Pointwise

theorem bexp_pv (x : FVec Ideal S3x20x128x384 .f32) (y : FVec Ideal S3x20x128x1 .f32) (b : Fin 3) (H : Fin 20) (t : Fin 128) (s : Fin 384) :
    Host.exp (subf x (broadcastInDim S3x20x128x384 ![0, 1, 2, 3] bcast_S3x20x128x1_S3x20x128x384_0_1_2_3 y)) (ix4 b H t s) = Ideal.exp (x (ix4 b H t s) - y (ix4 b H t 0)) := by
  pointwise

variable {V0 : Valuation τ sig (Elt Ideal)} {A : In} (R : Reads V0 A)
include R

theorem v166_at (b : Fin 3) (s : Fin 128) (H : Fin 20) (n : Fin 768) :
    res_main_v166 V0 (ix4 b s H n) = A.hot b H (hi s) n := by
  unfold In.hot
  rw [← v69_at R]
  unfold res_main_v166
  refine Eq.trans ?_ (hot_word _ _)
  pointwise
theorem v96_at (b : Fin 3) (H : Fin 20) (t : Fin 128) (n : Fin 768) :
    res_main_v96 V0 (ix4 b H t n) = A.sCode b H (hi t) n := by
  unfold In.sCode
  rw [← v81_at R, ← R.hcnt]
  unfold res_main_v96
  pointwise
  simp only [id_eq]
  show (if _ then _ else Ideal.ofBits .f32 0xFF800000#32) = _
  rw [negInf]
theorem v90_at (b : Fin 3) (H : Fin 20) (t s : Fin 128) : res_main_v90 V0 (ix4 b H t s) = A.k b (hi s) H := by
  rw [← v69_at R]
  unfold res_main_v90
  pointwise
theorem call4_v5_at (hA : A.Ok) (b : Fin 3) (H : Fin 20) (t s : Fin 128) : res_main_call4_v5 V0 (ix5 b H t s 0) = BitVec.ofNat 32 (A.kc b H (hi s)).val := by
  rw [← wrap, ← hk_code hA, ← v90_at R b H t s]
  unfold res_main_call4_v5
  pointwise
  rfl
theorem v92_at (hA : A.Ok) (b : Fin 3) (H : Fin 20) (t s : Fin 128) :
    res_main_v92 V0 (ix4 b H t s) = A.sTok b H (hi t) (hi s) := by
  have hg := take_hi (res_main_v81 V0) (res_main_call4_v5 V0) b H t s _ (call4_v5_at R hA b H t s)
  rw [v81_at R] at hg
  unfold In.sTok
  rw [← hg]
  unfold res_main_v92
  refine (causal_hi (res_main_v82 V0) _ (fun i => by unfold res_main_v82; pointwise) b H t s).trans ?_
  rfl
theorem v104_at (b : Fin 3) (H : Fin 20) (t : Fin 128) (s : Fin 384) : res_main_v104 V0 (ix4 b H t s) = A.k b (lo s) H := by
  rw [← v2_at R]
  unfold res_main_v104
  pointwise
theorem call7_v5_at (hA : A.Ok) (b : Fin 3) (H : Fin 20) (t : Fin 128) (s : Fin 384) : res_main_call7_v5 V0 (ix5 b H t s 0) = BitVec.ofNat 32 (A.kc b H (lo s)).val := by
  rw [← wrap, ← hk_code hA, ← v104_at R b H t s]
  unfold res_main_call7_v5
  pointwise
  rfl
theorem v105_at (hA : A.Ok) (b : Fin 3) (H : Fin 20) (t : Fin 128) (s : Fin 384) :
    res_main_v105 V0 (ix4 b H t s) = A.sTok b H (hi t) (lo s) := by
  have hg := take_pv (res_main_v81 V0) (res_main_call7_v5 V0) b H t s _ (call7_v5_at R hA b H t s)
  rw [v81_at R] at hg
  unfold In.sTok
  rw [← hg, if_pos (by show s.val ≤ 384 + t.val; omega)]
  unfold res_main_v105
  rfl
theorem v108_at (hA : A.Ok) (b : Fin 3) (H : Fin 20) (t : Fin 128) :
    res_main_v108 V0 (ix4 b H t 0) = A.M b H (hi t) := by
  rw [← M_hi]
  simp only [← v92_at R hA, ← v96_at R, ← v105_at R hA]
  unfold res_main_v108
  exact max_hi (res_main_v92 V0) (res_main_v96 V0) (res_main_v105 V0) b H t
theorem v111_at (hA : A.Ok) (b : Fin 3) (H : Fin 20) (t s : Fin 128) :
    res_main_v111 V0 (ix4 b H t s) = A.eTok b H (hi t) (hi s) := by
  unfold In.eTok
  rw [← v92_at R hA, ← v108_at R hA]
  unfold res_main_v111
  pointwise
theorem v114_at (hA : A.Ok) (b : Fin 3) (H : Fin 20) (t : Fin 128) (n : Fin 768) :
    res_main_v114 V0 (ix4 b H t n) = A.eCode b H (hi t) n := by
  unfold In.eCode
  rw [← v96_at R, ← v108_at R hA]
  unfold res_main_v114
  pointwise
theorem v125_at (hA : A.Ok) (b : Fin 3) (H : Fin 20) (t : Fin 128) (s : Fin 384) :
    res_main_v125 V0 (ix4 b H t s) = A.eTok b H (hi t) (lo s) := by
  unfold In.eTok
  rw [← v105_at R hA, ← v108_at R hA]
  unfold res_main_v125
  exact bexp_pv (res_main_v105 V0) (res_main_v108 V0) b H t s
theorem v128_at (hA : A.Ok) (b : Fin 3) (H : Fin 20) (t : Fin 128) :
    res_main_v128 V0 (ix4 b H t 0) = A.den b H (hi t) := by
  rw [← den_hi]
  simp only [← v111_at R hA, ← v114_at R hA, ← v125_at R hA, ← R.hcnt]
  unfold res_main_v128
  pointwise
theorem v131_at (hA : A.Ok) (b : Fin 3) (H : Fin 20) (t : Fin 128) :
    res_main_v131 V0 (ix4 b H t 0) = A.D b H (hi t) := by
  unfold In.D
  rw [← v128_at R hA]
  unfold res_main_v131
  pointwise
  simp only [id_eq]
  show (if _ then _ else Ideal.ofBits .f32 0x3F800000#32) = _
  rw [Ideal.ofBits_one_f32]

end Cert.ReferenceIdeal.Hand

end
-- ==== Proof.RefLo.lean ====
/- The reference's first block at an index. -/
module

public import proofs.«01_k».proof.Proof.RefRead
public import proofs.«01_k».proof.Proof.RefMask

@[expose] public section

set_option maxRecDepth 16384

noncomputable section

namespace Cert.ReferenceIdeal.Hand

open Cert.ReferenceIdeal Cert.ReferenceIdeal.Gen Cert.ReferenceIdeal.Value Cert.Spec Cert.RefTake
open Idealize.ShloMosaic Idealize.ShloMosaic.TcCoe Idealize.SL.Sem Idealize.ShloMosaic.StableHlo
open Idealize.ShloMosaic.Pointwise

variable {V0 : Valuation τ sig (Elt Ideal)} {A : In} (R : Reads V0 A)
include R

theorem v156_at (b : Fin 3) (s : Fin 384) (H : Fin 20) (n : Fin 768) :
    res_main_v156 V0 (ix4 b s H n) = A.hot b H (lo s) n := by
  unfold In.hot
  rw [← v2_at R]
  unfold res_main_v156
  refine Eq.trans ?_ (hot_word _ _)
  pointwise
theorem v29_at (b : Fin 3) (H : Fin 20) (t : Fin 384) (n : Fin 768) :
    res_main_v29 V0 (ix4 b H t n) = A.sCode b H (lo t) n := by
  unfold In.sCode
  rw [← v14_at R, ← R.hcnt]
  unfold res_main_v29
  pointwise
  simp only [id_eq]
  show (if _ then _ else Ideal.ofBits .f32 0xFF800000#32) = _
  rw [negInf]
theorem v23_at (b : Fin 3) (H : Fin 20) (t s : Fin 384) : res_main_v23 V0 (ix4 b H t s) = A.k b (lo s) H := by
  rw [← v2_at R]
  unfold res_main_v23
  pointwise
theorem call0_v5_at (hA : A.Ok) (b : Fin 3) (H : Fin 20) (t s : Fin 384) : res_main_call0_v5 V0 (ix5 b H t s 0) = BitVec.ofNat 32 (A.kc b H (lo s)).val := by
  rw [← wrap, ← hk_code hA, ← v23_at R b H t s]
  unfold res_main_call0_v5
  pointwise
  rfl
theorem v25_at (hA : A.Ok) (b : Fin 3) (H : Fin 20) (t s : Fin 384) :
    res_main_v25 V0 (ix4 b H t s) = A.sTok b H (lo t) (lo s) := by
  have hg := take_lo (res_main_v14 V0) (res_main_call0_v5 V0) b H t s _ (call0_v5_at R hA b H t s)
  rw [v14_at R] at hg
  unfold In.sTok
  rw [← hg]
  unfold res_main_v25
  refine (causal_lo (res_main_v15 V0) _ (fun i => by unfold res_main_v15; pointwise) b H t s).trans ?_
  rfl
theorem v34_at (hA : A.Ok) (b : Fin 3) (H : Fin 20) (t : Fin 384) :
    res_main_v34 V0 (ix4 b H t 0) = A.M b H (lo t) := by
  rw [← M_lo]
  simp only [← v25_at R hA, ← v29_at R]
  unfold res_main_v34
  exact max_lo _ _ b H t
theorem v37_at (hA : A.Ok) (b : Fin 3) (H : Fin 20) (t s : Fin 384) :
    res_main_v37 V0 (ix4 b H t s) = A.eTok b H (lo t) (lo s) := by
  unfold In.eTok
  rw [← v25_at R hA, ← v34_at R hA]
  unfold res_main_v37
  pointwise
theorem v40_at (hA : A.Ok) (b : Fin 3) (H : Fin 20) (t : Fin 384) (n : Fin 768) :
    res_main_v40 V0 (ix4 b H t n) = A.eCode b H (lo t) n := by
  unfold In.eCode
  rw [← v29_at R, ← v34_at R hA]
  unfold res_main_v40
  pointwise
theorem v48_at (hA : A.Ok) (b : Fin 3) (H : Fin 20) (t : Fin 384) :
    res_main_v48 V0 (ix4 b H t 0) = A.den b H (lo t) := by
  rw [← den_lo]
  simp only [← v37_at R hA, ← v40_at R hA, ← R.hcnt]
  unfold res_main_v48
  pointwise
theorem v51_at (hA : A.Ok) (b : Fin 3) (H : Fin 20) (t : Fin 384) :
    res_main_v51 V0 (ix4 b H t 0) = A.D b H (lo t) := by
  unfold In.D
  rw [← v48_at R hA]
  unfold res_main_v51
  pointwise
  simp only [id_eq]
  show (if _ then _ else Ideal.ofBits .f32 0x3F800000#32) = _
  rw [Ideal.ofBits_one_f32]

end Cert.ReferenceIdeal.Hand

end
-- ==== Proof.RefOutV.lean ====
/- The reference's results at an index, over variables. -/
module

public import proofs.«01_k».proof.Proof.RefTake
public import proofs.«01_k».proof.Proof.Gen.ReferenceIdeal
public import Idealize.ShloMosaic.Lib.Pointwise

@[expose] public section

set_option maxRecDepth 16384

noncomputable section

namespace Cert.ReferenceIdeal.Hand

open Cert.ReferenceIdeal Cert.ReferenceIdeal.Gen Cert.RefTake
open Idealize.ShloMosaic Idealize.ShloMosaic.TcCoe Idealize.SL.Sem Idealize.ShloMosaic.StableHlo
open Idealize.ShloMosaic.Pointwise

theorem out_lo (v : FVec Ideal S3x384x20x128 .bf16) (e : FVec Ideal S3x20x384x384 .f32) (D : FVec Ideal S3x20x384x1 .f32) (vs : FVec Ideal S3x20 .f32) (u : FVec Ideal S3x20x768x128 .f32) (ec : FVec Ideal S3x20x384x768 .f32) (b : Fin 3) (H : Fin 20) (t : Fin 384) (d : Fin 128) :
    (addf (mulf (transpose S3x384x20x128 [0, 3, 1, 2] (Host.dotGeneral dot_S3x384x20x128_S3x20x384x384_S3x20x128x384_1_3_3_2_02_01 none v (truncf .bf16 (Host.divf e (broadcastInDim S3x20x384x384 ![0, 1, 2, 3] bcast_S3x20x384x1_S3x20x384x384_0_1_2_3 D)) bitsLt_bf16_f32)) transposes_S3x20x128x384_S3x384x20x128_0_3_1_2) (broadcastInDim S3x384x20x128 ![0, 1, 2, 3] bcast_S3x1x20x1_S3x384x20x128_0_1_2_3 (broadcastInDim S3x1x20x1 ![0, 2] bcast_S3x20_S3x1x20x1_0_2 vs))) (transpose S3x384x20x128 [0, 3, 1, 2] (Host.dotGeneral dot_S3x20x768x128_S3x20x384x768_S3x20x128x384_2_3_3_2_01_01 none (truncf .bf16 u bitsLt_bf16_f32) (truncf .bf16 (Host.divf ec (broadcastInDim S3x20x384x768 ![0, 1, 2, 3] bcast_S3x20x384x1_S3x20x384x768_0_1_2_3 D)) bitsLt_bf16_f32)) transposes_S3x20x128x384_S3x384x20x128_0_3_1_2) : FVec Ideal S3x384x20x128 .f32) (ix4 b t H d)
      = (∑ s : Fin 384, v (ix4 b s H d) * Ideal.div (e (ix4 b H t s)) (D (ix4 b H t 0))) * vs (ix2 b H) + ∑ n : Fin 768, u (ix4 b H n d) * Ideal.div (ec (ix4 b H t n)) (D (ix4 b H t 0)) := by
  pointwise
theorem out_hi (v : FVec Ideal S3x128x20x128 .bf16) (w : FVec Ideal S3x384x20x128 .bf16) (e : FVec Ideal S3x20x128x128 .f32) (D : FVec Ideal S3x20x128x1 .f32) (vs ws : FVec Ideal S3x20 .f32) (u : FVec Ideal S3x20x768x128 .f32) (ec : FVec Ideal S3x20x128x768 .f32) (ep : FVec Ideal S3x20x128x384 .f32) (b : Fin 3) (H : Fin 20) (t : Fin 128) (d : Fin 128) :
    (addf (addf (mulf (transpose S3x128x20x128 [0, 3, 1, 2] (Host.dotGeneral dot_S3x128x20x128_S3x20x128x128_S3x20x128x128_1_3_3_2_02_01 none v (truncf .bf16 (Host.divf e (broadcastInDim S3x20x128x128 ![0, 1, 2, 3] bcast_S3x20x128x1_S3x20x128x128_0_1_2_3 D)) bitsLt_bf16_f32)) transposes_S3x20x128x128_S3x128x20x128_0_3_1_2) (broadcastInDim S3x128x20x128 ![0, 1, 2, 3] bcast_S3x1x20x1_S3x128x20x128_0_1_2_3 (broadcastInDim S3x1x20x1 ![0, 2] bcast_S3x20_S3x1x20x1_0_2 vs))) (transpose S3x128x20x128 [0, 3, 1, 2] (Host.dotGeneral dot_S3x20x768x128_S3x20x128x768_S3x20x128x128_2_3_3_2_01_01 none (truncf .bf16 u bitsLt_bf16_f32) (truncf .bf16 (Host.divf ec (broadcastInDim S3x20x128x768 ![0, 1, 2, 3] bcast_S3x20x128x1_S3x20x128x768_0_1_2_3 D)) bitsLt_bf16_f32)) transposes_S3x20x128x128_S3x128x20x128_0_3_1_2)) (mulf (transpose S3x128x20x128 [0, 3, 1, 2] (Host.dotGeneral dot_S3x384x20x128_S3x20x128x384_S3x20x128x128_1_3_3_2_02_01 none w (truncf .bf16 (Host.divf ep (broadcastInDim S3x20x128x384 ![0, 1, 2, 3] bcast_S3x20x128x1_S3x20x128x384_0_1_2_3 D)) bitsLt_bf16_f32)) transposes_S3x20x128x128_S3x128x20x128_0_3_1_2) (broadcastInDim S3x128x20x128 ![0, 1, 2, 3] bcast_S3x1x20x1_S3x128x20x128_0_1_2_3 (broadcastInDim S3x1x20x1 ![0, 2] bcast_S3x20_S3x1x20x1_0_2 ws))) : FVec Ideal S3x128x20x128 .f32) (ix4 b t H d)
      = ((∑ s : Fin 128, v (ix4 b s H d) * Ideal.div (e (ix4 b H t s)) (D (ix4 b H t 0))) * vs (ix2 b H) + ∑ n : Fin 768, u (ix4 b H n d) * Ideal.div (ec (ix4 b H t n)) (D (ix4 b H t 0))) + (∑ s : Fin 384, w (ix4 b s H d) * Ideal.div (ep (ix4 b H t s)) (D (ix4 b H t 0))) * ws (ix2 b H) := by
  pointwise
theorem cat_lo (x : FVec Ideal S3x384x20x128 .f32) (y : FVec Ideal S3x128x20x128 .f32) (b : Fin 3) (H : Fin 20) (t : Fin 384) (d : Fin 128) :
    (truncf .bf16 (concatenate S3x512x2560 1 [⟨S3x384x2560, (shapeCast _ x shapeCasts_S3x384x20x128_S3x384x2560)⟩, ⟨S3x128x2560, (shapeCast _ y shapeCasts_S3x128x20x128_S3x128x2560)⟩] concatenates_S3x384x2560_S3x128x2560_S3x512x2560_d1) bitsLt_bf16_f32 : FVec Ideal S3x512x2560 .bf16) (ix3 b ⟨t.val, by omega⟩ ⟨128 * H.val + d.val, by omega⟩) = x (ix4 b t H d) := by
  pointwise
theorem cat_hi (x : FVec Ideal S3x384x20x128 .f32) (y : FVec Ideal S3x128x20x128 .f32) (b : Fin 3) (H : Fin 20) (t : Fin 128) (d : Fin 128) :
    (truncf .bf16 (concatenate S3x512x2560 1 [⟨S3x384x2560, (shapeCast _ x shapeCasts_S3x384x20x128_S3x384x2560)⟩, ⟨S3x128x2560, (shapeCast _ y shapeCasts_S3x128x20x128_S3x128x2560)⟩] concatenates_S3x384x2560_S3x128x2560_S3x512x2560_d1) bitsLt_bf16_f32 : FVec Ideal S3x512x2560 .bf16) (ix3 b ⟨384 + t.val, by omega⟩ ⟨128 * H.val + d.val, by omega⟩) = y (ix4 b t H d) := by
  pointwise
theorem out_u (u : FVec Ideal S3x20x768x128 .f32) (h1 : FVec Ideal S3x384x20x768 .bf16) (v1 : FVec Ideal S3x384x20x128 .bf16) (s1 s2 : FVec Ideal S3x20 .f32) (h2 : FVec Ideal S3x128x20x768 .bf16) (v2 : FVec Ideal S3x128x20x128 .bf16) (b : Fin 3) (H : Fin 20) (n : Fin 768) (d : Fin 128) :
    (addf (addf u (mulf (Host.dotGeneral dot_S3x384x20x768_S3x384x20x128_S3x20x768x128_1_1_3_3_02_02 none h1 v1) (broadcastInDim S3x20x768x128 ![0, 1, 2, 3] bcast_S3x20x1x1_S3x20x768x128_0_1_2_3 (broadcastInDim S3x20x1x1 ![0, 1] bcast_S3x20_S3x20x1x1_0_1 s1)))) (mulf (Host.dotGeneral dot_S3x128x20x768_S3x128x20x128_S3x20x768x128_1_1_3_3_02_02 none h2 v2) (broadcastInDim S3x20x768x128 ![0, 1, 2, 3] bcast_S3x20x1x1_S3x20x768x128_0_1_2_3 (broadcastInDim S3x20x1x1 ![0, 1] bcast_S3x20_S3x20x1x1_0_1 s2))) : FVec Ideal S3x20x768x128 .f32) (ix4 b H n d)
      = (u (ix4 b H n d) + (∑ s : Fin 384, h1 (ix4 b s H n) * v1 (ix4 b s H d)) * s1 (ix2 b H)) + (∑ s : Fin 128, h2 (ix4 b s H n) * v2 (ix4 b s H d)) * s2 (ix2 b H) := by
  pointwise
theorem out_c (c : FVec Ideal S3x20x768 .f32) (h1 : FVec Ideal S3x384x20x768 .bf16) (h2 : FVec Ideal S3x128x20x768 .bf16) (b : Fin 3) (H : Fin 20) (n : Fin 768) :
    (addf (addf c (Host.reduceAdd (extf .f32 h1 bitsLt_bf16_f32) (constant S_ .f32 0x00000000#32) reducesTo_S3x384x20x768_S3x20x768_d1 h_S_)) (Host.reduceAdd (extf .f32 h2 bitsLt_bf16_f32) (constant S_ .f32 0x00000000#32) reducesTo_S3x128x20x768_S3x20x768_d1 h_S_) : FVec Ideal S3x20x768 .f32) (ix3 b H n)
      = (c (ix3 b H n) + ∑ s : Fin 384, h1 (ix4 b s H n)) + ∑ s : Fin 128, h2 (ix4 b s H n) := by
  pointwise

end Cert.ReferenceIdeal.Hand

end
-- ==== Proof.RefOut.lean ====
/- The reference's results at an index. -/
module

public import proofs.«01_k».proof.Proof.RefRead
public import proofs.«01_k».proof.Proof.RefHi
public import proofs.«01_k».proof.Proof.RefLo
public import proofs.«01_k».proof.Proof.RefOutV

@[expose] public section

set_option maxRecDepth 16384

noncomputable section

namespace Cert.ReferenceIdeal.Hand

open Cert.ReferenceIdeal Cert.ReferenceIdeal.Gen Cert.ReferenceIdeal.Value Cert.Spec Cert.RefTake
open Idealize.ShloMosaic Idealize.ShloMosaic.TcCoe Idealize.SL.Sem Idealize.ShloMosaic.StableHlo
open Idealize.ShloMosaic.Pointwise

/-- The reference's outputs. -/
def refO {F : FTy → Type} [FloatOps F] (V0 : Valuation τ sig (Elt F)) : (Proc.devRef .tc main_v176 : DevRef τ sig).ty.Contents (Elt F) :=
  truncf .bf16 (concatenate S3x512x2560 1 [⟨S3x384x2560, (shapeCast _ (addf (mulf (transpose S3x384x20x128 [0, 3, 1, 2] (Host.dotGeneral dot_S3x384x20x128_S3x20x384x384_S3x20x128x384_1_3_3_2_02_01 none (res_main_v3 V0) (truncf .bf16 (Host.divf (res_main_v37 V0) (broadcastInDim S3x20x384x384 ![0, 1, 2, 3] bcast_S3x20x384x1_S3x20x384x384_0_1_2_3 (res_main_v51 V0))) bitsLt_bf16_f32)) transposes_S3x20x128x384_S3x384x20x128_0_3_1_2) (broadcastInDim S3x384x20x128 ![0, 1, 2, 3] bcast_S3x1x20x1_S3x384x20x128_0_1_2_3 (broadcastInDim S3x1x20x1 ![0, 2] bcast_S3x20_S3x1x20x1_0_2 (res_main_v7 V0)))) (transpose S3x384x20x128 [0, 3, 1, 2] (Host.dotGeneral dot_S3x20x768x128_S3x20x384x768_S3x20x128x384_2_3_3_2_01_01 none (truncf .bf16 (V0 (Proc.devRef .tc main_arg6)) bitsLt_bf16_f32) (truncf .bf16 (Host.divf (res_main_v40 V0) (broadcastInDim S3x20x384x768 ![0, 1, 2, 3] bcast_S3x20x384x1_S3x20x384x768_0_1_2_3 (res_main_v51 V0))) bitsLt_bf16_f32)) transposes_S3x20x128x384_S3x384x20x128_0_3_1_2)) shapeCasts_S3x384x20x128_S3x384x2560)⟩, ⟨S3x128x2560, (shapeCast _ (addf (addf (mulf (transpose S3x128x20x128 [0, 3, 1, 2] (Host.dotGeneral dot_S3x128x20x128_S3x20x128x128_S3x20x128x128_1_3_3_2_02_01 none (res_main_v70 V0) (truncf .bf16 (Host.divf (res_main_v111 V0) (broadcastInDim S3x20x128x128 ![0, 1, 2, 3] bcast_S3x20x128x1_S3x20x128x128_0_1_2_3 (res_main_v131 V0))) bitsLt_bf16_f32)) transposes_S3x20x128x128_S3x128x20x128_0_3_1_2) (broadcastInDim S3x128x20x128 ![0, 1, 2, 3] bcast_S3x1x20x1_S3x128x20x128_0_1_2_3 (broadcastInDim S3x1x20x1 ![0, 2] bcast_S3x20_S3x1x20x1_0_2 (res_main_v74 V0)))) (transpose S3x128x20x128 [0, 3, 1, 2] (Host.dotGeneral dot_S3x20x768x128_S3x20x128x768_S3x20x128x128_2_3_3_2_01_01 none (truncf .bf16 (V0 (Proc.devRef .tc main_arg6)) bitsLt_bf16_f32) (truncf .bf16 (Host.divf (res_main_v114 V0) (broadcastInDim S3x20x128x768 ![0, 1, 2, 3] bcast_S3x20x128x1_S3x20x128x768_0_1_2_3 (res_main_v131 V0))) bitsLt_bf16_f32)) transposes_S3x20x128x128_S3x128x20x128_0_3_1_2)) (mulf (transpose S3x128x20x128 [0, 3, 1, 2] (Host.dotGeneral dot_S3x384x20x128_S3x20x128x384_S3x20x128x128_1_3_3_2_02_01 none (res_main_v3 V0) (truncf .bf16 (Host.divf (res_main_v125 V0) (broadcastInDim S3x20x128x384 ![0, 1, 2, 3] bcast_S3x20x128x1_S3x20x128x384_0_1_2_3 (res_main_v131 V0))) bitsLt_bf16_f32)) transposes_S3x20x128x128_S3x128x20x128_0_3_1_2) (broadcastInDim S3x128x20x128 ![0, 1, 2, 3] bcast_S3x1x20x1_S3x128x20x128_0_1_2_3 (broadcastInDim S3x1x20x1 ![0, 2] bcast_S3x20_S3x1x20x1_0_2 (res_main_v7 V0))))) shapeCasts_S3x128x20x128_S3x128x2560)⟩] concatenates_S3x384x2560_S3x128x2560_S3x512x2560_d1) bitsLt_bf16_f32

/-- The reference's value sums. -/
def refU {F : FTy → Type} [FloatOps F] (V0 : Valuation τ sig (Elt F)) : (Proc.devRef .tc main_v171 : DevRef τ sig).ty.Contents (Elt F) :=
  addf (addf (V0 (Proc.devRef .tc main_arg6)) (mulf (Host.dotGeneral dot_S3x384x20x768_S3x384x20x128_S3x20x768x128_1_1_3_3_02_02 none (res_main_v156 V0) (res_main_v3 V0)) (broadcastInDim S3x20x768x128 ![0, 1, 2, 3] bcast_S3x20x1x1_S3x20x768x128_0_1_2_3 (broadcastInDim S3x20x1x1 ![0, 1] bcast_S3x20_S3x20x1x1_0_1 (res_main_v7 V0))))) (mulf (Host.dotGeneral dot_S3x128x20x768_S3x128x20x128_S3x20x768x128_1_1_3_3_02_02 none (res_main_v166 V0) (res_main_v70 V0)) (broadcastInDim S3x20x768x128 ![0, 1, 2, 3] bcast_S3x20x1x1_S3x20x768x128_0_1_2_3 (broadcastInDim S3x20x1x1 ![0, 1] bcast_S3x20_S3x20x1x1_0_1 (res_main_v74 V0))))

/-- The reference's counts. -/
def refC {F : FTy → Type} [FloatOps F] (V0 : Valuation τ sig (Elt F)) : (Proc.devRef .tc main_v174 : DevRef τ sig).ty.Contents (Elt F) :=
  addf (addf (V0 (Proc.devRef .tc main_arg7)) (Host.reduceAdd (extf .f32 (res_main_v156 V0) bitsLt_bf16_f32) (constant S_ .f32 0x00000000#32) reducesTo_S3x384x20x768_S3x20x768_d1 h_S_)) (Host.reduceAdd (extf .f32 (res_main_v166 V0) bitsLt_bf16_f32) (constant S_ .f32 0x00000000#32) reducesTo_S3x128x20x768_S3x20x768_d1 h_S_)

variable {V0 : Valuation τ sig (Elt Ideal)} {A : In} (R : Reads V0 A)
include R

theorem refO_at (hA : A.Ok) (b : Fin 3) (H : Fin 20) (s : Fin 512) (d : Fin 128) :
    refO V0 (ix3 b s ⟨128 * H.val + d.val, by omega⟩) = A.O b H s d := by
  by_cases h : s.val < 384
  · rw [show s = lo ⟨s.val, h⟩ from rfl, ← O_lo b H hA ⟨s.val, h⟩ d]
    refine (cat_lo _ _ b H ⟨s.val, h⟩ d).trans ((out_lo (res_main_v3 V0) (res_main_v37 V0) (res_main_v51 V0) (res_main_v7 V0) (V0 (Proc.devRef .tc main_arg6)) (res_main_v40 V0) b H ⟨s.val, h⟩ d).trans ?_)
    simp only [v3_at R, v37_at R hA, v51_at R hA, v7_at R, R.hu, v40_at R hA]
  · have e : s = hi ⟨s.val - 384, by omega⟩ := Fin.ext (by show s.val = 384 + (s.val - 384); omega)
    generalize (⟨s.val - 384, by omega⟩ : Fin 128) = t at e
    subst e
    rw [← O_hi b H hA (hi t) d]
    refine (cat_hi _ _ b H t d).trans ((out_hi (res_main_v70 V0) (res_main_v3 V0) (res_main_v111 V0) (res_main_v131 V0) (res_main_v74 V0) (res_main_v7 V0) (V0 (Proc.devRef .tc main_arg6)) (res_main_v114 V0) (res_main_v125 V0) b H t d).trans ?_)
    simp only [v70_at R, v3_at R, v111_at R hA, v131_at R hA, v74_at R, v7_at R, R.hu, v114_at R hA, v125_at R hA]
theorem refU_at (hA : A.Ok) (b : Fin 3) (H : Fin 20) (n : Fin 768) (d : Fin 128) :
    refU V0 (ix4 b H n d) = A.U b H n d := by
  rw [← U_eq b H hA n d]
  refine (out_u (V0 (Proc.devRef .tc main_arg6)) (res_main_v156 V0) (res_main_v3 V0) (res_main_v7 V0) (res_main_v74 V0) (res_main_v166 V0) (res_main_v70 V0) b H n d).trans ?_
  simp only [v3_at R, v7_at R, v74_at R, v70_at R, v156_at R, v166_at R, R.hu, mul_comm (A.hot _ _ _ _)]
theorem refC_at (b : Fin 3) (H : Fin 20) (n : Fin 768) : refC V0 (ix3 b H n) = A.C b H n := by
  rw [← C_eq b H n]
  refine (out_c (V0 (Proc.devRef .tc main_arg7)) (res_main_v156 V0) (res_main_v166 V0) b H n).trans ?_
  simp only [v156_at R, v166_at R, R.hcnt]

end Cert.ReferenceIdeal.Hand

end
-- ==== Proof.lean ====
/- The kernel runs and leaves its arguments as they are, so does its ideal form, so does the reference; the ideal form
   is the kernel with three constants read exactly; and over the extended reals the kernel's three results are the
   reference's. -/
module

public import proofs.«01_k».proof.Defs
public import proofs.«01_k».proof.Proof.KernelFrame
public import proofs.«01_k».proof.Proof.KernelIdealFrame
public import proofs.«01_k».proof.Proof.ArrPost
public import proofs.«01_k».proof.Proof.PreOk
public import proofs.«01_k».proof.Proof.RefExit
public import proofs.«01_k».proof.Proof.RefOut
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.ReferenceIdeal.Run
public import Idealize.ShloMosaic.Adequacy
public import Idealize.ShloMosaic.Init

@[expose] public section

noncomputable section

namespace Cert.Proof

open Idealize.ShloMosaic Idealize.ShloMosaic.TcCoe Idealize.SL.Sem

/-- The ideal form is the kernel with three constants read exactly. -/
theorem preserves : Cert.preserves_Kernel_KernelIdeal :=
  ⟨IdealRules.named_const.statement Cert.KernelIdeal.κ "inv_scale" .f32 0x413504F3#32 ((134217728 / 11863283 : ℝ) : EReal) rfl,
    IdealRules.named_const.statement Cert.KernelIdeal.κ "masked" .f32 0xF1800000#32 ⊥ rfl,
    IdealRules.named_const.statement Cert.KernelIdeal.κ "log2e" .f32 0x3FB8AA3B#32 (((Real.log 2)⁻¹ : ℝ) : EReal) rfl⟩

section
open Cert.ReferenceIdeal.Hand Cert.ReferenceIdeal.Value Cert.KernelIdeal.ValRun Idealize.ShloMosaic.Pointwise

variable (m : (ℓ : Loc Cert.KernelIdeal.nD Cert.KernelIdeal.τ Cert.KernelIdeal.sig) → Buf (Elt Ideal) ℓ)
  (V0 : Valuation Cert.ReferenceIdeal.τ Cert.ReferenceIdeal.sig (Elt Ideal)) (c : Dev Cert.KernelIdeal.nD)
  (R : Reads V0 (kin m c))
include R

/-- The kernel's outputs are the reference's. -/
theorem out_eq (hA : (kin m c).Ok) (r) (h : Idealize.ShloMosaic.Pipeline.RDat.FramePost (Cert.KernelIdeal.cfgs 0) (rdats m) (Cert.KernelIdeal.FrameRun.V m) r) :
    r.2.mem ((c.tc : Thread Cert.KernelIdeal.nD Cert.KernelIdeal.τ).loc Cert.KernelIdeal.main_v3_0) = refO V0 := by
  funext (i : (⟨3, ![3, 512, 2560]⟩ : Shape).Idx)
  have h2 : (i 2).val < 2560 := (i 2).isLt
  obtain ⟨H, d, e⟩ : ∃ (H : Fin 20) (d : Fin 128), i = ix3 (i 0) (i 1) ⟨128 * H.val + d.val, by omega⟩ := by
    refine ⟨⟨(i 2).val / 128, by omega⟩, ⟨(i 2).val % 128, by omega⟩, ?_⟩
    funext a
    refine Fin.ext ?_
    match a with
    | ⟨0, _⟩ => rfl
    | ⟨1, _⟩ => rfl
    | ⟨2, _⟩ => exact (Nat.div_add_mod _ 128).symm
  rw [e]
  exact (res_0 m r h c (i 0) H (i 1) d).trans (refO_at R hA (i 0) H (i 1) d).symm

/-- The kernel's value sums are the reference's. -/
theorem sums_eq (hA : (kin m c).Ok) (r) (h : Idealize.ShloMosaic.Pipeline.RDat.FramePost (Cert.KernelIdeal.cfgs 0) (rdats m) (Cert.KernelIdeal.FrameRun.V m) r) :
    r.2.mem ((c.tc : Thread Cert.KernelIdeal.nD Cert.KernelIdeal.τ).loc Cert.KernelIdeal.main_v3_1) = refU V0 := by
  funext (i : (⟨4, ![3, 20, 768, 128]⟩ : Shape).Idx)
  have e : i = ix4 (i 0) (i 1) (i 2) (i 3) := by
    funext a
    refine Fin.ext ?_
    match a with
    | ⟨0, _⟩ => rfl
    | ⟨1, _⟩ => rfl
    | ⟨2, _⟩ => rfl
    | ⟨3, _⟩ => rfl
  rw [e]
  exact (res_1 m r h c (i 0) (i 1) (i 2) (i 3)).trans (refU_at R hA (i 0) (i 1) (i 2) (i 3)).symm

/-- The kernel's counts are the reference's. -/
theorem counts_eq (r) (h : Idealize.ShloMosaic.Pipeline.RDat.FramePost (Cert.KernelIdeal.cfgs 0) (rdats m) (Cert.KernelIdeal.FrameRun.V m) r) :
    r.2.mem ((c.tc : Thread Cert.KernelIdeal.nD Cert.KernelIdeal.τ).loc Cert.KernelIdeal.main_v3_2) = refC V0 := by
  funext (i : (⟨3, ![3, 20, 768]⟩ : Shape).Idx)
  have e : i = ix3 (i 0) (i 1) (i 2) := by
    funext a
    refine Fin.ext ?_
    match a with
    | ⟨0, _⟩ => rfl
    | ⟨1, _⟩ => rfl
    | ⟨2, _⟩ => rfl
  rw [e]
  exact (res_2 m r h c (i 0) (i 1) (i 2)).trans (refC_at R (i 0) (i 1) (i 2)).symm

end

open Cert.ReferenceIdeal.Hand Cert.ReferenceIdeal.Value Cert.KernelIdeal.ValRun in
/-- Over the extended reals the kernel's three results are the reference's. -/
theorem algebraic : Cert.algebraic_KernelIdeal_ReferenceIdeal_pre_scales_codes_counts (hKernelIdeal := Cert.KernelIdeal.Gen.facts)
    (hReferenceIdeal := Cert.ReferenceIdeal.Gen.facts) (hPre_scales_codes_counts := Cert.Pre_scales_codes_counts.facts) := by
  intro m g m' g' hP hargs
  have hA : ∀ c, (kin m c).Ok := fun c => Cert.Pre_scales_codes_counts.ok m hP c
  have R : ∀ c : Dev Cert.KernelIdeal.nD, Reads (exitV m' c) (kin m c) := fun c => by
    obtain ⟨h0, h1, h2, h3, h4, h5, h6, h7⟩ := hargs c
    exact reads m' c (kin m c) (fun b s H d => congrFun h0 _) (fun b j H => congrFun h1 _) (fun b s H => congrFun h2 _)
      (fun H n d => congrFun h3 _) (fun b s H d => congrFun h4 _) (fun b j H => congrFun h5 _) (fun b H n d => congrFun h6 _)
      (fun b H n => congrFun h7 _)
  refine ⟨fun c => refO (exitV m' c), fun c => refU (exitV m' c), fun c => refC (exitV m' c), ?_, ?_⟩
  · refine (θ_run Cert.KernelIdeal.defs _ _).mono (fun r h c => ?_)
      (θ_run_and (Cert.KernelIdeal.FrameRun.unchanged m g) (run_main m g fun c t => ok4 m c t (hA c)))
    exact ⟨out_eq m _ c (R c) (hA c) r h.2, sums_eq m _ c (R c) (hA c) r h.2, counts_eq m _ c (R c) r h.2, h.1 c⟩
  · exact (θ_run Cert.ReferenceIdeal.defs _ _).mono (fun r h c => h c) (Cert.ReferenceIdeal.Value.run m' g')

theorem claim : Cert.Claim := ⟨Cert.Kernel.Gen.facts, Cert.KernelIdeal.Gen.facts, Cert.ReferenceIdeal.Gen.facts,
  Cert.Pre_scales_codes_counts.facts,
  fun m ρ _ => Cert.Kernel.FrameRun.frame m ρ, fun m ρ _ => Cert.KernelIdeal.FrameRun.frame m ρ,
  fun m ρ _ => Cert.KernelIdeal.FrameRun.frame m ρ,
  fun m ρ _ => Cert.ReferenceIdeal.Gen.frame m ρ, fun m ρ _ => Cert.ReferenceIdeal.Gen.frame m ρ, preserves, algebraic⟩

end Cert.Proof

end
